-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scored [hPre_scored : Cert.Pre_scored.Facts] (m : (ℓ : Loc Cert.KernelIdeal.nD Cert.KernelIdeal.τ Cert.KernelIdeal.sig) → Buf (Elt Ideal) ℓ) : Prop :=
  ∀ c : Dev Cert.KernelIdeal.nD,
    (Cert.Pre_scored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scored [hPre_scored : Cert.Pre_scored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scored [hKernelIdeal : Cert.KernelIdeal.Facts] [hPre_scored : Cert.Pre_scored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scored [hReferenceIdeal : Cert.ReferenceIdeal.Facts] [hPre_scored : Cert.Pre_scored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scored [hKernelIdeal : Cert.KernelIdeal.Facts] [hReferenceIdeal : Cert.ReferenceIdeal.Facts] [hPre_scored : Cert.Pre_scored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scored : Cert.Pre_scored.Facts),
    quiescent_Kernel (hKernel := hKernel)
    ∧ quiescent_KernelIdeal (hKernelIdeal := hKernelIdeal)
    ∧ quiescent_KernelIdeal_pre_scored (hKernelIdeal := hKernelIdeal) (hPre_scored := hPre_scored)
    ∧ quiescent_ReferenceIdeal (hReferenceIdeal := hReferenceIdeal)
    ∧ quiescent_ReferenceIdeal_pre_scored (hReferenceIdeal := hReferenceIdeal) (hPre_scored := hPre_scored)
    ∧ preserves_Kernel_KernelIdeal
    ∧ algebraic_KernelIdeal_ReferenceIdeal_pre_scored (hKernelIdeal := hKernelIdeal) (hReferenceIdeal := hReferenceIdeal) (hPre_scored := hPre_scored)
-- ==== Pre_scored.lean ====
abbrev S32x1x512x512 : Shape := ⟨4, ![32, 1, 512, 512]⟩
abbrev S32x262144 : Shape := ⟨2, ![32, 262144]⟩
abbrev S_ : Shape := ⟨0, ![]⟩

class Facts : Prop where
  bcast_S_S32x262144 : S_.BroadcastsInDim S32x262144 (![] : Fin 0 → Fin S32x262144.rank)

variable [Facts]

def fn {F : FTy → Type} [FloatOps F] (main_arg0 : FVec F S32x1x512x512 .f32) (main_arg1 : FVec F S32x262144 .f32) (main_arg2 : FVec F S32x262144 .f32) : IVec S32x262144 1 :=
  let main_cst : FVec F S_ .f32 := constant S_ .f32 0xFF800000#32
  let main_v0 : FVec F S32x262144 .f32 := broadcastInDim S32x262144 ![] bcast_S_S32x262144 main_cst
  let main_v1 : IVec S32x262144 1 := cmpf .ogt main_arg1 main_v0
  let main_cst_0 : FVec F S_ .f32 := constant S_ .f32 0xFF800000#32
  let main_v2 : FVec F S32x262144 .f32 := broadcastInDim S32x262144 ![] bcast_S_S32x262144 main_cst_0
  let main_v3 : IVec S32x262144 1 := cmpf .ogt main_arg2 main_v2
  let main_v4 : IVec S32x262144 1 := andi main_v1 main_v3
  main_v4
-- ==== Kernel.lean ====
abbrev S32x1x512x512 : Shape := ⟨4, ![32, 1, 512, 512]⟩
abbrev S32x262144 : Shape := ⟨2, ![32, 262144]⟩
abbrev S32x512x512 : Shape := ⟨3, ![32, 512, 512]⟩
abbrev S262144 : Shape := ⟨1, ![262144]⟩
abbrev S1x512x512 : Shape := ⟨3, ![1, 512, 512]⟩
abbrev S512x512 : Shape := ⟨2, ![512, 512]⟩
abbrev S1x16x1 : Shape := ⟨3, ![1, 16, 1]⟩
abbrev S16x16 : Shape := ⟨2, ![16, 16]⟩
abbrev S64x512 : Shape := ⟨2, ![64, 512]⟩
abbrev S64x1x512 : Shape := ⟨3, ![64, 1, 512]⟩
abbrev S64x16x512 : Shape := ⟨3, ![64, 16, 512]⟩
abbrev S64x16x16 : Shape := ⟨3, ![64, 16, 16]⟩
abbrev S15x1 : Shape := ⟨2, ![15, 1]⟩
abbrev S1x1 : Shape := ⟨2, ![1, 1]⟩
abbrev S16x1 : Shape := ⟨2, ![16, 1]⟩
abbrev S16x15 : Shape := ⟨2, ![16, 15]⟩
abbrev S1x16x16 : Shape := ⟨3, ![1, 16, 16]⟩
abbrev S1 : Shape := ⟨1, ![1]⟩
abbrev S1x1x1 : Shape := ⟨3, ![1, 1, 1]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩

abbrev nBuf : Space → Nat
  | .hbm => 27
  | .vmem => 8
  | .smem => 0
  | _ => 0

abbrev bufTy : (tb : Table) → Fin (tcTables nBuf tb) → BufTy
  | .hbm, ⟨0, _⟩ => ⟨S32x1x512x512, .f32⟩
  | .hbm, ⟨1, _⟩ => ⟨S32x262144, .f32⟩
  | .hbm, ⟨2, _⟩ => ⟨S32x262144, .f32⟩
  | .hbm, ⟨3, _⟩ => ⟨S32x512x512, .f32⟩
  | .hbm, ⟨4, _⟩ => ⟨S32x262144, .f32⟩
  | .hbm, ⟨5, _⟩ => ⟨S262144, .i32⟩
  | .hbm, ⟨6, _⟩ => ⟨S32x262144, .i32⟩
  | .hbm, ⟨7, _⟩ => ⟨S32x262144, .f32⟩
  | .hbm, ⟨8, _⟩ => ⟨S32x262144, .i32⟩
  | .hbm, ⟨9, _⟩ => ⟨S262144, .i32⟩
  | .hbm, ⟨10, _⟩ => ⟨S32x262144, .i32⟩
  | .hbm, ⟨11, _⟩ => ⟨S32x262144, .i32⟩
  | .hbm, ⟨12, _⟩ => ⟨S32x262144, .i32⟩
  | .hbm, ⟨13, _⟩ => ⟨S32x262144, .f32⟩
  | .hbm, ⟨14, _⟩ => ⟨S32x512x512, .f32⟩
  | .hbm, ⟨15, _⟩ => ⟨S32x262144, .f32⟩
  | .hbm, ⟨16, _⟩ => ⟨S262144, .i32⟩
  | .hbm, ⟨17, _⟩ => ⟨S32x262144, .i32⟩
  | .hbm, ⟨18, _⟩ => ⟨S32x262144, .f32⟩
  | .hbm, ⟨19, _⟩ => ⟨S32x262144, .i32⟩
  | .hbm, ⟨20, _⟩ => ⟨S262144, .i32⟩
  | .hbm, ⟨21, _⟩ => ⟨S32x262144, .i32⟩
  | .hbm, ⟨22, _⟩ => ⟨S32x262144, .i32⟩
  | .hbm, ⟨23, _⟩ => ⟨S32x262144, .i32⟩
  | .hbm, ⟨24, _⟩ => ⟨S32x262144, .f32⟩
  | .hbm, ⟨25, _⟩ => ⟨S32x512x512, .f32⟩
  | .hbm, ⟨26, _⟩ => ⟨S32x512x512, .i32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .i32⟩
  | .local _ .vmem, ⟨7, _⟩ => ⟨S1x512x512, .i32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2_0 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_call1_v2_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_v1 : Ref sig .tc := ⟨.hbm, 17, rfl⟩
abbrev main_call2_v2_0 : Ref sig .tc := ⟨.hbm, 18, rfl⟩
abbrev main_v7 : Ref sig .tc := ⟨.hbm, 19, rfl⟩
abbrev main_call3_v0 : Ref sig .tc := ⟨.hbm, 20, rfl⟩
abbrev main_call3_v1 : Ref sig .tc := ⟨.hbm, 21, rfl⟩
abbrev main_call3_v2_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c40_i32 : BitVec 32 := 40#32
  let v241 : BitVec 32 := Scalar.addi c0_i32 c40_i32
  let c1_i32 : BitVec 32 := 1#32
  ⟨c0_i32, v241, c1_i32⟩
@[reducible] def k0_t2_loop : Scf.Loop 32 :=
  let c0_i32_62 : BitVec 32 := 0#32
  let c18_i32 : BitVec 32 := 18#32
  let v250 : BitVec 32 := Scalar.addi c0_i32_62 c18_i32
  let c1_i32_63 : BitVec 32 := 1#32
  ⟨c0_i32_62, v250, c1_i32_63⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1x512x512 : Shape := ⟨4, ![32, 1, 512, 512]⟩
abbrev S32x262144 : Shape := ⟨2, ![32, 262144]⟩
abbrev S_ : Shape := ⟨0, ![]⟩
abbrev S256 : Shape := ⟨1, ![256]⟩
abbrev S32x1x262144 : Shape := ⟨3, ![32, 1, 262144]⟩
abbrev S1x256x1 : Shape := ⟨3, ![1, 256, 1]⟩
abbrev S32x256x262144 : Shape := ⟨3, ![32, 256, 262144]⟩
abbrev S32x256 : Shape := ⟨2, ![32, 256]⟩
abbrev S1x256 : Shape := ⟨2, ![1, 256]⟩
abbrev S32x255 : Shape := ⟨2, ![32, 255]⟩
abbrev S32 : Shape := ⟨1, ![32]⟩
abbrev S32x1 : Shape := ⟨2, ![32, 1]⟩
abbrev S32x100 : Shape := ⟨2, ![32, 100]⟩
abbrev S262144 : Shape := ⟨1, ![262144]⟩
abbrev S32x100x1 : Shape := ⟨3, ![32, 100, 1]⟩
abbrev S1x1x262144 : Shape := ⟨3, ![1, 1, 262144]⟩
abbrev S32x100x262144 : Shape := ⟨3, ![32, 100, 262144]⟩
abbrev S32x512x512 : Shape := ⟨3, ![32, 512, 512]⟩

abbrev nBuf : Space → Nat
  | .hbm => 241
  | .vmem => 0
  | .smem => 0
  | _ => 0

abbrev hbmTy0_0 (i : Nat) : BufTy := match i % 128 with
  | 0 => ⟨S32x1x512x512, .f32⟩
  | 1 => ⟨S32x262144, .f32⟩
  | 2 => ⟨S32x262144, .f32⟩
  | 3 => ⟨S32x262144, .f32⟩
  | 4 => ⟨S_, .f32⟩
  | 5 => ⟨S32x262144, .f32⟩
  | 6 => ⟨S32x262144, .f32⟩
  | 7 => ⟨S32x262144, .f32⟩
  | 8 => ⟨S_, .f32⟩
  | 9 => ⟨S_, .f32⟩
  | 10 => ⟨S_, .f32⟩
  | 11 => ⟨S32x262144, .f32⟩
  | 12 => ⟨S32x262144, .f32⟩
  | 13 => ⟨S_, .f32⟩
  | 14 => ⟨S32x262144, .f32⟩
  | 15 => ⟨S32x262144, .f32⟩
  | 16 => ⟨S256, .f32⟩
  | 17 => ⟨S32x1x262144, .f32⟩
  | 18 => ⟨S1x256x1, .f32⟩
  | 19 => ⟨S32x256x262144, .f32⟩
  | 20 => ⟨S32x256x262144, .f32⟩
  | 21 => ⟨S32x256x262144, .i1⟩
  | 22 => ⟨S32x256x262144, .f32⟩
  | 23 => ⟨S_, .f32⟩
  | 24 => ⟨S32x256, .f32⟩
  | 25 => ⟨S256, .f32⟩
  | 26 => ⟨S_, .f32⟩
  | 27 => ⟨S_, .f32⟩
  | 28 => ⟨S32x256, .f32⟩
  | 29 => ⟨S32x256, .f32⟩
  | 30 => ⟨S_, .f32⟩
  | 31 => ⟨S_, .f32⟩
  | 32 => ⟨S32x256, .f32⟩
  | 33 => ⟨S32x256, .f32⟩
  | 34 => ⟨S1x256, .f32⟩
  | 35 => ⟨S32x256, .f32⟩
  | 36 => ⟨S32x256, .f32⟩
  | 37 => ⟨S_, .f32⟩
  | 38 => ⟨S_, .f32⟩
  | 39 => ⟨S32x256, .f32⟩
  | 40 => ⟨S_, .f32⟩
  | 41 => ⟨S32x256, .f32⟩
  | 42 => ⟨S32x256, .f32⟩
  | 43 => ⟨S32x256, .f32⟩
  | 44 => ⟨S1x256, .f32⟩
  | 45 => ⟨S32x256, .f32⟩
  | 46 => ⟨S32x256, .f32⟩
  | 47 => ⟨S32x256, .f32⟩
  | 48 => ⟨S_, .f32⟩
  | 49 => ⟨S_, .f32⟩
  | 50 => ⟨S32x256, .f32⟩
  | 51 => ⟨S32x256, .f32⟩
  | 52 => ⟨S_, .f32⟩
  | 53 => ⟨S_, .f32⟩
  | 54 => ⟨S32x256, .f32⟩
  | 55 => ⟨S_, .f32⟩
  | 56 => ⟨S32x256, .f32⟩
  | 57 => ⟨S32x256, .f32⟩
  | 58 => ⟨S32x256, .f32⟩
  | 59 => ⟨S32x256, .f32⟩
  | 60 => ⟨S32x255, .f32⟩
  | 61 => ⟨S32x255, .f32⟩
  | 62 => ⟨S32x255, .f32⟩
  | 63 => ⟨S32x255, .f32⟩
  | 64 => ⟨S32x255, .f32⟩
  | 65 => ⟨S32x255, .f32⟩
  | 66 => ⟨S32x255, .f32⟩
  | 67 => ⟨S32x255, .f32⟩
  | 68 => ⟨S32x255, .i32⟩
  | 69 => ⟨S_, .f32⟩
  | 70 => ⟨S_, .i32⟩
  | 71 => ⟨S32, .f32⟩
  | 72 => ⟨S32, .i32⟩
  | 73 => ⟨S32, .f32⟩
  | 74 => ⟨S_, .f32⟩
  | 75 => ⟨S_, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32x1, .f32⟩
  | 85 => ⟨S32x262144, .f32⟩
  | 86 => ⟨S32x262144, .f32⟩
  | 87 => ⟨S32, .f32⟩
  | 88 => ⟨S_, .i32⟩
  | 89 => ⟨S_, .i32⟩
  | 90 => ⟨S32x262144, .f32⟩
  | 91 => ⟨S_, .i32⟩
  | 92 => ⟨S_, .i32⟩
  | 93 => ⟨S32, .f32⟩
  | 94 => ⟨S_, .i32⟩
  | 95 => ⟨S_, .i1⟩
  | 96 => ⟨S_, .i32⟩
  | 97 => ⟨S_, .i32⟩
  | 98 => ⟨S32x1, .f32⟩
  | 99 => ⟨S32x262144, .f32⟩
  | 100 => ⟨S32x262144, .i1⟩
  | 101 => ⟨S32x262144, .f32⟩
  | 102 => ⟨S_, .f32⟩
  | 103 => ⟨S32, .f32⟩
  | 104 => ⟨S_, .f32⟩
  | 105 => ⟨S32, .f32⟩
  | 106 => ⟨S32, .f32⟩
  | 107 => ⟨S32x262144, .i1⟩
  | 108 => ⟨S32x262144, .f32⟩
  | 109 => ⟨S_, .f32⟩
  | 110 => ⟨S32, .f32⟩
  | 111 => ⟨S_, .f32⟩
  | 112 => ⟨S32, .f32⟩
  | 113 => ⟨S32, .f32⟩
  | 114 => ⟨S_, .f32⟩
  | 115 => ⟨S_, .f32⟩
  | 116 => ⟨S32x262144, .f32⟩
  | 117 => ⟨S32x262144, .f32⟩
  | 118 => ⟨S_, .f32⟩
  | 119 => ⟨S32, .f32⟩
  | 120 => ⟨S32, .f32⟩
  | 121 => ⟨S_, .f32⟩
  | 122 => ⟨S_, .f32⟩
  | 123 => ⟨S32x262144, .f32⟩
  | 124 => ⟨S32x262144, .f32⟩
  | 125 => ⟨S_, .f32⟩
  | 126 => ⟨S32, .f32⟩
  | 127 => ⟨S32, .f32⟩
  | _ => ⟨S32x1x512x512, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S_, .f32⟩
  | 5 => ⟨S32, .f32⟩
  | 6 => ⟨S32, .f32⟩
  | 7 => ⟨S32, .f32⟩
  | 8 => ⟨S32, .f32⟩
  | 9 => ⟨S32, .f32⟩
  | 10 => ⟨S32, .f32⟩
  | 11 => ⟨S_, .f32⟩
  | 12 => ⟨S32, .f32⟩
  | 13 => ⟨S32, .i1⟩
  | 14 => ⟨S_, .f32⟩
  | 15 => ⟨S_, .f32⟩
  | 16 => ⟨S32, .f32⟩
  | 17 => ⟨S32, .f32⟩
  | 18 => ⟨S32, .f32⟩
  | 19 => ⟨S32, .f32⟩
  | 20 => ⟨S32, .f32⟩
  | 21 => ⟨S_, .f32⟩
  | 22 => ⟨S32, .f32⟩
  | 23 => ⟨S32, .i1⟩
  | 24 => ⟨S32, .f32⟩
  | 25 => ⟨S_, .i32⟩
  | 26 => ⟨S_, .i32⟩
  | 27 => ⟨S32, .f32⟩
  | 28 => ⟨S32x1, .f32⟩
  | 29 => ⟨S32x262144, .f32⟩
  | 30 => ⟨S32x262144, .i1⟩
  | 31 => ⟨S_, .f32⟩
  | 32 => ⟨S_, .f32⟩
  | 33 => ⟨S32x262144, .f32⟩
  | 34 => ⟨S32x262144, .f32⟩
  | 35 => ⟨S32x100, .f32⟩
  | 36 => ⟨S32x100, .i32⟩
  | 37 => ⟨S262144, .i32⟩
  | 38 => ⟨S32x100x1, .i32⟩
  | 39 => ⟨S1x1x262144, .i32⟩
  | 40 => ⟨S32x100x262144, .i32⟩
  | 41 => ⟨S32x100x262144, .i32⟩
  | 42 => ⟨S32x100x262144, .i1⟩
  | 43 => ⟨S_, .f32⟩
  | 44 => ⟨S32x100, .f32⟩
  | 45 => ⟨S32x100, .i1⟩
  | 46 => ⟨S32x100x1, .i1⟩
  | 47 => ⟨S32x100x262144, .i1⟩
  | 48 => ⟨S32x100x262144, .i1⟩
  | 49 => ⟨S_, .i1⟩
  | 50 => ⟨S32x262144, .i1⟩
  | 51 => ⟨S32x262144, .f32⟩
  | 52 => ⟨S32x512x512, .f32⟩
  | 53 => ⟨S_, .f32⟩
  | 54 => ⟨S_, .f32⟩
  | 55 => ⟨S32x512x512, .f32⟩
  | 56 => ⟨S32x262144, .i1⟩
  | 57 => ⟨S_, .f32⟩
  | 58 => ⟨S_, .f32⟩
  | 59 => ⟨S32x262144, .f32⟩
  | 60 => ⟨S32x262144, .f32⟩
  | 61 => ⟨S32x100, .f32⟩
  | 62 => ⟨S32x100, .i32⟩
  | 63 => ⟨S262144, .i32⟩
  | 64 => ⟨S32x100x1, .i32⟩
  | 65 => ⟨S1x1x262144, .i32⟩
  | 66 => ⟨S32x100x262144, .i32⟩
  | 67 => ⟨S32x100x262144, .i32⟩
  | 68 => ⟨S32x100x262144, .i1⟩
  | 69 => ⟨S_, .f32⟩
  | 70 => ⟨S32x100, .f32⟩
  | 71 => ⟨S32x100, .i1⟩
  | 72 => ⟨S32x100x1, .i1⟩
  | 73 => ⟨S32x100x262144, .i1⟩
  | 74 => ⟨S32x100x262144, .i1⟩
  | 75 => ⟨S_, .i1⟩
  | 76 => ⟨S32x262144, .i1⟩
  | 77 => ⟨S32x262144, .f32⟩
  | 78 => ⟨S32x512x512, .f32⟩
  | 79 => ⟨S_, .f32⟩
  | 80 => ⟨S_, .f32⟩
  | 81 => ⟨S32x512x512, .f32⟩
  | 82 => ⟨S32x512x512, .f32⟩
  | 83 => ⟨S_, .f32⟩
  | 84 => ⟨S32x512x512, .f32⟩
  | 85 => ⟨S32x512x512, .i1⟩
  | 86 => ⟨S_, .f32⟩
  | 87 => ⟨S_, .f32⟩
  | 88 => ⟨S32x512x512, .f32⟩
  | 89 => ⟨S32x512x512, .f32⟩
  | 90 => ⟨S_, .f32⟩
  | 91 => ⟨S32x512x512, .f32⟩
  | 92 => ⟨S32x512x512, .i1⟩
  | 93 => ⟨S_, .f32⟩
  | 94 => ⟨S_, .f32⟩
  | 95 => ⟨S32x512x512, .f32⟩
  | 96 => ⟨S32x512x512, .f32⟩
  | 97 => ⟨S_, .i32⟩
  | 98 => ⟨S32x512x512, .i32⟩
  | 99 => ⟨S_, .f32⟩
  | 100 => ⟨S32x512x512, .f32⟩
  | 101 => ⟨S32x512x512, .i1⟩
  | 102 => ⟨S_, .i32⟩
  | 103 => ⟨S_, .i32⟩
  | 104 => ⟨S32x512x512, .i32⟩
  | 105 => ⟨S32x512x512, .i32⟩
  | 106 => ⟨S_, .f32⟩
  | 107 => ⟨S32x512x512, .f32⟩
  | 108 => ⟨S32x512x512, .i1⟩
  | 109 => ⟨S_, .i32⟩
  | 110 => ⟨S_, .i32⟩
  | 111 => ⟨S32x512x512, .i32⟩
  | 112 => ⟨S32x512x512, .i32⟩
  | _ => ⟨S32x1x512x512, .f32⟩

abbrev hbmTy (i : Nat) : BufTy := match i / 128 with
  | 0 => hbmTy0_0 i
  | 1 => hbmTy0_1 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_call1_call0_cst : Ref sig .tc := ⟨.hbm, 26, rfl⟩
abbrev main_call1_call0_v0 : Ref sig .tc := ⟨.hbm, 27, rfl⟩
abbrev main_v14 : Ref sig .tc := ⟨.hbm, 28, rfl⟩
abbrev main_v15 : Ref sig .tc := ⟨.hbm, 29, rfl⟩
abbrev main_call2_call0_cst : Ref sig .tc := ⟨.hbm, 30, rfl⟩
abbrev main_call2_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call3_call0_cst : Ref sig .tc := ⟨.hbm, 37, rfl⟩
abbrev main_call3_call0_v0 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call4_call0_cst : Ref sig .tc := ⟨.hbm, 48, rfl⟩
abbrev main_call4_call0_v0 : Ref sig .tc := ⟨.hbm, 49, rfl⟩
abbrev main_v29 : Ref sig .tc := ⟨.hbm, 50, rfl⟩
abbrev main_v30 : Ref sig .tc := ⟨.hbm, 51, rfl⟩
abbrev main_call5_call0_cst : Ref sig .tc := ⟨.hbm, 52, rfl⟩
abbrev main_call5_call0_v0 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call6_v0 : Ref sig .tc := ⟨.hbm, 68, rfl⟩
abbrev main_call6_cst : Ref sig .tc := ⟨.hbm, 69, rfl⟩
abbrev main_call6_c : Ref sig .tc := ⟨.hbm, 70, rfl⟩
abbrev main_call6_v1_0 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_cst_6 : Ref sig .tc := ⟨.hbm, 75, rfl⟩
abbrev main_call7_v0 : Ref sig .tc := ⟨.hbm, 76, rfl⟩
abbrev main_call7_v1 : Ref sig .tc := ⟨.hbm, 77, rfl⟩
abbrev main_call7_v2 : Ref sig .tc := ⟨.hbm, 78, rfl⟩
abbrev main_call7_v3 : Ref sig .tc := ⟨.hbm, 79, rfl⟩
abbrev main_call7_v4 : Ref sig .tc := ⟨.hbm, 80, rfl⟩
abbrev main_v46 : Ref sig .tc := ⟨.hbm, 81, rfl⟩
abbrev main_cst_7 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c : Ref sig .tc := ⟨.hbm, 88, rfl⟩
abbrev main_c_8 : Ref sig .tc := ⟨.hbm, 89, rfl⟩
abbrev main_v52_0 : Ref sig .tc := ⟨.hbm, 90, rfl⟩
abbrev main_v52_1 : Ref sig .tc := ⟨.hbm, 91, rfl⟩
abbrev main_v52_2 : Ref sig .tc := ⟨.hbm, 92, rfl⟩
abbrev main_v52_3 : Ref sig .tc := ⟨.hbm, 93, rfl⟩
abbrev main_while0c_c_31 : Ref sig .tc := ⟨.hbm, 94, rfl⟩
abbrev main_while0c_v106 : Ref sig .tc := ⟨.hbm, 95, rfl⟩
abbrev main_while0b_c_31 : Ref sig .tc := ⟨.hbm, 96, rfl⟩
abbrev main_while0b_v106 : Ref sig .tc := ⟨.hbm, 97, rfl⟩
abbrev main_while0b_v107 : Ref sig .tc := ⟨.hbm, 98, rfl⟩
abbrev main_while0b_v108 : Ref sig .tc := ⟨.hbm, 99, rfl⟩
abbrev main_while0b_v109 : Ref sig .tc := ⟨.hbm, 100, rfl⟩
abbrev main_while0b_v110 : Ref sig .tc := ⟨.hbm, 101, rfl⟩
abbrev main_while0b_cst_32 : Ref sig .tc := ⟨.hbm, 102, rfl⟩
abbrev main_while0b_v111 : Ref sig .tc := ⟨.hbm, 103, rfl⟩
abbrev main_while0b_cst_33 : Ref sig .tc := ⟨.hbm, 104, rfl⟩
abbrev main_while0b_v112 : Ref sig .tc := ⟨.hbm, 105, rfl⟩
abbrev main_while0b_v113 : Ref sig .tc := ⟨.hbm, 106, rfl⟩
abbrev main_while0b_v114 : Ref sig .tc := ⟨.hbm, 107, rfl⟩
abbrev main_while0b_v115 : Ref sig .tc := ⟨.hbm, 108, rfl⟩
abbrev main_while0b_cst_34 : Ref sig .tc := ⟨.hbm, 109, rfl⟩
abbrev main_while0b_v116 : Ref sig .tc := ⟨.hbm, 110, rfl⟩
abbrev main_while0b_cst_35 : Ref sig .tc := ⟨.hbm, 111, rfl⟩
abbrev main_while0b_v117 : Ref sig .tc := ⟨.hbm, 112, rfl⟩
abbrev main_while0b_v118 : Ref sig .tc := ⟨.hbm, 113, rfl⟩
abbrev main_while0b_cst_36 : Ref sig .tc := ⟨.hbm, 114, rfl⟩
abbrev main_while0b_call8_v0 : Ref sig .tc := ⟨.hbm, 115, rfl⟩
abbrev main_while0b_call8_v1 : Ref sig .tc := ⟨.hbm, 116, rfl⟩
abbrev main_while0b_v119 : Ref sig .tc := ⟨.hbm, 117, rfl⟩
abbrev main_while0b_cst_37 : Ref sig .tc := ⟨.hbm, 118, rfl⟩
abbrev main_while0b_v120 : Ref sig .tc := ⟨.hbm, 119, rfl⟩
abbrev main_while0b_v121 : Ref sig .tc := ⟨.hbm, 120, rfl⟩
abbrev main_while0b_cst_38 : Ref sig .tc := ⟨.hbm, 121, rfl⟩
abbrev main_while0b_call9_v0 : Ref sig .tc := ⟨.hbm, 122, rfl⟩
abbrev main_while0b_call9_v1 : Ref sig .tc := ⟨.hbm, 123, rfl⟩
abbrev main_while0b_v122 : Ref sig .tc := ⟨.hbm, 124, rfl⟩
abbrev main_while0b_cst_39 : Ref sig .tc := ⟨.hbm, 125, rfl⟩
abbrev main_while0b_v123 : Ref sig .tc := ⟨.hbm, 126, rfl⟩
abbrev main_while0b_v124 : Ref sig .tc := ⟨.hbm, 127, rfl⟩
abbrev main_while0b_cst_40 : Ref sig .tc := ⟨.hbm, 128, rfl⟩
abbrev main_while0b_v125 : Ref sig .tc := ⟨.hbm, 129, rfl⟩
abbrev main_while0b_v126 : Ref sig .tc := ⟨.hbm, 130, rfl⟩
abbrev main_while0b_v127 : Ref sig .tc := ⟨.hbm, 131, rfl⟩
abbrev main_while0b_cst_41 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_cst_42 : Ref sig .tc := ⟨.hbm, 139, rfl⟩
abbrev main_while0b_v134 : Ref sig .tc := ⟨.hbm, 140, rfl⟩
abbrev main_while0b_v135 : Ref sig .tc := ⟨.hbm, 141, rfl⟩
abbrev main_while0b_cst_43 : Ref sig .tc := ⟨.hbm, 142, rfl⟩
abbrev main_while0b_call10_v0 : Ref sig .tc := ⟨.hbm, 143, rfl⟩
abbrev main_while0b_call10_v1 : Ref sig .tc := ⟨.hbm, 144, rfl⟩
abbrev main_while0b_v136 : Ref sig .tc := ⟨.hbm, 145, rfl⟩
abbrev main_while0b_v137 : Ref sig .tc := ⟨.hbm, 146, rfl⟩
abbrev main_while0b_v138 : Ref sig .tc := ⟨.hbm, 147, rfl⟩
abbrev main_while0b_v139 : Ref sig .tc := ⟨.hbm, 148, rfl⟩
abbrev main_while0b_cst_44 : Ref sig .tc := ⟨.hbm, 149, rfl⟩
abbrev main_while0b_v140 : Ref sig .tc := ⟨.hbm, 150, rfl⟩
abbrev main_while0b_v141 : Ref sig .tc := ⟨.hbm, 151, rfl⟩
abbrev main_while0b_v142 : Ref sig .tc := ⟨.hbm, 152, rfl⟩
abbrev main_while0b_c_45 : Ref sig .tc := ⟨.hbm, 153, rfl⟩
abbrev main_while0b_v143 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩
abbrev main_cst_9 : Ref sig .tc := ⟨.hbm, 159, rfl⟩
abbrev main_call12_v0 : Ref sig .tc := ⟨.hbm, 160, rfl⟩
abbrev main_call12_v1 : Ref sig .tc := ⟨.hbm, 161, rfl⟩
abbrev main_v57 : Ref sig .tc := ⟨.hbm, 162, rfl⟩
abbrev main_values : Ref sig .tc := ⟨.hbm, 163, rfl⟩
abbrev main_indices : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_cst_10 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_c_11 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_cst_12 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_cst_13 : Ref sig .tc := ⟨.hbm, 185, rfl⟩
abbrev main_call13_v0 : Ref sig .tc := ⟨.hbm, 186, rfl⟩
abbrev main_call13_v1 : Ref sig .tc := ⟨.hbm, 187, rfl⟩
abbrev main_v75 : Ref sig .tc := ⟨.hbm, 188, rfl⟩
abbrev main_values_14 : Ref sig .tc := ⟨.hbm, 189, rfl⟩
abbrev main_indices_15 : Ref sig .tc := ⟨.hbm, 190, rfl⟩
abbrev main_v76 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩
abbrev main_v81 : Ref sig .tc := ⟨.hbm, 196, rfl⟩
abbrev main_cst_16 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_c_17 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_cst_18 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_cst_19 : Ref sig .tc := ⟨.hbm, 211, rfl⟩
abbrev main_v93 : Ref sig .tc := ⟨.hbm, 212, rfl⟩
abbrev main_v94 : Ref sig .tc := ⟨.hbm, 213, rfl⟩
abbrev main_cst_20 : Ref sig .tc := ⟨.hbm, 214, rfl⟩
abbrev main_call14_v0 : Ref sig .tc := ⟨.hbm, 215, rfl⟩
abbrev main_call14_v1 : Ref sig .tc := ⟨.hbm, 216, rfl⟩
abbrev main_v95 : Ref sig .tc := ⟨.hbm, 217, rfl⟩
abbrev main_cst_21 : Ref sig .tc := ⟨.hbm, 218, rfl⟩
abbrev main_v96 : Ref sig .tc := ⟨.hbm, 219, rfl⟩
abbrev main_v97 : Ref sig .tc := ⟨.hbm, 220, rfl⟩
abbrev main_cst_22 : Ref sig .tc := ⟨.hbm, 221, rfl⟩
abbrev main_call15_v0 : Ref sig .tc := ⟨.hbm, 222, rfl⟩
abbrev main_call15_v1 : Ref sig .tc := ⟨.hbm, 223, rfl⟩
abbrev main_v98 : Ref sig .tc := ⟨.hbm, 224, rfl⟩
abbrev main_c_23 : Ref sig .tc := ⟨.hbm, 225, rfl⟩
abbrev main_v99 : Ref sig .tc := ⟨.hbm, 226, rfl⟩
abbrev main_cst_24 : Ref sig .tc := ⟨.hbm, 227, rfl⟩
abbrev main_v100 : Ref sig .tc := ⟨.hbm, 228, rfl⟩
abbrev main_v101 : Ref sig .tc := ⟨.hbm, 229, rfl⟩
abbrev main_c_25 : Ref sig .tc := ⟨.hbm, 230, rfl⟩
abbrev main_call16_v0 : Ref sig .tc := ⟨.hbm, 231, rfl⟩
abbrev main_call16_v1 : Ref sig .tc := ⟨.hbm, 232, rfl⟩
abbrev main_v102 : Ref sig .tc := ⟨.hbm, 233, rfl⟩
abbrev main_cst_26 : Ref sig .tc := ⟨.hbm, 234, rfl⟩
abbrev main_v103 : Ref sig .tc := ⟨.hbm, 235, rfl⟩
abbrev main_v104 : Ref sig .tc := ⟨.hbm, 236, rfl⟩
abbrev main_c_27 : Ref sig .tc := ⟨.hbm, 237, rfl⟩
abbrev main_call17_v0 : Ref sig .tc := ⟨.hbm, 238, rfl⟩
abbrev main_call17_v1 : Ref sig .tc := ⟨.hbm, 239, rfl⟩
abbrev main_v105 : Ref sig .tc := ⟨.hbm, 240, rfl⟩

abbrev nD : Nat := 1
abbrev τ : Topo := Topo.v7x

variable {F : FTy → Type} [FloatOps F]

abbrev main_while0_count : Scf.Loop 32 := ⟨0#32, 40#32, 1#32⟩
-- ==== Proof.KernelFrame.lean ====
/- The memory safety of `Kernel`, and what its launch leaves in the result array, block by block: the set-up of the
   launch as the generated modules of kernels without a loop have it, over the loop of the Li threshold read as a
   pure one. -/
module

public import proofs.«01_k».proof.Proof.Gen.Kernel.Frame
public import proofs.«01_k».proof.Proof.Gen.Kernel.Loops
public import proofs.«01_k».proof.Proof.Gen.Kernel.Skeleton
public import Idealize.ShloMosaic.Lib.Claim
public import Idealize.ShloMosaic.Lib.Pipeline.Value

@[expose] public section

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The Li loop's region is pure -/

/-- The part of the body that holds the two loops, with the trip of the Li loop written as the pure function that it is. -/
noncomputable def part7_pure (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole) (v3 : FVec F S512x512 .f32) (v5 : FVec F S512x512 .f32) (v12 : FVec F S512x512 .f32) (v157 : FVec F S16x16 .f32) (v163 : FVec F S16x16 .f32) (v177 : FVec F S16x16 .f32) (v231 : F .f32) (v239 : F .f32) :
    Prog (TpuEff nD τ sig (Elt F) Λ₀ .tc) (Σ' (v273 : FVec F S512x512 .f32) (v280 : FVec F S512x512 .f32) (v281 : FVec F S512x1 .f32), FVec F S512x512 .f32) := do
  let v242 : F .f32 ← Scf.Loop.for k0_t1_loop k0_t1_ok (k0_pay33 v231 v239) (fun _ acc => pure (k0_pay2 v157 v163 v177 v239 acc))
  have cst_58 : F .f32 := Scalar.ofBits .f32 0xBF800000#32
  have cst_59 : F .f32 := Scalar.ofBits .f32 0x487FFFC0#32
  have cst_60 : F .f32 := Scalar.ofBits .f32 0xBF800000#32
  have cst_61 : F .f32 := Scalar.ofBits .f32 0x487FFFC0#32
  let (v251_0, v251_1, v251_2, v251_3) ← Scf.Loop.for k0_t2_loop k0_t2_ok (cst_58, cst_59, cst_60, cst_61) (k0_t2_body i arg1 harg1 arg2 harg2 arg3 harg3 arg4 harg4 v3 v5 v12 v157 v163 v177 v231 v239 v242)
  pure ⟨k0_pay43 v3 v12 v239 v242 v251_1, k0_pay44 v5 v12 v239 v242 v251_3, k0_pay45 (F := F), k0_pay46 v5 v12 v239 v242 v251_3⟩

set_option maxRecDepth 65536 in
/-- The printed part is that one. -/
theorem part7_eq : k0_part7 (F := F) = part7_pure (F := F) := rfl

variable (m : (ℓ : Loc nD τ sig) → Buf (Elt F) ℓ) (ρ : Dev nD → PrngReg)

/-! ## The staging memrefs -/

/-- One staging buffer of output window 3, through which its contents are stated (`View.read_writes_of_cover`: the
    choice does not matter). -/
abbrev VO0_3 : View sig .tc .vmem S1x512x512 .i32 := (Memref.whole cc0_stg3_0 : Memref sig .tc .vmem S1x512x512 .i32).view
/-- Each window's current staging memref at point `t`, spelled as the pipeline passes it (`bodyAt0`), and its wholeness. -/
abbrev ms0_0 (t : Fin cfg0.N) : Memref sig .tc .vmem S1x512x512 .f32 := win0_0.stage (cfg0.slots t 0)
/-- It is a whole buffer. -/
abbrev hs0_0 (t : Fin cfg0.N) : (ms0_0 t).IsWhole := hstage0_0 ((cfg0.slots t 0).cast nbuf0_0)
/-- A window's current staging buffer. -/
abbrev ms0_1 (t : Fin cfg0.N) : Memref sig .tc .vmem S1x512x512 .f32 := win0_1.stage (cfg0.slots t 1)
/-- It is a whole buffer. -/
abbrev hs0_1 (t : Fin cfg0.N) : (ms0_1 t).IsWhole := hstage0_1 ((cfg0.slots t 1).cast nbuf0_1)
/-- A window's current staging buffer. -/
abbrev ms0_2 (t : Fin cfg0.N) : Memref sig .tc .vmem S1x512x512 .f32 := win0_2.stage (cfg0.slots t 2)
/-- It is a whole buffer. -/
abbrev hs0_2 (t : Fin cfg0.N) : (ms0_2 t).IsWhole := hstage0_2 ((cfg0.slots t 2).cast nbuf0_2)
/-- A window's current staging buffer. -/
abbrev ms0_3 (t : Fin cfg0.N) : Memref sig .tc .vmem S1x512x512 .i32 := win0_3.stage (cfg0.slots t 3)
/-- It is a whole buffer. -/
abbrev hs0_3 (t : Fin cfg0.N) : (ms0_3 t).IsWhole := hstage0_3 ((cfg0.slots t 3).cast nbuf0_3)

/-! ## The body -/

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) :
    { L3 : List (View.Piece (Elt F) S1x512x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__body i arg1 harg1 arg2 harg2 arg3 harg3 arg4 harg4) K } := by
  refine ⟨?_, fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, part7_eq]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The launch -/

/-- The run's pieces for output 3 tile its block (1 store of `S1x512x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) (y : S1x512x512.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S1x512x512.size (by sl_kernel_rfl) y

/-- What the run leaves in output 3's staging buffer: its pieces read back over junk. -/
def out0_A_3 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) : Vec F S1x512x512 .i32 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S1x512x512 .i32 :=
  out0_A_3 c (grid0.coords t) (ms0_0 t) (hs0_0 t) (ms0_1 t) (hs0_1 t) (ms0_2 t) (hs0_2 t) (ms0_3 t) (hs0_3 t) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Launched

end
-- ==== Proof.KernelIdealFrame.lean ====
/- The memory safety of `KernelIdeal`, and what its launch leaves in the result array, block by block: the set-up of the
   launch as the generated modules of kernels without a loop have it, over the loop of the Li threshold read as a
   pure one. -/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Claim
public import Idealize.ShloMosaic.Lib.Pipeline.Value

@[expose] public section

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The Li loop's region is pure -/

/-- The part of the body that holds the two loops, with the trip of the Li loop written as the pure function that it is. -/
noncomputable def part7_pure (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole) (v3 : FVec F S512x512 .f32) (v5 : FVec F S512x512 .f32) (v12 : FVec F S512x512 .f32) (v157 : FVec F S16x16 .f32) (v163 : FVec F S16x16 .f32) (v177 : FVec F S16x16 .f32) (v231 : F .f32) (v239 : F .f32) :
    Prog (TpuEff nD τ sig (Elt F) Λ₀ .tc) (Σ' (v273 : FVec F S512x512 .f32) (v280 : FVec F S512x512 .f32) (v281 : FVec F S512x1 .f32), FVec F S512x512 .f32) := do
  let v242 : F .f32 ← Scf.Loop.for k0_t1_loop k0_t1_ok (k0_pay33 v231 v239) (fun _ acc => pure (k0_pay2 v157 v163 v177 v239 acc))
  have cst_58 : F .f32 := Scalar.ofBits .f32 0xBF800000#32
  have cst_59 : F .f32 := Scalar.ofBits .f32 0x487FFFC0#32
  have cst_60 : F .f32 := Scalar.ofBits .f32 0xBF800000#32
  have cst_61 : F .f32 := Scalar.ofBits .f32 0x487FFFC0#32
  let (v251_0, v251_1, v251_2, v251_3) ← Scf.Loop.for k0_t2_loop k0_t2_ok (cst_58, cst_59, cst_60, cst_61) (k0_t2_body i arg1 harg1 arg2 harg2 arg3 harg3 arg4 harg4 v3 v5 v12 v157 v163 v177 v231 v239 v242)
  pure ⟨k0_pay43 v3 v12 v239 v242 v251_1, k0_pay44 v5 v12 v239 v242 v251_3, k0_pay45 (F := F), k0_pay46 v5 v12 v239 v242 v251_3⟩

set_option maxRecDepth 65536 in
/-- The printed part is that one. -/
theorem part7_eq : k0_part7 (F := F) = part7_pure (F := F) := rfl

variable (m : (ℓ : Loc nD τ sig) → Buf (Elt F) ℓ) (ρ : Dev nD → PrngReg)

/-! ## The staging memrefs -/

/-- One staging buffer of output window 3, through which its contents are stated (`View.read_writes_of_cover`: the
    choice does not matter). -/
abbrev VO0_3 : View sig .tc .vmem S1x512x512 .i32 := (Memref.whole cc0_stg3_0 : Memref sig .tc .vmem S1x512x512 .i32).view
/-- Each window's current staging memref at point `t`, spelled as the pipeline passes it (`bodyAt0`), and its wholeness. -/
abbrev ms0_0 (t : Fin cfg0.N) : Memref sig .tc .vmem S1x512x512 .f32 := win0_0.stage (cfg0.slots t 0)
/-- It is a whole buffer. -/
abbrev hs0_0 (t : Fin cfg0.N) : (ms0_0 t).IsWhole := hstage0_0 ((cfg0.slots t 0).cast nbuf0_0)
/-- A window's current staging buffer. -/
abbrev ms0_1 (t : Fin cfg0.N) : Memref sig .tc .vmem S1x512x512 .f32 := win0_1.stage (cfg0.slots t 1)
/-- It is a whole buffer. -/
abbrev hs0_1 (t : Fin cfg0.N) : (ms0_1 t).IsWhole := hstage0_1 ((cfg0.slots t 1).cast nbuf0_1)
/-- A window's current staging buffer. -/
abbrev ms0_2 (t : Fin cfg0.N) : Memref sig .tc .vmem S1x512x512 .f32 := win0_2.stage (cfg0.slots t 2)
/-- It is a whole buffer. -/
abbrev hs0_2 (t : Fin cfg0.N) : (ms0_2 t).IsWhole := hstage0_2 ((cfg0.slots t 2).cast nbuf0_2)
/-- A window's current staging buffer. -/
abbrev ms0_3 (t : Fin cfg0.N) : Memref sig .tc .vmem S1x512x512 .i32 := win0_3.stage (cfg0.slots t 3)
/-- It is a whole buffer. -/
abbrev hs0_3 (t : Fin cfg0.N) : (ms0_3 t).IsWhole := hstage0_3 ((cfg0.slots t 3).cast nbuf0_3)

/-! ## The body -/

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) :
    { L3 : List (View.Piece (Elt F) S1x512x512 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0__body i arg1 harg1 arg2 harg2 arg3 harg3 arg4 harg4) K } := by
  refine ⟨?_, fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, part7_eq]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The launch -/

/-- The run's pieces for output 3 tile its block (1 store of `S1x512x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) (y : S1x512x512.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S1x512x512.size (by sl_kernel_rfl) y

/-- What the run leaves in output 3's staging buffer: its pieces read back over junk. -/
def out0_A_3 (c : Dev nD) (i : grid0.Coords) (arg1 : Memref sig .tc .vmem S1x512x512 .f32) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S1x512x512 .i32) (harg4 : arg4.IsWhole)
    (x0 : Vec F S1x512x512 .f32) (x1 : Vec F S1x512x512 .f32) (x2 : Vec F S1x512x512 .f32) : Vec F S1x512x512 .i32 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S1x512x512 .i32 :=
  out0_A_3 c (grid0.coords t) (ms0_0 t) (hs0_0 t) (ms0_1 t) (hs0_1 t) (ms0_2 t) (hs0_2 t) (ms0_3 t) (hs0_3 t) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in this window. -/
theorem before0_1 (c : Dev nD) (t : Fin cfg0.N) (d) : (dats m 0 c).before 1 t d = iblk m c 1 t :=
  before0_1_of m (dats m 0 c) (A_eq m c 1) (after0_1 m c) t d
/-- What the body finds in this window. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## Blockwise: what each point writes back, and the final array block by block -/

/-- WHAT POINT `t` WRITES BACK to output window 3's array: the run's contents for that window after the body (`Gen.outsAt0`), read through the window's block. -/
theorem flushed3 (c : Dev nD) (t : Fin cfg0.N) :
    (dats m 0 c).flushed 3 t = (cfg0.win 3).cut (grid0.coords t) (outsAt0 m c t) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — the kernel's one case, `Gen.outsAt0` by definition. -/
theorem flushed3_A (c : Dev nD) (t : Fin cfg0.N) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (iblk m c 0 t) (iblk m c 1 t) (iblk m c 2 t)) := by
  simp only [flushed3, outsAt0]

/-- The index map sends distinct grid points to distinct block indices (decided over the 32 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S32x512x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v11) = (dats m 0 c).arrAt 3 cfg0.N :=
  (h c).1 3

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Launched

end
-- ==== Proof.ReferenceFrame.lean ====
/- The reference's run with its semaphore counters: the launch of a program of host operations and one counted host loop,
   set up as the library's run of such a program is, at the kit's theorem that also speaks of the counters. -/
module

public import proofs.«01_k».proof.Proof.Gen.ReferenceIdeal.Run

@[expose] public section

set_option maxRecDepth 4096

noncomputable section

namespace Cert.ReferenceIdeal.Launched

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs sub_ucRefs)

variable {F : FTy → Type} [FloatOps F]
variable (m : (ℓ : Loc nD τ sig) → Buf (Elt F) ℓ) (ρ : Dev nD → PrngReg)

local notation "𝕄" => MT nD τ sig Unit (Elt F) ℕ (Option PUnit) ℕ

/-- No pipeline admits anything. -/
abbrev noAdm : (p : Fin 0) → (pcfgs (F := F) p).Adm := fun p => p.elim0
/-- No pipeline asks for a ticket. -/
abbrev noTk : Fin 0 → Ticket (Ix := Unit) (Name := ℕ) (U := Option PUnit) (Lvl := ℕ) (nD := nD) (τ := τ) (pcfgs (F := F)) noAdm := fun j => j.elim0
/-- No cell of the machine is indexed. -/
abbrev noIx : GSem nD τ sig → Finset Unit := fun _ => ∅
/-- Every level is zero. -/
abbrev lv0 : GSem nD τ sig → Unit → ℕ := fun _ _ => 0
/-- What rides along beside the buffers: the core owes nothing. -/
abbrev Owes (c : Dev nD) : sProp 𝕄 := iprop(∃ W, owes (c : Thread nD τ) (0 : CellTallies nD τ sig Unit) W)

/-- The staging cells of no pipeline are distinct. -/
theorem noCell_injective : Function.Injective (Pipeline.cellOf (nD := nD) (τ := τ) (Pipeline.pin (pcfgs (F := F)) noAdm)) :=
  fun k => k.1.elim0

/-- The loop's condition with what rides along framed through it. -/
theorem loop_cond : LoopCond (pcfgs (F := F)) defs₀ Variants.none loops Owes (main_while0_cond (F := F)) condOps bodyI (entryContents preI m) 40 :=
  fun k hk c bd => by
  have hc := cond_spec m k hk c bd
  have hpost : ∀ v : Elt F .i1,
      iprop(iprop(⌜v = 1#1 ↔ k < 40⌝ ∗ boundary (c : Thread nD τ) ∗ held (c : Thread nD τ) (ucRefs τ sig) (after condOps (atTrip condOps bodyI (entryContents preI m) k c))) ∗ Owes c)
        ⊢ (iprop(⌜v = 1#1 ↔ k < 40⌝ ∗ boundary (c : Thread nD τ) ∗ held (c : Thread nD τ) (ucRefs τ sig) (after condOps (atTrip condOps bodyI (entryContents preI m) k c)) ∗ Owes c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The segments of the run: the stretches before the loop, the loop, the stretches after it. -/
def segments : List (CSeg (pcfgs (F := F)) noAdm defs₀ Variants.none noIx lv0 loops noTk) :=
  segsOf _ _ _ _ _ _ _ _ Owes preI hpre (launchContents m)
    ++ loopSeg _ _ _ _ _ _ _ _ 0 main_while0_cond main_while0_body rfl condOps bodyI hbodyI (by rw [while0_body_chain]; rfl) 40 (entryContents preI m) Owes (loop_cond m)
      :: segsOf _ _ _ _ _ _ _ _ Owes postI hpost (fun c => after condOps (atTrip condOps bodyI (entryContents preI m) 40 c))

/-- The segments' programs are the items of @main. -/
theorem segments_prog : (segments m).map CSeg.prog
    = (preI.map fun ops => (seq ops : Prog _ PUnit)) ++ HostLoop.enter 0 :: postI.map fun ops => (seq ops : Prog _ PUnit) := by
  unfold segments
  rw [List.map_append, List.map_cons, segsOf_prog, segsOf_prog]
  rfl

/-- The segments chain from the launch to the end. -/
theorem segments_chain : CSeg.Chains (fun c => iprop(held (c : Thread nD τ) (ucRefs τ sig) (launchContents m c) ∗ Owes c)) (segments m)
    (fun c => iprop(iprop(held (c : Thread nD τ) (ucRefs τ sig) (finalContents condOps preI bodyI postI 40 m c)) ∗ ∃ W, owes (c : Thread nD τ) (0 : CellTallies nD τ sig Unit) W)) := by
  unfold segments
  exact CSeg.Chains.append (segsOf_chains _ _ _ _ _ _ _ _ Owes preI hpre _) ⟨fun _ => .rfl, segsOf_chains _ _ _ _ _ _ _ _ Owes postI hpost _⟩

/-- The TensorCores of this program have no semaphore cell. -/
theorem no_cell (s : SemLoc sig) : s.isScoped .tc = true := by
  cases s with
  | reg s => exact s.elim0
  | dma s => exact s.elim0

set_option maxRecDepth 100000 in
/-- The program is its items in order. -/
theorem main_items (c : Dev nD) : main (F := F) c = Pipeline.chain ((preI.map fun ops => (seq ops : Prog _ PUnit)) ++ HostLoop.enter 0 :: postI.map fun ops => (seq ops : Prog _ PUnit)) := by
  rw [main_chain]; rfl

set_option maxRecDepth 100000 in
/-- Every weakly fair run of the reference ends with its buffers at the fold of its operations and every counter at zero. -/
theorem run_fold_quiet : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 40 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noAdm noCell_injective defs₀ Variants.none noIx lv0 loops noTk m ρ main (segments m)
    (fun c Q => by
      rw [main_items c]
      show wp _ _ _ (Pipeline.chain ((segments m).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owes c))
    (Tₙ := fun c => iprop(held (c : Thread nD τ) (ucRefs τ sig) (finalContents condOps preI bodyI postI 40 m c)))
    (hch := segments_chain m)
    (hinit := by
      refine Pipeline.initEach noIx lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 40 m c b)
    (hfin := fun c s' => by
      unfold held
      iintro ⟨Hh, HSI⟩
      ihave Hr := (pointsTo_read_all (ucRefs τ sig) (fun b => ((c : Dev nD), b)) (fun b => finalContents condOps preI bodyI postI 40 m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => hs g (.inr (no_cell g.2))⟩)

/-- What the stretch `hostOps0_17` writes, in order. -/
abbrev hostOps0_17_W : List (Ref sig .tc) := [main_v53, main_v54, main_v55, main_v56, main_cst_9]
/-- The stretch `hostOps0_17` writes no other array. -/
theorem hostOps0_17_writes : (hostOps0_17 : List (HloOp τ sig (Elt F))).Forall fun op => op.writes ⊆ (hostOps0_17_W.map (Proc.devRef (τ := τ) .tc)).toFinset :=
  StableHlo.forall_writes_sub_of_map rfl
/-- What the stretch `hostOps0_18` writes, in order. -/
abbrev hostOps0_18_W : List (Ref sig .tc) := [main_call12_v0, main_call12_v1, main_v57]
/-- The stretch `hostOps0_18` writes no other array. -/
theorem hostOps0_18_writes : (hostOps0_18 : List (HloOp τ sig (Elt F))).Forall fun op => op.writes ⊆ (hostOps0_18_W.map (Proc.devRef (τ := τ) .tc)).toFinset :=
  StableHlo.forall_writes_sub_of_map rfl
/-- What the stretch `hostOps0_19` writes, in order. -/
abbrev hostOps0_19_W : List (Ref sig .tc) := [main_values, main_indices, main_v58, main_v59, main_v60, main_v61, main_v62, main_v63, main_cst_10, main_v64, main_v65, main_v66, main_v67, main_v68, main_c_11, main_v69, main_v70, main_v71, main_cst_12, main_v72, main_v73, main_v74, main_cst_13]
/-- The stretch `hostOps0_19` writes no other array. -/
theorem hostOps0_19_writes : (hostOps0_19 : List (HloOp τ sig (Elt F))).Forall fun op => op.writes ⊆ (hostOps0_19_W.map (Proc.devRef (τ := τ) .tc)).toFinset :=
  StableHlo.forall_writes_sub_of_map rfl
/-- What the stretch `hostOps0_20` writes, in order. -/
abbrev hostOps0_20_W : List (Ref sig .tc) := [main_call13_v0, main_call13_v1, main_v75]
/-- The stretch `hostOps0_20` writes no other array. -/
theorem hostOps0_20_writes : (hostOps0_20 : List (HloOp τ sig (Elt F))).Forall fun op => op.writes ⊆ (hostOps0_20_W.map (Proc.devRef (τ := τ) .tc)).toFinset :=
  StableHlo.forall_writes_sub_of_map rfl
/-- What the stretch `hostOps0_21` writes, in order. -/
abbrev hostOps0_21_W : List (Ref sig .tc) := [main_values_14, main_indices_15, main_v76, main_v77, main_v78, main_v79, main_v80, main_v81, main_cst_16, main_v82, main_v83, main_v84, main_v85, main_v86, main_c_17, main_v87, main_v88, main_v89, main_cst_18, main_v90, main_v91, main_v92, main_cst_19, main_v93, main_v94, main_cst_20]
/-- The stretch `hostOps0_21` writes no other array. -/
theorem hostOps0_21_writes : (hostOps0_21 : List (HloOp τ sig (Elt F))).Forall fun op => op.writes ⊆ (hostOps0_21_W.map (Proc.devRef (τ := τ) .tc)).toFinset :=
  StableHlo.forall_writes_sub_of_map rfl
/-- What the stretch `hostOps0_22` writes, in order. -/
abbrev hostOps0_22_W : List (Ref sig .tc) := [main_call14_v0, main_call14_v1, main_v95]
/-- The stretch `hostOps0_22` writes no other array. -/
theorem hostOps0_22_writes : (hostOps0_22 : List (HloOp τ sig (Elt F))).Forall fun op => op.writes ⊆ (hostOps0_22_W.map (Proc.devRef (τ := τ) .tc)).toFinset :=
  StableHlo.forall_writes_sub_of_map rfl
/-- What the stretch `hostOps0_23` writes, in order. -/
abbrev hostOps0_23_W : List (Ref sig .tc) := [main_cst_21, main_v96, main_v97, main_cst_22]
/-- The stretch `hostOps0_23` writes no other array. -/
theorem hostOps0_23_writes : (hostOps0_23 : List (HloOp τ sig (Elt F))).Forall fun op => op.writes ⊆ (hostOps0_23_W.map (Proc.devRef (τ := τ) .tc)).toFinset :=
  StableHlo.forall_writes_sub_of_map rfl
/-- What the stretch `hostOps0_24` writes, in order. -/
abbrev hostOps0_24_W : List (Ref sig .tc) := [main_call15_v0, main_call15_v1, main_v98]
/-- The stretch `hostOps0_24` writes no other array. -/
theorem hostOps0_24_writes : (hostOps0_24 : List (HloOp τ sig (Elt F))).Forall fun op => op.writes ⊆ (hostOps0_24_W.map (Proc.devRef (τ := τ) .tc)).toFinset :=
  StableHlo.forall_writes_sub_of_map rfl
/-- What the stretch `hostOps0_25` writes, in order. -/
abbrev hostOps0_25_W : List (Ref sig .tc) := [main_c_23, main_v99, main_cst_24, main_v100, main_v101, main_c_25]
/-- The stretch `hostOps0_25` writes no other array. -/
theorem hostOps0_25_writes : (hostOps0_25 : List (HloOp τ sig (Elt F))).Forall fun op => op.writes ⊆ (hostOps0_25_W.map (Proc.devRef (τ := τ) .tc)).toFinset :=
  StableHlo.forall_writes_sub_of_map rfl
/-- What the stretch `hostOps0_26` writes, in order. -/
abbrev hostOps0_26_W : List (Ref sig .tc) := [main_call16_v0, main_call16_v1, main_v102]
/-- The stretch `hostOps0_26` writes no other array. -/
theorem hostOps0_26_writes : (hostOps0_26 : List (HloOp τ sig (Elt F))).Forall fun op => op.writes ⊆ (hostOps0_26_W.map (Proc.devRef (τ := τ) .tc)).toFinset :=
  StableHlo.forall_writes_sub_of_map rfl
/-- What the stretch `hostOps0_27` writes, in order. -/
abbrev hostOps0_27_W : List (Ref sig .tc) := [main_cst_26, main_v103, main_v104, main_c_27]
/-- The stretch `hostOps0_27` writes no other array. -/
theorem hostOps0_27_writes : (hostOps0_27 : List (HloOp τ sig (Elt F))).Forall fun op => op.writes ⊆ (hostOps0_27_W.map (Proc.devRef (τ := τ) .tc)).toFinset :=
  StableHlo.forall_writes_sub_of_map rfl
/-- What the stretch `hostOps0_28` writes, in order. -/
abbrev hostOps0_28_W : List (Ref sig .tc) := [main_call17_v0, main_call17_v1, main_v105]
/-- The stretch `hostOps0_28` writes no other array. -/
theorem hostOps0_28_writes : (hostOps0_28 : List (HloOp τ sig (Elt F))).Forall fun op => op.writes ⊆ (hostOps0_28_W.map (Proc.devRef (τ := τ) .tc)).toFinset :=
  StableHlo.forall_writes_sub_of_map rfl

/-- No stretch of `preI` writes an argument. -/
theorem keeps_pre (V : Valuation τ sig (Elt F)) (a : Ref sig .tc) (ha : a ∈ [main_arg0, main_arg1, main_arg2]) :
    afterL preI V (Proc.devRef .tc a) = V (Proc.devRef .tc a) := by
  simp only [afterL_cons, afterL_nil]
  rw [after_of_writes_sub hostOps0_16 _ hostOps0_16_writes ((by decide : ∀ a ∈ [main_arg0, main_arg1, main_arg2], a ∉ hostOps0_16_W) a ha), after_of_writes_sub hostOps0_15 _ hostOps0_15_writes ((by decide : ∀ a ∈ [main_arg0, main_arg1, main_arg2], a ∉ hostOps0_15_W) a ha), after_of_writes_sub hostOps0_14 _ hostOps0_14_writes ((by decide : ∀ a ∈ [main_arg0, main_arg1, main_arg2], a ∉ hostOps0_14_W) a ha), after_of_writes_sub hostOps0_13 _ hostOps0_13_writes ((by decide : ∀ a ∈ [main_arg0, main_arg1, main_arg2], a ∉ hostOps0_13_W) a ha), after_of_writes_sub hostOps0_12 _ hostOps0_12_writes ((by decide : ∀ a ∈ [main_arg0, main_arg1, main_arg2], a ∉ hostOps0_12_W) a ha), after_of_writes_sub hostOps0_11 _ hostOps0_11_writes ((by decide : ∀ a ∈ [main_arg0, main_arg1, main_arg2], a ∉ hostOps0_11_W) a ha), after_of_writes_sub hostOps0_10 _ hostOps0_10_writes ((by decide : ∀ a ∈ [main_arg0, main_arg1, main_arg2], a ∉ hostOps0_10_W) a ha), after_of_writes_sub hostOps0_9 _ hostOps0_9_writes ((by decide : ∀ a ∈ [main_arg0, main_arg1, main_arg2], a ∉ hostOps0_9_W) a ha), after_of_writes_sub hostOps0_8 _ hostOps0_8_writes ((by decide : ∀ a ∈ [main_arg0, main_arg1, main_arg2], a ∉ hostOps0_8_W) a ha), after_of_writes_sub hostOps0_7 _ hostOps0_7_writes ((by decide : ∀ a ∈ [main_arg0, main_arg1, main_arg2], a ∉ hostOps0_7_W) a ha), after_of_writes_sub hostOps0_6 _ hostOps0_6_writes ((by decide : ∀ a ∈ [main_arg0, main_arg1, main_arg2], a ∉ hostOps0_6_W) a ha), after_of_writes_sub hostOps0_5 _ hostOps0_5_writes ((by decide : ∀ a ∈ [main_arg0, main_arg1, main_arg2], a ∉ hostOps0_5_W) a ha), after_of_writes_sub hostOps0_4 _ hostOps0_4_writes ((by decide : ∀ a ∈ [main_arg0, main_arg1, main_arg2], a ∉ hostOps0_4_W) a ha), after_of_writes_sub hostOps0_3 _ hostOps0_3_writes ((by decide : ∀ a ∈ [main_arg0, main_arg1, main_arg2], a ∉ hostOps0_3_W) a ha), after_of_writes_sub hostOps0_2 _ hostOps0_2_writes ((by decide : ∀ a ∈ [main_arg0, main_arg1, main_arg2], a ∉ hostOps0_2_W) a ha), after_of_writes_sub hostOps0_1 _ hostOps0_1_writes ((by decide : ∀ a ∈ [main_arg0, main_arg1, main_arg2], a ∉ hostOps0_1_W) a ha), after_of_writes_sub hostOps0 _ hostOps0_writes ((by decide : ∀ a ∈ [main_arg0, main_arg1, main_arg2], a ∉ hostOps0_W) a ha)]

/-- No stretch of `bodyI` writes an argument. -/
theorem keeps_body (V : Valuation τ sig (Elt F)) (a : Ref sig .tc) (ha : a ∈ [main_arg0, main_arg1, main_arg2]) :
    afterL bodyI V (Proc.devRef .tc a) = V (Proc.devRef .tc a) := by
  simp only [afterL_cons, afterL_nil]
  rw [after_of_writes_sub while0Ops0_8 _ while0Ops0_8_writes ((by decide : ∀ a ∈ [main_arg0, main_arg1, main_arg2], a ∉ while0Ops0_8_W) a ha), after_of_writes_sub while0Ops0_7 _ while0Ops0_7_writes ((by decide : ∀ a ∈ [main_arg0, main_arg1, main_arg2], a ∉ while0Ops0_7_W) a ha), after_of_writes_sub while0Ops0_6 _ while0Ops0_6_writes ((by decide : ∀ a ∈ [main_arg0, main_arg1, main_arg2], a ∉ while0Ops0_6_W) a ha), after_of_writes_sub while0Ops0_5 _ while0Ops0_5_writes ((by decide : ∀ a ∈ [main_arg0, main_arg1, main_arg2], a ∉ while0Ops0_5_W) a ha), after_of_writes_sub while0Ops0_4 _ while0Ops0_4_writes ((by decide : ∀ a ∈ [main_arg0, main_arg1, main_arg2], a ∉ while0Ops0_4_W) a ha), after_of_writes_sub while0Ops0_3 _ while0Ops0_3_writes ((by decide : ∀ a ∈ [main_arg0, main_arg1, main_arg2], a ∉ while0Ops0_3_W) a ha), after_of_writes_sub while0Ops0_2 _ while0Ops0_2_writes ((by decide : ∀ a ∈ [main_arg0, main_arg1, main_arg2], a ∉ while0Ops0_2_W) a ha), after_of_writes_sub while0Ops0_1 _ while0Ops0_1_writes ((by decide : ∀ a ∈ [main_arg0, main_arg1, main_arg2], a ∉ while0Ops0_1_W) a ha), after_of_writes_sub while0Ops0 _ while0Ops0_writes ((by decide : ∀ a ∈ [main_arg0, main_arg1, main_arg2], a ∉ while0Ops0_W) a ha)]

/-- No stretch of `postI` writes an argument. -/
theorem keeps_post (V : Valuation τ sig (Elt F)) (a : Ref sig .tc) (ha : a ∈ [main_arg0, main_arg1, main_arg2]) :
    afterL postI V (Proc.devRef .tc a) = V (Proc.devRef .tc a) := by
  simp only [afterL_cons, afterL_nil]
  rw [after_of_writes_sub hostOps0_28 _ hostOps0_28_writes ((by decide : ∀ a ∈ [main_arg0, main_arg1, main_arg2], a ∉ hostOps0_28_W) a ha), after_of_writes_sub hostOps0_27 _ hostOps0_27_writes ((by decide : ∀ a ∈ [main_arg0, main_arg1, main_arg2], a ∉ hostOps0_27_W) a ha), after_of_writes_sub hostOps0_26 _ hostOps0_26_writes ((by decide : ∀ a ∈ [main_arg0, main_arg1, main_arg2], a ∉ hostOps0_26_W) a ha), after_of_writes_sub hostOps0_25 _ hostOps0_25_writes ((by decide : ∀ a ∈ [main_arg0, main_arg1, main_arg2], a ∉ hostOps0_25_W) a ha), after_of_writes_sub hostOps0_24 _ hostOps0_24_writes ((by decide : ∀ a ∈ [main_arg0, main_arg1, main_arg2], a ∉ hostOps0_24_W) a ha), after_of_writes_sub hostOps0_23 _ hostOps0_23_writes ((by decide : ∀ a ∈ [main_arg0, main_arg1, main_arg2], a ∉ hostOps0_23_W) a ha), after_of_writes_sub hostOps0_22 _ hostOps0_22_writes ((by decide : ∀ a ∈ [main_arg0, main_arg1, main_arg2], a ∉ hostOps0_22_W) a ha), after_of_writes_sub hostOps0_21 _ hostOps0_21_writes ((by decide : ∀ a ∈ [main_arg0, main_arg1, main_arg2], a ∉ hostOps0_21_W) a ha), after_of_writes_sub hostOps0_20 _ hostOps0_20_writes ((by decide : ∀ a ∈ [main_arg0, main_arg1, main_arg2], a ∉ hostOps0_20_W) a ha), after_of_writes_sub hostOps0_19 _ hostOps0_19_writes ((by decide : ∀ a ∈ [main_arg0, main_arg1, main_arg2], a ∉ hostOps0_19_W) a ha), after_of_writes_sub hostOps0_18 _ hostOps0_18_writes ((by decide : ∀ a ∈ [main_arg0, main_arg1, main_arg2], a ∉ hostOps0_18_W) a ha), after_of_writes_sub hostOps0_17 _ hostOps0_17_writes ((by decide : ∀ a ∈ [main_arg0, main_arg1, main_arg2], a ∉ hostOps0_17_W) a ha)]

/-- The argument arrays are as launched before every trip. -/
theorem keeps_trip (c : Dev nD) (a : Ref sig .tc) (ha : a ∈ [main_arg0, main_arg1, main_arg2]) :
    ∀ k, atTrip condOps bodyI (entryContents preI m) k c (Proc.devRef .tc a) = m ((c.tc : Thread nD τ).loc a)
  | 0 => keeps_pre (launchContents m c) a ha
  | k + 1 => by
    rw [atTrip_succ, keeps_body _ a ha, after_of_writes_sub condOps _ condOps_writes ((by decide : ∀ a ∈ [main_arg0, main_arg1, main_arg2], a ∉ condOps_W) a ha)]
    exact keeps_trip c a ha k

/-- An argument array is written by no operation of the reference. -/
theorem kept (c : Dev nD) (a : Ref sig .tc) (ha : a ∈ [main_arg0, main_arg1, main_arg2]) :
    finalContents condOps preI bodyI postI 40 m c (Proc.devRef .tc a) = m ((c.tc : Thread nD τ).loc a) := by
  show afterL postI (after condOps (atTrip condOps bodyI (entryContents preI m) 40 c)) (Proc.devRef .tc a) = _
  rw [keeps_post _ a ha, after_of_writes_sub condOps _ condOps_writes ((by decide : ∀ a ∈ [main_arg0, main_arg1, main_arg2], a ∉ condOps_W) a ha)]
  exact keeps_trip m c a ha 40

/-- The reference runs, leaves its arguments as they were and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c main_arg0 rfl).trans (kept m c main_arg0 (by decide)),
    (h.1 c main_arg1 rfl).trans (kept m c main_arg1 (by decide)), (h.1 c main_arg2 rfl).trans (kept m c main_arg2 (by decide))⟩, h.2⟩)
    (run_fold_quiet m ρ)

end Cert.ReferenceIdeal.Launched

end
-- ==== Proof.KBody.lean ====
/- What the kernel's body stores at one point, as its named payloads composed over the three blocks it loads. -/
module

public import proofs.«01_k».proof.Proof.KernelIdealFrame

@[expose] public section

set_option maxRecDepth 16384

noncomputable section

namespace Cert.KernelIdeal.Body

open Cert.KernelIdeal Cert.KernelIdeal.Gen Cert.KernelIdeal.Launched
open Idealize.ShloMosaic Idealize.ShloMosaic.TcCoe Idealize.ShloMosaic.Tactic

variable {F : FTy → Type} [FloatOps F]

/-- The partial counts before the last rows. -/
def partCounts (x0 : Vec F S1x512x512 .f32) : FVec F S16x16 .f32 :=
  k0_pay16 (k0_pay6 x0) (k0_pay7 x0) k0_pay8
    (k0_pay12 (k0_pay6 x0) (k0_pay7 x0) k0_pay8 (k0_pay9 x0) (k0_pay10 x0) (k0_pay11 x0))
    (k0_pay13 (k0_pay7 x0)) (k0_pay14 (k0_pay6 x0)) (k0_pay15 k0_pay8)

/-- The counts of the levels, as the kernel's sixteen by sixteen table. -/
def table (x0 : Vec F S1x512x512 .f32) : FVec F S16x16 .f32 :=
  k0_pay19 k0_pay8 (partCounts x0) (k0_pay17 (k0_pay7 x0)) (k0_pay18 (k0_pay6 x0) k0_pay8)

/-- The table of counts times levels. -/
def table2 (x0 : Vec F S1x512x512 .f32) : FVec F S16x16 .f32 :=
  k0_pay26 k0_pay8 (partCounts x0) (k0_pay17 (k0_pay7 x0)) (k0_pay18 (k0_pay6 x0) k0_pay8)

/-- The first threshold, held between 1 and 254. -/
def first (x0 : Vec F S1x512x512 .f32) : F .f32 :=
  k0_pay31 k0_pay20
    (k0_pay27 k0_pay8 (partCounts x0) (k0_pay17 (k0_pay7 x0)) (k0_pay18 (k0_pay6 x0) k0_pay8))
    (k0_pay28 k0_pay8 (partCounts x0) (k0_pay17 (k0_pay7 x0)) (k0_pay18 (k0_pay6 x0) k0_pay8))
    (k0_pay29 k0_pay8 (partCounts x0) (k0_pay17 (k0_pay7 x0)) (k0_pay18 (k0_pay6 x0) k0_pay8))
    (k0_pay30 k0_pay8 (partCounts x0) (k0_pay17 (k0_pay7 x0)) (k0_pay18 (k0_pay6 x0) k0_pay8))

/-- The least level present. -/
def low (x0 : Vec F S1x512x512 .f32) : F .f32 := k0_pay32 (table x0) k0_pay20

/-- The threshold after the forty steps. -/
def refined (x0 : Vec F S1x512x512 .f32) : F .f32 :=
  Scf.fold (n := k0_t1_loop.trips) (fun _ acc => k0_pay2 (table x0) k0_pay20 (table2 x0) (low x0) acc)
    (k0_pay33 (first x0) (low x0))

/-- The four bounds of the two searches after the eighteen steps. -/
def bounds (x0 x1 x2 : Vec F S1x512x512 .f32) : F .f32 × F .f32 × F .f32 × F .f32 :=
  Scf.fold (n := k0_t2_loop.trips)
    (fun _ acc => (k0_pay39 (k0_pay3 x1) (k0_pay5 x0) (low x0) (refined x0) acc.1 acc.2.1,
      k0_pay40 (k0_pay3 x1) (k0_pay5 x0) (low x0) (refined x0) acc.1 acc.2.1,
      k0_pay41 (k0_pay4 x2) (k0_pay5 x0) (low x0) (refined x0) acc.2.2.1 acc.2.2.2,
      k0_pay42 (k0_pay4 x2) (k0_pay5 x0) (low x0) (refined x0) acc.2.2.1 acc.2.2.2))
    (Scalar.ofBits .f32 0xBF800000#32, Scalar.ofBits .f32 0x487FFFC0#32,
      Scalar.ofBits .f32 0xBF800000#32, Scalar.ofBits .f32 0x487FFFC0#32)

/-- The block the body stores. -/
def stored (x0 x1 x2 : Vec F S1x512x512 .f32) : IVec S1x512x512 32 :=
  k0_pay1 (k0_pay43 (k0_pay3 x1) (k0_pay5 x0) (low x0) (refined x0) (bounds x0 x1 x2).2.1)
    (k0_pay44 (k0_pay4 x2) (k0_pay5 x0) (low x0) (refined x0) (bounds x0 x1 x2).2.2.2)
    k0_pay45
    (k0_pay46 (k0_pay4 x2) (k0_pay5 x0) (low x0) (refined x0) (bounds x0 x1 x2).2.2.2)

/-- Reading a whole block starts at its first entry. -/
theorem hz : (![0, 0, 0] : Fin 3 → Nat) = fun _ => 0 := funext fun a => by fin_cases a <;> rfl

/-- The body leaves `stored` of its three blocks in the output's staging buffer. -/
theorem out_eq (c : Dev nD) (i : grid0.Coords) (a1 : Memref sig .tc .vmem S1x512x512 .f32) (h1 : a1.IsWhole)
    (a2 : Memref sig .tc .vmem S1x512x512 .f32) (h2 : a2.IsWhole) (a3 : Memref sig .tc .vmem S1x512x512 .f32) (h3 : a3.IsWhole)
    (a4 : Memref sig .tc .vmem S1x512x512 .i32) (h4 : a4.IsWhole) (x0 x1 x2 : Vec F S1x512x512 .f32) :
    out0_A_3 c i a1 h1 a2 h2 a3 h3 a4 h4 x0 x1 x2 = stored x0 x1 x2 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  simp only [View.readAt_eq_ld, h1.read_unread, h2.read_unread, h3.read_unread, View.ld_unit_zero (S := S1x512x512) hz]
  rfl

end Cert.KernelIdeal.Body

end
-- ==== Proof.Nums.lean ====
/- Numbers the two programs meet: natural numbers inside the extended reals, indicators, and the constants. -/
module

public import Idealize.ShloMosaic.Lib.IdealHost
public import Idealize.ShloMosaic.Lib.Pointwise

@[expose] public section

noncomputable section

namespace Cert.Nums

open Idealize.ShloMosaic

/-- A natural number as an extended real is the real number's. -/
theorem nat_real (k : ℕ) : (k : EReal) = ((k : ℝ) : EReal) := (EReal.coe_coe_eq_natCast k).symm

/-- Natural numbers are ordered as floats as they are. -/
theorem nat_le (a b : ℕ) : (a : EReal) ≤ (b : EReal) ↔ a ≤ b := by
  rw [nat_real, nat_real, EReal.coe_le_coe_iff, Nat.cast_le]

/-- Natural numbers are strictly ordered as floats as they are. -/
theorem nat_lt (a b : ℕ) : (a : EReal) < (b : EReal) ↔ a < b := by
  rw [nat_real, nat_real, EReal.coe_lt_coe_iff, Nat.cast_lt]

/-- Natural numbers are equal as floats exactly when they are equal. -/
theorem nat_inj (a b : ℕ) : (a : EReal) = (b : EReal) ↔ a = b := by
  rw [nat_real, nat_real, EReal.coe_eq_coe_iff, Nat.cast_inj]

/-- Products of natural numbers as floats. -/
theorem nat_mul (a b : ℕ) : (a : EReal) * (b : EReal) = ((a * b : ℕ) : EReal) := by
  rw [nat_real, nat_real, nat_real, ← EReal.coe_mul, Nat.cast_mul]

/-- Differences of natural numbers as floats. -/
theorem nat_sub (a b : ℕ) (h : b ≤ a) : (a : EReal) - (b : EReal) = ((a - b : ℕ) : EReal) := by
  rw [nat_real, nat_real, nat_real, ← EReal.coe_sub, Nat.cast_sub h]

/-- Natural numbers are nonnegative as floats. -/
theorem nat_nonneg (a : ℕ) : (0 : EReal) ≤ (a : EReal) := by
  have := (nat_le 0 a).2 (Nat.zero_le _)
  simpa using this

/-- Least of two natural numbers as floats. -/
theorem nat_min (a b : ℕ) : min (a : EReal) (b : EReal) = ((min a b : ℕ) : EReal) := by
  rcases le_total a b with h | h
  · rw [min_eq_left h, min_eq_left ((nat_le _ _).2 h)]
  · rw [min_eq_right h, min_eq_right ((nat_le _ _).2 h)]

/-- Greatest of two natural numbers as floats. -/
theorem nat_max (a b : ℕ) : max (a : EReal) (b : EReal) = ((max a b : ℕ) : EReal) := by
  rcases le_total a b with h | h
  · rw [max_eq_right h, max_eq_right ((nat_le _ _).2 h)]
  · rw [max_eq_left h, max_eq_left ((nat_le _ _).2 h)]

/-- A threshold moved across by a natural number. -/
theorem add_lt_nat (t : EReal) (a b : ℕ) : t + (a : EReal) < (b : EReal) ↔ t < (b : EReal) - (a : EReal) := by
  rw [EReal.lt_sub_iff_add_lt]
  · left; rw [nat_real]; exact EReal.coe_ne_bot _
  · left; rw [nat_real]; exact EReal.coe_ne_top _

/-- One where `p` holds and zero elsewhere. -/
def ind (p : Prop) [Decidable p] : EReal := if p then 1 else 0

/-- An indicator is the natural number 0 or 1. -/
theorem ind_nat (p : Prop) [Decidable p] : ind p = ((if p then 1 else 0 : ℕ) : EReal) := by
  unfold ind; split <;> simp

/-- Equivalent conditions have one indicator. -/
theorem ind_congr {p q : Prop} [Decidable p] [Decidable q] (h : p ↔ q) : ind p = ind q := by
  unfold ind; simp only [h]

/-- A one bit word widened and read as a number is the indicator. -/
theorem ind_word (p : Prop) [Decidable p] :
    (FloatOps.sitofp FTy.f32 (BitVec.setWidth 32 (BitVec.ofBool (decide p))) : Ideal .f32) = ind p := by
  by_cases h : p <;> simp [h, ind, Ideal.scalar_sitofp_def, FloatOps.sitofp]

/-- A one bit word read as a number without sign is the indicator. -/
theorem ind_bit (p : Prop) [Decidable p] :
    (FloatOps.uitofp FTy.f32 (BitVec.ofBool (decide p)) : Ideal .f32) = ind p := by
  by_cases h : p <;> simp [h, ind, FloatOps.uitofp]

/-- An indicator times a number keeps the number or makes it 0. -/
theorem ind_mul (p : Prop) [Decidable p] (x : EReal) : ind p * x = if p then x else 0 := by
  unfold ind; split <;> simp

/-- A number times an indicator is the number or 0. -/
theorem mul_ind (p : Prop) [Decidable p] (x : EReal) : x * ind p = if p then x else 0 := by
  unfold ind; split <;> simp

/-- One less an indicator is the indicator of the negation. -/
theorem one_sub_ind (p : Prop) [Decidable p] : 1 - ind p = ind (¬ p) := by
  by_cases h : p
  · simp only [ind, h, if_true, not_true, if_false]
    have := nat_sub 1 1 le_rfl
    simpa using this
  · simp only [ind, h, if_false, not_false_eq_true, if_true]
    have := nat_sub 1 0 (by omega)
    simpa using this

/-- The number of indices with a property. -/
theorem sum_ind {ι : Type*} [Fintype ι] (p : ι → Prop) [DecidablePred p] :
    ∑ i, ind (p i) = ((Finset.univ.filter p).card : EReal) := by
  rw [Finset.card_filter, Nat.cast_sum]
  exact Finset.sum_congr rfl fun i _ => ind_nat _

/-! ## The constants -/

/-- The literal 262144. -/
theorem c262144 : Ideal.ofBits FTy.f32 0x48800000#32 = ((262144 : ℕ) : EReal) := by
  rw [nat_real]; simp [Ideal.ofBits, Ideal.ieee, -EReal.coe_mul]; norm_num
/-- The literal 255. -/
theorem c255 : Ideal.ofBits FTy.f32 0x437F0000#32 = ((255 : ℕ) : EReal) := by
  rw [nat_real]; simp [Ideal.ofBits, Ideal.ieee, -EReal.coe_mul]; norm_num
/-- The literal 254. -/
theorem c254 : Ideal.ofBits FTy.f32 0x437E0000#32 = ((254 : ℕ) : EReal) := by
  rw [nat_real]; simp [Ideal.ofBits, Ideal.ieee, -EReal.coe_mul]; norm_num
/-- The literal 16. -/
theorem c16 : Ideal.ofBits FTy.f32 0x41800000#32 = ((16 : ℕ) : EReal) := by
  rw [nat_real]; simp [Ideal.ofBits, Ideal.ieee, -EReal.coe_mul]; norm_num
/-- The literal 256. -/
theorem c256 : Ideal.ofBits FTy.f32 0x43800000#32 = ((256 : ℕ) : EReal) := by
  rw [nat_real]; simp [Ideal.ofBits, Ideal.ieee, -EReal.coe_mul]; norm_num
/-- The literal a thousand million. -/
theorem c1e9 : Ideal.ofBits FTy.f32 0x4E6E6B28#32 = ((1000000000 : ℕ) : EReal) := by
  rw [nat_real]; simp [Ideal.ofBits, Ideal.ieee, -EReal.coe_mul]; norm_num
/-- The literal 100. -/
theorem c100 : Ideal.ofBits FTy.f32 0x42C80000#32 = ((100 : ℕ) : EReal) := by
  rw [nat_real]; simp [Ideal.ofBits, Ideal.ieee, -EReal.coe_mul]; norm_num
/-- The literal 262143. -/
theorem c262143 : Ideal.ofBits FTy.f32 0x487FFFC0#32 = (((262143 : ℝ)) : EReal) := by
  simp [Ideal.ofBits, Ideal.ieee, -EReal.coe_mul]; norm_num
/-- The literal -1. -/
theorem cneg1 : Ideal.ofBits FTy.f32 0xBF800000#32 = ((-1 : ℝ) : EReal) := by
  simp [Ideal.ofBits, Ideal.ieee, -EReal.coe_mul, -EReal.coe_neg]; norm_num
/-- The literal one half. -/
theorem chalf : Ideal.ofBits FTy.f32 0x3F000000#32 = ((1 / 2 : ℝ) : EReal) := by
  simp [Ideal.ofBits, Ideal.ieee, -EReal.coe_mul]; norm_num
/-- The literal one sixteenth. -/
theorem csixteenth : Ideal.ofBits FTy.f32 0x3D800000#32 = ((1 / 16 : ℝ) : EReal) := by
  simp [Ideal.ofBits, Ideal.ieee, -EReal.coe_mul]; norm_num
/-- The literal 2. -/
theorem c2 : Ideal.ofBits FTy.f32 0x40000000#32 = ((2 : ℕ) : EReal) := by
  rw [nat_real]; simp [Ideal.ofBits, Ideal.ieee, -EReal.coe_mul]; norm_num
/-- The literal infinity. -/
theorem ctop : Ideal.ofBits FTy.f32 0x7F800000#32 = ⊤ := by simp [Ideal.ofBits, Ideal.ieee]
/-- The literal minus infinity. -/
theorem cbot : Ideal.ofBits FTy.f32 0xFF800000#32 = ⊥ := by simp [Ideal.ofBits, Ideal.ieee]

/-! ## Levels -/

/-- A pixel's level: its value times 255, rounded down and held between 0 and 255. -/
theorem lev_exists (x : EReal) : ∃ k : ℕ, k < 256 ∧
    min ((255 : ℕ) : EReal) (max 0 (Ideal.liftRound Int.floor (x * ((255 : ℕ) : EReal)))) = (k : EReal) := by
  generalize x * ((255 : ℕ) : EReal) = y
  induction y with
  | bot => exact ⟨0, by omega, by
      have h : Ideal.liftRound Int.floor (⊥ : EReal) = ⊥ := rfl
      rw [h, max_eq_left bot_le, min_eq_right (nat_nonneg _)]; simp⟩
  | top => exact ⟨255, by omega, by
      have h : Ideal.liftRound Int.floor (⊤ : EReal) = ⊤ := rfl
      rw [h, max_eq_right le_top, min_eq_left le_top]⟩
  | coe r =>
    have h : Ideal.liftRound Int.floor (r : EReal) = (((⌊r⌋ : ℤ) : ℝ) : EReal) := rfl
    refine ⟨min 255 (⌊r⌋).toNat, by omega, ?_⟩
    rw [h, ← nat_min]
    congr 1
    rcases le_total 0 ⌊r⌋ with h0 | h0
    · obtain ⟨k, hk⟩ := Int.eq_ofNat_of_zero_le h0
      rw [hk, max_eq_right]
      · show ((((k : ℕ) : ℤ) : ℝ) : EReal) = (((k : ℕ) : ℤ).toNat : EReal)
        rw [Int.toNat_natCast, nat_real, Int.cast_natCast]
      · have := nat_nonneg k
        rw [nat_real] at this
        simpa using this
    · rw [Int.toNat_of_nonpos h0, max_eq_left]
      · simp
      · have : ((⌊r⌋ : ℤ) : ℝ) ≤ 0 := by exact_mod_cast h0
        exact_mod_cast this

/-- The sixteen-fold part of a level. -/
theorem coarse (k : ℕ) : Ideal.liftRound Int.floor ((k : EReal) * ((1 / 16 : ℝ) : EReal)) = ((k / 16 : ℕ) : EReal) := by
  rw [nat_real, ← EReal.coe_mul]
  show (((⌊(k : ℝ) * (1 / 16)⌋ : ℤ) : ℝ) : EReal) = _
  have : ⌊(k : ℝ) * (1 / 16)⌋ = ((k / 16 : ℕ) : ℤ) := by
    rw [Int.floor_eq_iff]
    have h1 := Nat.div_add_mod k 16
    have h2 := Nat.mod_lt k (by norm_num : 16 > 0)
    have h3 : ((16 * (k / 16) + k % 16 : ℕ) : ℝ) = k := by rw [h1]
    have h4 : ((k % 16 : ℕ) : ℝ) < 16 := by exact_mod_cast h2
    have h5 : (0 : ℝ) ≤ ((k % 16 : ℕ) : ℝ) := Nat.cast_nonneg _
    rw [Int.cast_natCast]
    push_cast at h3
    constructor <;> linarith
  rw [this, nat_real]; norm_cast

/-- The rest of a level below sixteen. -/
theorem fine (k : ℕ) : (k : EReal) - ((16 : ℕ) : EReal) * ((k / 16 : ℕ) : EReal) = ((k % 16 : ℕ) : EReal) := by
  rw [nat_mul, nat_sub _ _ (Nat.mul_div_le k 16)]
  congr 1; omega

end Cert.Nums

end
-- ==== Proof.Hist.lean ====
/- The histogram of an image's levels, its running sums, the first threshold and the step that refines it, over
   extended reals: the forms the two programs compute and that they agree. -/
module

public import proofs.«01_k».proof.Proof.Nums

@[expose] public section

noncomputable section

namespace Cert.Hist

open Idealize.ShloMosaic Cert.Nums

/-! ## Counting by level -/

section fibers
variable {P : Type} [Fintype P] [DecidableEq P] (n : P → Fin 256)

/-- How many pixels have level `v`. -/
def cnt (v : Fin 256) : ℕ := (Finset.univ.filter fun p => n p = v).card

/-- A sum over pixels of a number that depends on the level only, level by level. -/
theorem sum_levels (f : Fin 256 → ℕ) : ∑ p, f (n p) = ∑ v, cnt n v * f v := by
  rw [← Finset.sum_fiberwise Finset.univ n (fun p => f (n p))]
  refine Finset.sum_congr rfl fun v _ => ?_
  rw [Finset.sum_congr rfl (g := fun _ => f v)]
  · rw [Finset.sum_const, smul_eq_mul]; rfl
  · intro p hp; rw [(Finset.mem_filter.1 hp).2]

/-- The counts add up to the number of pixels. -/
theorem sum_cnt : ∑ v, cnt n v = Fintype.card P := by
  have := sum_levels n (fun _ => 1)
  simpa using this.symm

/-- A level is counted where some pixel has it. -/
theorem cnt_pos (v : Fin 256) : 0 < cnt n v ↔ ∃ p, n p = v := by
  unfold cnt; rw [Finset.card_pos]
  constructor
  · rintro ⟨p, hp⟩; exact ⟨p, (Finset.mem_filter.1 hp).2⟩
  · rintro ⟨p, hp⟩; exact ⟨p, Finset.mem_filter.2 ⟨Finset.mem_univ _, hp⟩⟩

/-- The histogram as extended reals. -/
def H (v : Fin 256) : EReal := (cnt n v : EReal)
/-- Counts times levels. -/
def HB (v : Fin 256) : EReal := H n v * ((v : ℕ) : EReal)

end fibers

/-! ## Running sums -/

/-- The sum of the entries up to `v`. -/
def pre (g : Fin 256 → EReal) (v : ℕ) : EReal := ∑ u : Fin 256, if (u : ℕ) ≤ v then g u else 0
/-- The sum of the entries from `v` on. -/
def suf (g : Fin 256 → EReal) (v : ℕ) : EReal := ∑ u : Fin 256, if v ≤ (u : ℕ) then g u else 0

/-- Entry `16 i + j`. -/
def at2 (i j : Fin 16) : Fin 256 := ⟨16 * i + j, by omega⟩

/-- The table's places are the levels. -/
def places : Fin 16 × Fin 16 ≃ Fin 256 where
  toFun x := at2 x.1 x.2
  invFun v := (⟨v / 16, by omega⟩, ⟨v % 16, by omega⟩)
  left_inv x := by
    rcases x with ⟨i, j⟩
    simp only [at2, Prod.mk.injEq, Fin.ext_iff]; constructor <;> omega
  right_inv v := by simp only [at2, Fin.ext_iff]; omega

/-- A sum over the levels is a sum over the table. -/
theorem sum_places (g : Fin 256 → EReal) : ∑ v, g v = ∑ i, ∑ j, g (at2 i j) := by
  rw [← Equiv.sum_comp places g, Fintype.sum_prod_type]; rfl

/-- The running sum by whole rows before and the part of the row. -/
theorem pre_table (g : Fin 256 → EReal) (i j : Fin 16) :
    (∑ l : Fin 16, ∑ k : Fin 16, if (k : ℕ) < i then g (at2 k l) else 0) + (∑ l : Fin 16, if (l : ℕ) ≤ j then g (at2 i l) else 0)
      = pre g (16 * i + j) := by
  unfold pre
  rw [sum_places, Finset.sum_comm]
  have h2 : (∑ l : Fin 16, if (l : ℕ) ≤ j then g (at2 i l) else 0)
      = ∑ k : Fin 16, if k = i then (∑ l : Fin 16, if (l : ℕ) ≤ j then g (at2 k l) else 0) else 0 := by
    rw [Finset.sum_ite_eq' Finset.univ i, if_pos (Finset.mem_univ _)]
  rw [h2, ← Finset.sum_add_distrib]
  refine Finset.sum_congr rfl fun k _ => ?_
  by_cases hk : k = i
  · subst hk
    simp only [lt_irrefl, if_false, Finset.sum_const_zero, zero_add, if_true]
    refine Finset.sum_congr rfl fun l _ => ?_
    have : (at2 k l : ℕ) = 16 * k + l := rfl
    simp only [this, Nat.add_le_add_iff_left]
  · rw [if_neg hk, add_zero]
    refine Finset.sum_congr rfl fun l _ => ?_
    have : (at2 k l : ℕ) = 16 * k + l := rfl
    have hk' : (k : ℕ) ≠ i := fun h => hk (Fin.ext h)
    have : (k : ℕ) < i ↔ (at2 k l : ℕ) ≤ 16 * i + j := by omega
    simp only [this]

/-- The running sum from the end, by whole rows after and the part of the row. -/
theorem suf_table (g : Fin 256 → EReal) (i j : Fin 16) :
    (∑ l : Fin 16, ∑ k : Fin 16, if (i : ℕ) < k then g (at2 k l) else 0) + (∑ l : Fin 16, if (j : ℕ) ≤ l then g (at2 i l) else 0)
      = suf g (16 * i + j) := by
  unfold suf
  rw [sum_places, Finset.sum_comm]
  have h2 : (∑ l : Fin 16, if (j : ℕ) ≤ l then g (at2 i l) else 0)
      = ∑ k : Fin 16, if k = i then (∑ l : Fin 16, if (j : ℕ) ≤ l then g (at2 k l) else 0) else 0 := by
    rw [Finset.sum_ite_eq' Finset.univ i, if_pos (Finset.mem_univ _)]
  rw [h2, ← Finset.sum_add_distrib]
  refine Finset.sum_congr rfl fun k _ => ?_
  by_cases hk : k = i
  · subst hk
    simp only [lt_irrefl, if_false, Finset.sum_const_zero, zero_add, if_true]
    refine Finset.sum_congr rfl fun l _ => ?_
    have : (at2 k l : ℕ) = 16 * k + l := rfl
    simp only [this, Nat.add_le_add_iff_left]
  · rw [if_neg hk, add_zero]
    refine Finset.sum_congr rfl fun l _ => ?_
    have : (at2 k l : ℕ) = 16 * k + l := rfl
    have hk' : (k : ℕ) ≠ i := fun h => hk (Fin.ext h)
    have : (i : ℕ) < k ↔ 16 * (i : ℕ) + j ≤ (at2 k l : ℕ) := by omega
    simp only [this]

/-- Sums up to a level of nonnegative numbers are nonnegative. -/
theorem pre_nonneg (g : Fin 256 → EReal) (hg : ∀ v, 0 ≤ g v) (v : ℕ) : 0 ≤ pre g v :=
  Finset.sum_nonneg fun u _ => by split; exacts [hg u, le_rfl]
/-- Sums from a level of nonnegative numbers are nonnegative. -/
theorem suf_nonneg (g : Fin 256 → EReal) (hg : ∀ v, 0 ≤ g v) (v : ℕ) : 0 ≤ suf g v :=
  Finset.sum_nonneg fun u _ => by split; exacts [hg u, le_rfl]

/-! ## The first threshold -/

/-- The mean level up to `v`. -/
def mean1 (h b : Fin 256 → EReal) (v : ℕ) : EReal := Ideal.div (pre b v) (max (pre h v) 1)
/-- The mean level from `v` on. -/
def mean2 (h b : Fin 256 → EReal) (v : ℕ) : EReal := Ideal.div (suf b v) (max (suf h v) 1)
/-- The variance between the levels up to `v` and those after it. -/
def variance (h b : Fin 256 → EReal) (v : ℕ) : EReal :=
  pre h v * suf h (v + 1) * ((mean1 h b v - mean2 h b (v + 1)) * (mean1 h b v - mean2 h b (v + 1)))

/-- Squares are nonnegative, infinities included. -/
theorem sq_nonneg' (x : EReal) : 0 ≤ x * x := by
  rcases le_total 0 x with h | h
  · exact mul_nonneg h h
  · have h' : 0 ≤ -x := by simpa using EReal.neg_le_neg_iff.2 h
    have := mul_nonneg h' h'
    simpa using this

/-- The variance between the classes is nonnegative. -/
theorem variance_nonneg (h b : Fin 256 → EReal) (hh : ∀ v, 0 ≤ h v) (v : ℕ) : 0 ≤ variance h b v :=
  mul_nonneg (mul_nonneg (pre_nonneg h hh v) (suf_nonneg h hh _)) (sq_nonneg' _)

/-- The variance at the levels below 255 and minus one at the last. -/
def scored (h b : Fin 256 → EReal) (v : Fin 256) : EReal :=
  if (v : ℕ) < 255 then variance h b v else ((-1 : ℝ) : EReal)

/-- The least level of greatest variance, found by a greatest value and a least place that has it. -/
theorem least_place (f : Fin 256 → EReal) (v0 : Fin 256) (big : EReal) (hbig : ((255 : ℕ) : EReal) ≤ big)
    (hmax : ∀ v, f v ≤ f v0) (hfirst : ∀ v, v < v0 → f v < f v0) :
    Finset.univ.fold min ⊤ (fun v : Fin 256 => if f v = Finset.univ.fold max ⊥ f then ((v : ℕ) : EReal) else big)
      = ((v0 : ℕ) : EReal) := by
  have hm : Finset.univ.fold max ⊥ f = f v0 := by
    apply le_antisymm
    · rw [Finset.fold_max_le]; exact ⟨bot_le, fun v _ => hmax v⟩
    · rw [Finset.le_fold_max]; exact Or.inr ⟨v0, Finset.mem_univ _, le_rfl⟩
  rw [hm]
  apply le_antisymm
  · rw [Finset.fold_min_le]; exact Or.inr ⟨v0, Finset.mem_univ _, by rw [if_pos rfl]⟩
  · rw [Finset.le_fold_min]
    refine ⟨le_top, fun v _ => ?_⟩
    split
    · rename_i h
      rw [nat_le]
      by_contra hc
      exact absurd h (ne_of_lt (hfirst v (Fin.lt_def.2 (by omega))))
    · exact le_trans ((nat_le _ _).2 (by omega)) hbig

/-! ## The least level -/

/-- The least level present, over the levels and over the pixels. -/
theorem least_level {P : Type} [Fintype P] [DecidableEq P] [Nonempty P] (n : P → Fin 256) :
    ∃ p0, (∀ p, n p0 ≤ n p) ∧
      Finset.univ.fold min ⊤ (fun v : Fin 256 => if 0 < H n v then ((v : ℕ) : EReal) else ((256 : ℕ) : EReal)) = ((n p0 : ℕ) : EReal)
      ∧ Finset.univ.fold min ⊤ (fun p : P => ((n p : ℕ) : EReal)) = ((n p0 : ℕ) : EReal) := by
  obtain ⟨p0, hp0⟩ := Finite.exists_min n
  have pos : ∀ v, 0 < H n v ↔ ∃ p, n p = v := fun v => by
    rw [← cnt_pos]; unfold H
    have := nat_lt 0 (cnt n v)
    simpa using this
  refine ⟨p0, hp0, le_antisymm ?_ ?_, le_antisymm ?_ ?_⟩
  · rw [Finset.fold_min_le]; exact Or.inr ⟨n p0, Finset.mem_univ _, by rw [if_pos ((pos _).2 ⟨p0, rfl⟩)]⟩
  · rw [Finset.le_fold_min]
    refine ⟨le_top, fun v _ => ?_⟩
    split
    · rename_i h
      obtain ⟨p, rfl⟩ := (pos v).1 h
      exact (nat_le _ _).2 (Fin.le_def.1 (hp0 p))
    · exact (nat_le _ _).2 (by omega)
  · rw [Finset.fold_min_le]; exact Or.inr ⟨p0, Finset.mem_univ _, le_rfl⟩
  · rw [Finset.le_fold_min]
    exact ⟨le_top, fun p _ => (nat_le _ _).2 (Fin.le_def.1 (hp0 p))⟩

/-! ## The step -/

section step
variable {P : Type} [Fintype P] [DecidableEq P] (n : P → Fin 256) (p0 : P) (hp0 : ∀ p, n p0 ≤ n p)

/-- How many pixels pass, by pixels and by levels. -/
theorem passing (Q : Fin 256 → Prop) [DecidablePred Q] :
    (∑ v, if Q v then H n v else 0) = ∑ p, ind (Q (n p)) := by
  have e1 : (∑ v, if Q v then H n v else 0) = ((∑ v, cnt n v * (if Q v then 1 else 0) : ℕ) : EReal) := by
    rw [Nat.cast_sum]
    refine Finset.sum_congr rfl fun v _ => ?_
    unfold H; split <;> simp
  rw [e1, ← sum_levels n (fun v => if Q v then 1 else 0), Nat.cast_sum]
  exact Finset.sum_congr rfl fun p _ => (ind_nat _).symm

/-- How many pixels do not pass: all but those that do. -/
theorem failing (Q : Fin 256 → Prop) [DecidablePred Q] (hP : Fintype.card P = 262144) :
    ((262144 : ℕ) : EReal) - (∑ v, if Q v then H n v else 0) = ∑ p, ind (¬ Q (n p)) := by
  rw [passing, sum_ind, sum_ind]
  have h := Finset.card_filter_add_card_filter_not (s := (Finset.univ : Finset P)) (fun p => Q (n p))
  rw [Finset.card_univ, hP] at h
  rw [nat_sub _ _ (by omega)]
  congr 1; omega

include hp0 in
/-- The sum of the levels above the least one over the pixels that pass. -/
theorem passing_sum (Q : Fin 256 → Prop) [DecidablePred Q] :
    (∑ v, if Q v then HB n v else 0) - ((n p0 : ℕ) : EReal) * (∑ v, if Q v then H n v else 0)
      = ∑ p, if Q (n p) then ((n p : ℕ) : EReal) - ((n p0 : ℕ) : EReal) else 0 := by
  have e1 : (∑ v, if Q v then HB n v else 0) = ((∑ v, cnt n v * (if Q v then (v : ℕ) else 0) : ℕ) : EReal) := by
    rw [Nat.cast_sum]
    refine Finset.sum_congr rfl fun v _ => ?_
    unfold HB H; split
    · rw [nat_mul]
    · simp
  have e2 : (∑ v, if Q v then H n v else 0) = ((∑ p, (if Q (n p) then 1 else 0) : ℕ) : EReal) := by
    rw [passing, Nat.cast_sum]
    exact Finset.sum_congr rfl fun p _ => ind_nat _
  have e3 : (∑ p, if Q (n p) then ((n p : ℕ) : EReal) - ((n p0 : ℕ) : EReal) else 0)
      = ((∑ p, (if Q (n p) then (n p : ℕ) - (n p0 : ℕ) else 0) : ℕ) : EReal) := by
    rw [Nat.cast_sum]
    refine Finset.sum_congr rfl fun p _ => ?_
    split
    · rw [nat_sub _ _ (Fin.le_def.1 (hp0 p))]
    · simp
  have key : (∑ p, (if Q (n p) then (n p : ℕ) - (n p0 : ℕ) else 0)) + (n p0 : ℕ) * (∑ p, (if Q (n p) then 1 else 0))
      = ∑ p, (if Q (n p) then (n p : ℕ) else 0) := by
    rw [Finset.mul_sum, ← Finset.sum_add_distrib]
    refine Finset.sum_congr rfl fun p _ => ?_
    have := Fin.le_def.1 (hp0 p)
    split <;> omega
  rw [e1, e2, e3, nat_mul, ← sum_levels n (fun v => if Q v then (v : ℕ) else 0), nat_sub]
  · congr 1; omega
  · omega

end step

end Cert.Hist

end
-- ==== Proof.KTable.lean ====
/- The kernel's table of counts, read at one entry. -/
module

public import proofs.«01_k».proof.Proof.KBody
public import proofs.«01_k».proof.Proof.Hist
public import Idealize.ShloMosaic.Lib.Pointwise

@[expose] public section

set_option maxRecDepth 16384

noncomputable section

namespace Cert.KernelIdeal.Table

open Cert.KernelIdeal Cert.KernelIdeal.Gen Cert.KernelIdeal.Body Cert.Nums Cert.Hist
open Idealize.ShloMosaic Idealize.ShloMosaic.TcCoe Idealize.ShloMosaic.Tactic

/-- A small whole number turned into a float. -/
theorem sitofp_small (k : ℕ) (h : k < 2 ^ 31) :
    FloatOps.sitofp (F := Ideal) .f32 (BitVec.ofNat 32 k) = ((k : ℕ) : EReal) := by
  have e : (BitVec.ofNat 32 k).toInt = (k : ℤ) := by
    rw [BitVec.toInt_eq_toNat_bmod, BitVec.toNat_ofNat, Int.bmod_def]; omega
  show (((BitVec.ofNat 32 k).toInt : ℝ) : EReal) = _
  rw [e, nat_real]
  norm_num

/-- The sixteen numbers the table's coordinates are compared with. -/
theorem pay8_eq (i : Fin 16) : k0_pay8 (F := Ideal) (ix3 0 i 0) = ((i : ℕ) : EReal) := by
  unfold k0_pay8
  pointwise
  exact sitofp_small _ (by omega)

/-- The level a table entry counts, as a float. -/
theorem pay20_eq (i j : Fin 16) : k0_pay20 (F := Ideal) (ix2 i j) = ((at2 i j : ℕ) : EReal) := by
  unfold k0_pay20
  pointwise
  have e : IntOp.addi (IntOp.muli (16#32) (BitVec.ofNat 32 i)) (BitVec.ofNat 32 j) = BitVec.ofNat 32 (16 * i + j) := by
    apply BitVec.eq_of_toNat_eq
    simp [IntOp.addi, IntOp.muli]
  rw [e]
  exact sitofp_small _ (by omega)

/-- Five hundred and twelve rows as eight bands of sixty-four. -/
theorem sum512 (g : Fin 512 → EReal) : ∑ r, g r
    = (∑ x : Fin 64, g ⟨x, by omega⟩) + (∑ x : Fin 64, g ⟨64 + x, by omega⟩) + (∑ x : Fin 64, g ⟨128 + x, by omega⟩)
      + (∑ x : Fin 64, g ⟨192 + x, by omega⟩) + (∑ x : Fin 64, g ⟨256 + x, by omega⟩)
      + (∑ x : Fin 64, g ⟨320 + x, by omega⟩) + (∑ x : Fin 64, g ⟨384 + x, by omega⟩)
      + (∑ x : Fin 64, g ⟨448 + x, by omega⟩) := by
  rw [Fin.sum_univ_add (a := 448) (b := 64) g, Fin.sum_univ_add (a := 384) (b := 64),
    Fin.sum_univ_add (a := 320) (b := 64), Fin.sum_univ_add (a := 256) (b := 64),
    Fin.sum_univ_add (a := 192) (b := 64), Fin.sum_univ_add (a := 128) (b := 64),
    Fin.sum_univ_add (a := 64) (b := 64)]
  rfl

variable (x0 : Vec Ideal S1x512x512 .f32) (n : Fin 512 × Fin 512 → Fin 256)

/-- The kernel's rescaled image holds the levels `n`. -/
abbrev Holds : Prop := ∀ r c, k0_pay5 (F := Ideal) x0 (ix2 r c) = ((n (r, c) : ℕ) : EReal)

variable {x0 n} (hn : Holds x0 n)
include hn

/-- The upper half of a pixel's level. -/
theorem pay6_eq (r c : Fin 512) : k0_pay6 (F := Ideal) x0 (ix2 r c) = (((n (r, c) : ℕ) / 16 : ℕ) : EReal) := by
  unfold k0_pay6
  pointwise
  rw [hn r c, csixteenth]
  exact coarse _

/-- The lower half of a pixel's level. -/
theorem pay7_eq (r c : Fin 512) : k0_pay7 (F := Ideal) x0 (ix2 r c) = (((n (r, c) : ℕ) % 16 : ℕ) : EReal) := by
  unfold k0_pay7
  pointwise
  rw [hn r c, pay6_eq hn r c, c16]
  exact fine _

/-- One pixel's contribution to one entry. -/
theorem contribution (r c : Fin 512) (i j : Fin 16) :
    FloatOps.sitofp (F := Ideal) .f32 (BitVec.setWidth 32 (BitVec.ofBool (decide (k0_pay6 (F := Ideal) x0 (ix2 r c) = k0_pay8 (F := Ideal) (ix3 0 i 0)))))
      * FloatOps.sitofp (F := Ideal) .f32 (BitVec.setWidth 32 (BitVec.ofBool (decide (k0_pay7 (F := Ideal) x0 (ix2 r c) = k0_pay8 (F := Ideal) (ix3 0 j 0)))))
      = ind (n (r, c) = at2 i j) := by
  rw [ind_word, ind_word, ind_mul, pay6_eq hn, pay7_eq hn, pay8_eq, pay8_eq]
  unfold ind
  rw [← ite_and]
  refine if_congr ?_ rfl rfl
  rw [nat_inj, nat_inj, Fin.ext_iff]
  have h1 : (n (r, c) : ℕ) < 256 := (n (r, c)).isLt
  show _ ↔ (n (r, c) : ℕ) = 16 * (i : ℕ) + j
  omega

/-- The table after the first rows of the image. -/
theorem part9 (i j : Fin 16) : k0_pay9 (F := Ideal) x0 (ix2 i j)
    = ∑ x : Fin 64, ∑ y : Fin 512, ind (n (⟨x, by omega⟩, y) = at2 i j) := by
  unfold k0_pay9
  pointwise
  simp only [contribution hn]

/-- The table after the next rows. -/
theorem part12 (d : FVec Ideal S16x16 .f32) (i j : Fin 16) :
    k0_pay12 (F := Ideal) (k0_pay6 x0) (k0_pay7 x0) k0_pay8 d (k0_pay10 x0) (k0_pay11 x0) (ix2 i j)
    = d (ix2 i j) + (∑ x : Fin 64, ∑ y : Fin 512, ind (n (⟨64 + x, by omega⟩, y) = at2 i j))
      + (∑ x : Fin 64, ∑ y : Fin 512, ind (n (⟨128 + x, by omega⟩, y) = at2 i j))
      + (∑ x : Fin 64, ∑ y : Fin 512, ind (n (⟨192 + x, by omega⟩, y) = at2 i j)) := by
  unfold k0_pay12 k0_pay10 k0_pay11
  pointwise
  simp only [contribution hn]

/-- The table after the rows that follow. -/
theorem part16 (d : FVec Ideal S16x16 .f32) (i j : Fin 16) :
    k0_pay16 (F := Ideal) (k0_pay6 x0) (k0_pay7 x0) k0_pay8 d (k0_pay13 (k0_pay7 x0)) (k0_pay14 (k0_pay6 x0)) (k0_pay15 k0_pay8) (ix2 i j)
    = d (ix2 i j) + (∑ x : Fin 64, ∑ y : Fin 512, ind (n (⟨256 + x, by omega⟩, y) = at2 i j))
      + (∑ x : Fin 64, ∑ y : Fin 512, ind (n (⟨320 + x, by omega⟩, y) = at2 i j))
      + (∑ x : Fin 64, ∑ y : Fin 512, ind (n (⟨384 + x, by omega⟩, y) = at2 i j)) := by
  unfold k0_pay16 k0_pay13 k0_pay14 k0_pay15
  pointwise
  simp only [contribution hn]

/-- The table after the last rows. -/
theorem part19 (d : FVec Ideal S16x16 .f32) (i j : Fin 16) :
    k0_pay19 (F := Ideal) k0_pay8 d (k0_pay17 (k0_pay7 x0)) (k0_pay18 (k0_pay6 x0) k0_pay8) (ix2 i j)
    = d (ix2 i j) + (∑ x : Fin 64, ∑ y : Fin 512, ind (n (⟨448 + x, by omega⟩, y) = at2 i j)) := by
  unfold k0_pay19 k0_pay17 k0_pay18
  pointwise
  simp only [contribution hn]

/-- The table counts the levels. -/
theorem table_eq (i j : Fin 16) : table (F := Ideal) x0 (ix2 i j) = H n (at2 i j) := by
  have e : H n (at2 i j) = ∑ r : Fin 512, ∑ y : Fin 512, ind (n (r, y) = at2 i j) := by
    rw [H, cnt, ← sum_ind, Fintype.sum_prod_type]
  unfold table partCounts
  rw [part19 hn, part16 hn, part12 hn, part9 hn, e, sum512 (fun r => ∑ y : Fin 512, ind (n (r, y) = at2 i j))]

end Cert.KernelIdeal.Table

end
-- ==== Proof.Step.lean ====
/- The threshold as a function of the levels of the pixels: what both programs compute. -/
module

public import proofs.«01_k».proof.Proof.Hist

@[expose] public section

noncomputable section

namespace Cert.Step

open Cert.Nums Cert.Hist
open Idealize.ShloMosaic

variable {P : Type} [Fintype P]

/-- The sum of the shifted levels above `t`. -/
def sumIn (n : P → Fin 256) (m t : EReal) : EReal :=
  ∑ p, if t < ((n p : ℕ) : EReal) - m then ((n p : ℕ) : EReal) - m else 0
/-- How many shifted levels are above `t`. -/
def numIn (n : P → Fin 256) (m t : EReal) : EReal := ∑ p, ind (t < ((n p : ℕ) : EReal) - m)
/-- The sum of the shifted levels that are not above `t`. -/
def sumOut (n : P → Fin 256) (m t : EReal) : EReal :=
  ∑ p, if ¬ t < ((n p : ℕ) : EReal) - m then ((n p : ℕ) : EReal) - m else 0
/-- How many shifted levels are not above `t`. -/
def numOut (n : P → Fin 256) (m t : EReal) : EReal := ∑ p, ind (¬ t < ((n p : ℕ) : EReal) - m)

/-- The next threshold from the two means and the threshold now. -/
def nextOf (x y t : EReal) : EReal :=
  if Scalar.absf (F := Ideal) (φ := .f32) (y - x) < Ideal.ofBits FTy.f32 730643660#32 then t
  else Ideal.div (y - x)
    (if Scalar.absf (F := Ideal) (φ := .f32) (Scalar.log (F := Ideal) (φ := .f32) (max y (Ideal.ofBits FTy.f32 730643660#32))
        - Scalar.log (F := Ideal) (φ := .f32) (max x (Ideal.ofBits FTy.f32 730643660#32))) < Ideal.ofBits FTy.f32 730643660#32
      then Ideal.ofBits FTy.f32 730643660#32
      else Scalar.log (F := Ideal) (φ := .f32) (max y (Ideal.ofBits FTy.f32 730643660#32))
        - Scalar.log (F := Ideal) (φ := .f32) (max x (Ideal.ofBits FTy.f32 730643660#32)))

/-- One step of the threshold. -/
def next (n : P → Fin 256) (m t : EReal) : EReal :=
  nextOf (Ideal.div (sumIn n m t) (max (numIn n m t) 1)) (Ideal.div (sumOut n m t) (max (numOut n m t) 1)) t

/-- A level from which on no level has a greater variance, and before which all have a smaller one. -/
def Peak (n : P → Fin 256) (v0 : Fin 256) : Prop :=
  (∀ v, scored (H n) (HB n) v ≤ scored (H n) (HB n) v0) ∧ ∀ v, v < v0 → scored (H n) (HB n) v < scored (H n) (HB n) v0

/-- The threshold the search starts from, shifted by the least level. -/
def start (v0 : Fin 256) (m : EReal) : EReal :=
  min ((254 : ℕ) : EReal) (max 1 ((v0 : ℕ) : EReal)) - m

/-- The threshold after the forty steps. -/
def final (n : P → Fin 256) (v0 : Fin 256) (m : EReal) : EReal := (next n m)^[40] (start v0 m)

/-- Repeating a step over a list of places is iterating it. -/
theorem fold_iterate {α : Type} (k : ℕ) (f : α → α) (x : α) :
    (List.finRange k).foldl (fun acc _ => f acc) x = f^[k] x := by
  have : ∀ (l : List (Fin k)) (x : α), l.foldl (fun acc _ => f acc) x = f^[l.length] x := by
    intro l
    induction l with
    | nil => intro x; rfl
    | cons a l ih => intro x; rw [List.foldl_cons, ih, List.length_cons, Function.iterate_succ_apply]
  rw [this, List.length_finRange]

/-- Folding over the table's places is folding over the levels. -/
theorem fold_places (op : EReal → EReal → EReal) [Std.Commutative op] [Std.Associative op] (b : EReal) (g : Fin 256 → EReal) :
    Finset.univ.fold op b (fun x : Fin 16 × Fin 16 => g (at2 x.1 x.2)) = Finset.univ.fold op b g := by
  rw [← Finset.map_univ_equiv places, Finset.fold_map]
  rfl

end Cert.Step

end
-- ==== Proof.KThresh.lean ====
/- The kernel's threshold, read from its table of counts. -/
module

public import proofs.«01_k».proof.Proof.KTable
public import proofs.«01_k».proof.Proof.Step

@[expose] public section

set_option maxRecDepth 16384

noncomputable section

namespace Cert.KernelIdeal.Thresh

open Cert.KernelIdeal Cert.KernelIdeal.Gen Cert.KernelIdeal.Body Cert.KernelIdeal.Table Cert.Nums Cert.Hist Cert.Step
open Idealize.ShloMosaic Idealize.ShloMosaic.TcCoe Idealize.ShloMosaic.Tactic

/-- A small number's word reads back as the number. -/
theorem toInt_small (k : ℕ) (h : k < 2 ^ 31) : (BitVec.ofNat 32 k).toInt = (k : ℤ) := by
  rw [BitVec.toInt_eq_toNat_bmod, BitVec.toNat_ofNat, Int.bmod_def]; omega

/-- Table positions compare as their words: less. -/
theorem slt_word (a b : Fin 16) : IntOp.cmpi .slt (BitVec.ofNat 32 a) (BitVec.ofNat 32 b) = BitVec.ofBool (decide ((a : ℕ) < b)) := by
  show BitVec.ofBool (BitVec.slt _ _) = _
  rw [BitVec.slt_eq_decide, toInt_small _ (by omega), toInt_small _ (by omega)]
  simp only [Nat.cast_lt]
/-- Table positions compare as their words: at most. -/
theorem sle_word (a b : Fin 16) : IntOp.cmpi .sle (BitVec.ofNat 32 a) (BitVec.ofNat 32 b) = BitVec.ofBool (decide ((a : ℕ) ≤ b)) := by
  show BitVec.ofBool (BitVec.sle _ _) = _
  rw [BitVec.sle_eq_decide, toInt_small _ (by omega), toInt_small _ (by omega)]
  simp only [Nat.cast_le]
/-- Table positions compare as their words: greater. -/
theorem sgt_word (a b : Fin 16) : IntOp.cmpi .sgt (BitVec.ofNat 32 a) (BitVec.ofNat 32 b) = BitVec.ofBool (decide ((b : ℕ) < a)) :=
  slt_word b a
/-- Table positions compare as their words: at least. -/
theorem sge_word (a b : Fin 16) : IntOp.cmpi .sge (BitVec.ofNat 32 a) (BitVec.ofNat 32 b) = BitVec.ofBool (decide ((b : ℕ) ≤ a)) :=
  sle_word b a

/-- The matrix of ones on and above the diagonal. -/
theorem pay21_eq (i j : Fin 16) : k0_pay21 (F := Ideal) (ix2 i j) = ind ((i : ℕ) ≤ j) := by
  unfold k0_pay21; pointwise; rw [sle_word, ind_word]
/-- The matrix of ones on and below the diagonal. -/
theorem pay22_eq (i j : Fin 16) : k0_pay22 (F := Ideal) (ix2 i j) = ind ((j : ℕ) ≤ i) := by
  unfold k0_pay22; pointwise; rw [sge_word, ind_word]
/-- The matrix of ones above the diagonal. -/
theorem pay23_eq (i j : Fin 16) : k0_pay23 (F := Ideal) (ix2 i j) = ind ((i : ℕ) < j) := by
  unfold k0_pay23; pointwise; rw [slt_word, ind_word]
/-- The matrix of ones below the diagonal. -/
theorem pay24_eq (i j : Fin 16) : k0_pay24 (F := Ideal) (ix2 i j) = ind ((j : ℕ) < i) := by
  unfold k0_pay24; pointwise; rw [sgt_word, ind_word]
/-- The matrix of ones. -/
theorem pay25_eq (i j : Fin 16) : k0_pay25 (F := Ideal) (ix2 i j) = 1 := by
  unfold k0_pay25; pointwise

/-- A matrix product of two tables, read at one entry. -/
theorem mm_eq (A B : FVec Ideal S16x16 .f32) (i j : Fin 16) :
    matmul (F := Ideal) dot_S16x16_S16x16_S16x16_1_0_0_1_n_n none A B (constant S16x16 .f32 0x00000000#32) (ix2 i j)
      = ∑ l : Fin 16, A (ix2 i l) * B (ix2 l j) := by
  pointwise

section sums
variable (v20 : FVec Ideal S1x16x1 .f32) (v140 : FVec Ideal S16x16 .f32) (v144 : FVec Ideal S64x1x512 .f32)
  (v149 : FVec Ideal S64x16x512 .f32) (g : Fin 256 → EReal)

/-- The counts up to a level, as the matrix products give them. -/
theorem pay27_sums (h : ∀ i j, k0_pay19 (F := Ideal) v20 v140 v144 v149 (ix2 i j) = g (at2 i j)) (i j : Fin 16) :
    k0_pay27 (F := Ideal) v20 v140 v144 v149 (ix2 i j) = pre g (at2 i j) := by
  unfold k0_pay27
  generalize k0_pay19 (F := Ideal) v20 v140 v144 v149 = T at h
  rw [addf_apply, mm_eq, mm_eq]
  simp only [mm_eq, h, pay24_eq, pay21_eq, pay25_eq, mul_one, ind_mul, mul_ind]
  exact pre_table g i j

/-- The counts from a level, as the matrix products give them. -/
theorem pay28_sums (h : ∀ i j, k0_pay19 (F := Ideal) v20 v140 v144 v149 (ix2 i j) = g (at2 i j)) (i j : Fin 16) :
    k0_pay28 (F := Ideal) v20 v140 v144 v149 (ix2 i j) = suf g (at2 i j) := by
  unfold k0_pay28
  generalize k0_pay19 (F := Ideal) v20 v140 v144 v149 = T at h
  rw [addf_apply, mm_eq, mm_eq]
  simp only [mm_eq, h, pay23_eq, pay22_eq, pay25_eq, mul_one, ind_mul, mul_ind]
  exact suf_table g i j

/-- The weighted counts up to a level, as the matrix products give them. -/
theorem pay29_sums (h : ∀ i j, k0_pay26 (F := Ideal) v20 v140 v144 v149 (ix2 i j) = g (at2 i j)) (i j : Fin 16) :
    k0_pay29 (F := Ideal) v20 v140 v144 v149 (ix2 i j) = pre g (at2 i j) := by
  unfold k0_pay29
  generalize k0_pay26 (F := Ideal) v20 v140 v144 v149 = T at h
  rw [addf_apply, mm_eq, mm_eq]
  simp only [mm_eq, h, pay24_eq, pay21_eq, pay25_eq, mul_one, ind_mul, mul_ind]
  exact pre_table g i j

/-- The weighted counts from a level, as the matrix products give them. -/
theorem pay30_sums (h : ∀ i j, k0_pay26 (F := Ideal) v20 v140 v144 v149 (ix2 i j) = g (at2 i j)) (i j : Fin 16) :
    k0_pay30 (F := Ideal) v20 v140 v144 v149 (ix2 i j) = suf g (at2 i j) := by
  unfold k0_pay30
  generalize k0_pay26 (F := Ideal) v20 v140 v144 v149 = T at h
  rw [addf_apply, mm_eq, mm_eq]
  simp only [mm_eq, h, pay23_eq, pay22_eq, pay25_eq, mul_one, ind_mul, mul_ind]
  exact suf_table g i j

end sums

section reads
variable {P : Type} [Fintype P] [DecidableEq P] (n : P → Fin 256)

/-- The first threshold from the running sums: the peak's level, held between 1 and 254. -/
theorem pay31_read (bc a b c d : FVec Ideal S16x16 .f32) (hbc : ∀ i j, bc (ix2 i j) = ((at2 i j : ℕ) : EReal))
    (ha : ∀ i j, a (ix2 i j) = pre (H n) (at2 i j)) (hb : ∀ i j, b (ix2 i j) = suf (H n) (at2 i j))
    (hc : ∀ i j, c (ix2 i j) = pre (HB n) (at2 i j)) (hd : ∀ i j, d (ix2 i j) = suf (HB n) (at2 i j))
    (v0 : Fin 256) (hv : Peak n v0) :
    k0_pay31 (F := Ideal) bc a b c d = min ((254 : ℕ) : EReal) (max 1 ((v0 : ℕ) : EReal)) := by
  have key : ∀ x : Fin 16 × Fin 16,
      (if ((at2 x.1 x.2 : ℕ) : EReal) < ((255 : ℕ) : EReal) then
        (pre (H n) (at2 x.1 x.2) *
          if h : (x.2 : ℕ) < 15 then suf (H n) (at2 x.1 ⟨1 + x.2, by omega⟩)
          else if h1 : (x.1 : ℕ) < 15 then suf (H n) (at2 ⟨1 + x.1, by omega⟩ ⟨x.2 - 15, by omega⟩) else 0) *
        ((Ideal.div (pre (HB n) (at2 x.1 x.2)) (max (pre (H n) (at2 x.1 x.2)) 1) -
            if h : (x.2 : ℕ) < 15 then Ideal.div (suf (HB n) (at2 x.1 ⟨1 + x.2, by omega⟩)) (max (suf (H n) (at2 x.1 ⟨1 + x.2, by omega⟩)) 1)
            else if h1 : (x.1 : ℕ) < 15 then Ideal.div (suf (HB n) (at2 ⟨1 + x.1, by omega⟩ ⟨x.2 - 15, by omega⟩)) (max (suf (H n) (at2 ⟨1 + x.1, by omega⟩ ⟨x.2 - 15, by omega⟩)) 1) else 0) *
          (Ideal.div (pre (HB n) (at2 x.1 x.2)) (max (pre (H n) (at2 x.1 x.2)) 1) -
            if h : (x.2 : ℕ) < 15 then Ideal.div (suf (HB n) (at2 x.1 ⟨1 + x.2, by omega⟩)) (max (suf (H n) (at2 x.1 ⟨1 + x.2, by omega⟩)) 1)
            else if h1 : (x.1 : ℕ) < 15 then Ideal.div (suf (HB n) (at2 ⟨1 + x.1, by omega⟩ ⟨x.2 - 15, by omega⟩)) (max (suf (H n) (at2 ⟨1 + x.1, by omega⟩ ⟨x.2 - 15, by omega⟩)) 1) else 0))
      else ((-1 : ℝ) : EReal)) = scored (H n) (HB n) (at2 x.1 x.2) := by
    rintro ⟨i, j⟩
    unfold scored
    refine if_ctx_congr (nat_lt _ _) (fun hlt => ?_) (fun _ => rfl)
    unfold variance mean1 mean2
    have hv' : 16 * (i : ℕ) + j < 255 := hlt
    by_cases hj : (j : ℕ) < 15
    · have e : ((at2 i ⟨1 + j, by omega⟩ : Fin 256) : ℕ) = (at2 i j : ℕ) + 1 := by
        show 16 * (i : ℕ) + (1 + j) = 16 * i + j + 1; omega
      simp only [dif_pos hj, e]
    · have hi : (i : ℕ) < 15 := by omega
      have e : ((at2 ⟨1 + i, by omega⟩ ⟨j - 15, by omega⟩ : Fin 256) : ℕ) = (at2 i j : ℕ) + 1 := by
        show 16 * (1 + (i : ℕ)) + (j - 15) = 16 * i + j + 1; omega
      simp only [dif_neg hj, dif_pos hi, e]
  unfold k0_pay31
  pointwise
  simp only [ha, hb, hc, hd, hbc, c255, cneg1, cbot, ctop, c1e9, c254]
  simp only [key]
  rw [fold_places max ⊥ (scored (H n) (HB n)),
    fold_places min ⊤ (fun v => if scored (H n) (HB n) v = Finset.univ.fold max ⊥ (scored (H n) (HB n)) then ((v : ℕ) : EReal) else ((1000000000 : ℕ) : EReal)),
    least_place _ v0 _ ((nat_le _ _).2 (by norm_num)) hv.1 hv.2]
/-- The least level present, from the counts. -/
theorem pay32_read (h bc : FVec Ideal S16x16 .f32) (hbc : ∀ i j, bc (ix2 i j) = ((at2 i j : ℕ) : EReal))
    (hh : ∀ i j, h (ix2 i j) = H n (at2 i j)) (p0 : P) (hp : ∀ p, n p0 ≤ n p) :
    k0_pay32 (F := Ideal) h bc = ((n p0 : ℕ) : EReal) := by
  haveI : Nonempty P := ⟨p0⟩
  obtain ⟨q, hq, h1, -⟩ := least_level n
  unfold k0_pay32
  pointwise
  simp only [hh, hbc, ctop, c256]
  rw [fold_places min ⊤ (fun v => if 0 < H n v then ((v : ℕ) : EReal) else ((256 : ℕ) : EReal)), h1,
    le_antisymm (hq p0) (hp q)]

/-- One step of the threshold, from the counts. -/
theorem pay2_read (h bc hb : FVec Ideal S16x16 .f32) (hbc : ∀ i j, bc (ix2 i j) = ((at2 i j : ℕ) : EReal))
    (hh : ∀ i j, h (ix2 i j) = H n (at2 i j)) (hhb : ∀ i j, hb (ix2 i j) = HB n (at2 i j)) (card : Fintype.card P = 262144)
    (p0 : P) (hp : ∀ p, n p0 ≤ n p) (t : EReal) :
    k0_pay2 (F := Ideal) h bc hb ((n p0 : ℕ) : EReal) t = next n ((n p0 : ℕ) : EReal) t := by
  have hQ : (∑ i : Fin 16, ∑ j : Fin 16, if t < ((at2 i j : ℕ) : EReal) - ((n p0 : ℕ) : EReal) then H n (at2 i j) else 0)
      = ∑ v : Fin 256, if t < ((v : ℕ) : EReal) - ((n p0 : ℕ) : EReal) then H n v else 0 :=
    (sum_places (fun v : Fin 256 => if t < ((v : ℕ) : EReal) - ((n p0 : ℕ) : EReal) then H n v else 0)).symm
  have hB : (∑ i : Fin 16, ∑ j : Fin 16, if t < ((at2 i j : ℕ) : EReal) - ((n p0 : ℕ) : EReal) then HB n (at2 i j) else 0)
      = ∑ v : Fin 256, if t < ((v : ℕ) : EReal) - ((n p0 : ℕ) : EReal) then HB n v else 0 :=
    (sum_places (fun v : Fin 256 => if t < ((v : ℕ) : EReal) - ((n p0 : ℕ) : EReal) then HB n v else 0)).symm
  have hC : (∑ i : Fin 16, ∑ j : Fin 16, if ¬ t < ((at2 i j : ℕ) : EReal) - ((n p0 : ℕ) : EReal) then HB n (at2 i j) else 0)
      = ∑ v : Fin 256, if ¬ t < ((v : ℕ) : EReal) - ((n p0 : ℕ) : EReal) then HB n v else 0 :=
    (sum_places (fun v : Fin 256 => if ¬ t < ((v : ℕ) : EReal) - ((n p0 : ℕ) : EReal) then HB n v else 0)).symm
  have f1 := passing n (fun v : Fin 256 => t < ((v : ℕ) : EReal) - ((n p0 : ℕ) : EReal))
  have f2 := failing n (fun v : Fin 256 => t < ((v : ℕ) : EReal) - ((n p0 : ℕ) : EReal)) card
  have f3 := passing_sum n p0 hp (fun v : Fin 256 => t < ((v : ℕ) : EReal) - ((n p0 : ℕ) : EReal))
  have f4 := passing_sum n p0 hp (fun v : Fin 256 => ¬ t < ((v : ℕ) : EReal) - ((n p0 : ℕ) : EReal))
  rw [passing n (fun v : Fin 256 => ¬ t < ((v : ℕ) : EReal) - ((n p0 : ℕ) : EReal))] at f4
  rw [passing n (fun v : Fin 256 => t < ((v : ℕ) : EReal) - ((n p0 : ℕ) : EReal))] at f2 f3
  unfold k0_pay2
  pointwise
  simp only [hh, hhb, hbc, ind_word, one_sub_ind, mul_ind, add_lt_nat, c262144]
  simp only [hQ, hB, hC, f1, f2, f3, f4]
  rfl

end reads

variable {x0 : Vec Ideal S1x512x512 .f32} {n : Fin 512 × Fin 512 → Fin 256} (hn : Holds x0 n)
include hn

/-- The second table holds counts times levels. -/
theorem table2_eq (i j : Fin 16) : table2 (F := Ideal) x0 (ix2 i j) = HB n (at2 i j) := by
  have h := table_eq hn i j
  unfold table at h
  unfold table2 k0_pay26
  pointwise
  rw [h, pay20_eq]
  rfl

/-- The counts up to a level. -/
theorem pay27_eq (i j : Fin 16) : k0_pay27 (F := Ideal) k0_pay8 (partCounts x0) (k0_pay17 (k0_pay7 x0)) (k0_pay18 (k0_pay6 x0) k0_pay8) (ix2 i j)
    = pre (H n) (at2 i j) := by
  exact pay27_sums _ _ _ _ (H n) (table_eq hn) i j

/-- The counts from a level. -/
theorem pay28_eq (i j : Fin 16) : k0_pay28 (F := Ideal) k0_pay8 (partCounts x0) (k0_pay17 (k0_pay7 x0)) (k0_pay18 (k0_pay6 x0) k0_pay8) (ix2 i j)
    = suf (H n) (at2 i j) := by
  exact pay28_sums _ _ _ _ (H n) (table_eq hn) i j

/-- The weighted counts up to a level. -/
theorem pay29_eq (i j : Fin 16) : k0_pay29 (F := Ideal) k0_pay8 (partCounts x0) (k0_pay17 (k0_pay7 x0)) (k0_pay18 (k0_pay6 x0) k0_pay8) (ix2 i j)
    = pre (HB n) (at2 i j) := by
  exact pay29_sums _ _ _ _ (HB n) (table2_eq hn) i j

/-- The weighted counts from a level. -/
theorem pay30_eq (i j : Fin 16) : k0_pay30 (F := Ideal) k0_pay8 (partCounts x0) (k0_pay17 (k0_pay7 x0)) (k0_pay18 (k0_pay6 x0) k0_pay8) (ix2 i j)
    = suf (HB n) (at2 i j) := by
  exact pay30_sums _ _ _ _ (HB n) (table2_eq hn) i j

/-- The first threshold is the peak's level, held between 1 and 254. -/
theorem first_eq (v0 : Fin 256) (hv : Peak n v0) : first (F := Ideal) x0 = min ((254 : ℕ) : EReal) (max 1 ((v0 : ℕ) : EReal)) := by
  exact pay31_read n _ _ _ _ _ pay20_eq (pay27_eq hn) (pay28_eq hn) (pay29_eq hn) (pay30_eq hn) v0 hv

/-- The least level present. -/
theorem low_eq (p0 : Fin 512 × Fin 512) (hp : ∀ p, n p0 ≤ n p) : low (F := Ideal) x0 = ((n p0 : ℕ) : EReal) := by
  exact pay32_read n _ _ pay20_eq (table_eq hn) p0 hp

/-- One step of the kernel's threshold. -/
theorem step_eq (p0 : Fin 512 × Fin 512) (hp : ∀ p, n p0 ≤ n p) (t : EReal) :
    k0_pay2 (F := Ideal) (table x0) k0_pay20 (table2 x0) ((n p0 : ℕ) : EReal) t = next n ((n p0 : ℕ) : EReal) t := by
  exact pay2_read n _ _ _ pay20_eq (table_eq hn) (table2_eq hn) (by simp) p0 hp t

/-- The threshold after the forty steps. -/
theorem refined_eq (v0 : Fin 256) (hv : Peak n v0) (p0 : Fin 512 × Fin 512) (hp : ∀ p, n p0 ≤ n p) :
    refined (F := Ideal) x0 = final n v0 ((n p0 : ℕ) : EReal) := by
  unfold refined
  rw [low_eq hn p0 hp, Scf.fold_eq, first_eq hn v0 hv]
  rw [show (fun (acc : Ideal .f32) (k : Fin k0_t1_loop.trips) => k0_pay2 (F := Ideal) (table x0) k0_pay20 (table2 x0) ((n p0 : ℕ) : EReal) acc)
    = fun acc _ => next n ((n p0 : ℕ) : EReal) acc from funext fun acc => funext fun _ => step_eq hn p0 hp acc]
  rw [fold_iterate]
  rfl

end Cert.KernelIdeal.Thresh

end
-- ==== Proof.KTotal.lean ====
/- The sum of a whole plane, as the kernel's reduction writes it. -/
module

public import proofs.«01_k».proof.Proof.KBody
public import Idealize.ShloMosaic.Lib.Pointwise

@[expose] public section

set_option maxRecDepth 16384

noncomputable section

namespace Cert.KernelIdeal.Total

open Cert.KernelIdeal Cert.KernelIdeal.Gen
open Idealize.ShloMosaic Idealize.ShloMosaic.TcCoe Idealize.ShloMosaic.Tactic

/-- The kernel's sum over a plane is the sum over its rows and columns. -/
theorem total_eq (x : FVec Ideal S512x512 .f32) :
    extractAt ![0, 0, 0] (shapeCast S1x1x1 (multiReduction (F := Ideal) .add [1, 2] S1 (shapeCast S1x512x512 x shapeCasts_S512x512_S1x512x512)
      0x00000000#32 reduces_S1x512x512_S1 (.inl rfl) rfl) shapeCasts_S1_S1x1x1) inpos_S1x1x1_p0_0_0
      = ∑ r : Fin 512, ∑ c : Fin 512, x (ix2 r c) := by
  pointwise

end Cert.KernelIdeal.Total

end
-- ==== Proof.Ranks.lean ====
/- The place of each score in a stable descending sort, the hundred greatest of a mask, and the search by halving that
   finds the same ones. -/
module

public import proofs.«01_k».proof.Proof.Nums
public import Idealize.ShloMosaic.Lib.SortFacts
public import Idealize.ShloMosaic.Lib.PlanTiles.StableSort

@[expose] public section

noncomputable section

namespace Cert.Ranks

open Idealize.ShloMosaic Cert.Nums

variable {n : ℕ}

/-- `q` comes before `p`: its score is greater, or equal and `q` stands first. -/
def bef (f : Fin n → EReal) (q p : Fin n) : Prop := f p < f q ∨ (f q = f p ∧ q < p)

open Classical in
/-- How many come before `p`. -/
def rank (f : Fin n → EReal) (p : Fin n) : ℕ := (Finset.univ.filter fun q => bef f q p).card

/-- The positions in a stable descending sort. -/
def sorted (f : Fin n → EReal) (k : Fin n) : Fin n := sortedFrom (fun a b => decide (f b < f a)) k

/-- No position comes before itself. -/
theorem bef_irrefl (f : Fin n → EReal) (p : Fin n) : ¬ bef f p p := by
  rintro (h | ⟨_, h⟩)
  · exact lt_irrefl _ h
  · exact lt_irrefl _ h

/-- Of two positions at most one comes before the other. -/
theorem bef_asymm (f : Fin n → EReal) {p q : Fin n} (h : bef f p q) : ¬ bef f q p := by
  rintro (h' | ⟨e, h'⟩) <;> rcases h with h | ⟨e2, h⟩
  · exact lt_asymm h h'
  · exact absurd h' (by rw [e2]; exact lt_irrefl _)
  · exact absurd h (by rw [e]; exact lt_irrefl _)
  · exact lt_asymm h h'

open Classical in
/-- A number per position ordered as the scores are. -/
def low (f : Fin n → EReal) (a : Fin n) : ℕ := (Finset.univ.filter fun c => f c < f a).card

open Classical in
/-- The reversed order of two scores. -/
theorem low_lt (f : Fin n → EReal) (a b : Fin n) : low f b < low f a ↔ f b < f a := by
  constructor
  · intro h
    by_contra hc
    have hc := not_lt.1 hc
    refine absurd h (not_lt.2 (Finset.card_le_card fun c hm => ?_))
    exact Finset.mem_filter.2 ⟨Finset.mem_univ _, lt_of_lt_of_le (Finset.mem_filter.1 hm).2 hc⟩
  · intro h
    refine Finset.card_lt_card ⟨fun c hm => ?_, fun hs => ?_⟩
    · exact Finset.mem_filter.2 ⟨Finset.mem_univ _, lt_trans (Finset.mem_filter.1 hm).2 h⟩
    · have := hs (Finset.mem_filter.2 ⟨Finset.mem_univ b, h⟩)
      exact lt_irrefl _ (Finset.mem_filter.1 this).2

/-- The sort keeps its order: an earlier place holds one that comes before. -/
theorem sorted_bef (f : Fin n → EReal) (i k : Fin n) (h : i < k) : bef f (sorted f i) (sorted f k) := by
  have e : (fun a b : Fin n => decide (f b < f a)) = fun a b => decide (low f b < low f a) := by
    funext a b; simp only [low_lt]
  have hp := PlanTiles.pairwise_stableSort_lex (low f) (· < ·) (List.finRange n) (List.pairwise_lt_finRange n)
  have hg := List.pairwise_iff_get.mp hp
  have := hg (i.cast (length_sortPositions n _).symm) (k.cast (length_sortPositions n _).symm) (by
    simp only [Fin.lt_def, Fin.val_cast]; exact h)
  unfold sorted sortedFrom
  rw [e]
  rcases this with h1 | ⟨h1, h2⟩
  · exact Or.inl ((low_lt f _ _).1 h1)
  · refine Or.inr ⟨le_antisymm (not_lt.1 fun hc => ?_) (not_lt.1 fun hc => ?_), h2⟩
    · have := (low_lt f _ _).2 hc
      exact absurd h1 (by first | exact ne_of_lt this | exact ne_of_gt this)
    · have := (low_lt f _ _).2 hc
      exact absurd h1 (by first | exact ne_of_lt this | exact ne_of_gt this)

/-- The sort puts positions in the order of coming before. -/
theorem sorted_bef_iff (f : Fin n → EReal) (i k : Fin n) : bef f (sorted f i) (sorted f k) ↔ i < k := by
  constructor
  · intro h
    rcases lt_trichotomy i k with h' | h' | h'
    · exact h'
    · subst h'; exact absurd h (bef_irrefl f _)
    · exact absurd h (bef_asymm f (sorted_bef f k i h'))
  · exact sorted_bef f i k

/-- The sort is a rearrangement. -/
theorem sorted_bij (f : Fin n → EReal) : Function.Bijective (sorted f) :=
  ⟨sortedFrom_injective _, sortedFrom_surjective _⟩

open Classical in
/-- What stands at place `k` has `k` before it. -/
theorem rank_sorted (f : Fin n → EReal) (k : Fin n) : rank f (sorted f k) = k := by
  unfold rank
  have : (Finset.univ.filter fun q => bef f q (sorted f k))
      = (Finset.univ.filter fun i : Fin n => i < k).map ⟨sorted f, (sorted_bij f).1⟩ := by
    ext q
    obtain ⟨i, rfl⟩ := (sorted_bij f).2 q
    simp only [Finset.mem_filter, Finset.mem_univ, true_and, sorted_bef_iff, Finset.mem_map, Function.Embedding.coeFn_mk]
    constructor
    · intro h; exact ⟨i, h, rfl⟩
    · rintro ⟨j, hj, he⟩; rw [← (sorted_bij f).1 he]; exact hj
  rw [this, Finset.card_map]
  have h2 : (Finset.univ.filter fun i : Fin n => i < k) = Finset.Iio k := by ext i; simp
  rw [h2, Fin.card_Iio]

/-- A rank is less than the number of positions. -/
theorem rank_lt (f : Fin n → EReal) (p : Fin n) : rank f p < n := by
  obtain ⟨k, rfl⟩ := (sorted_bij f).2 p
  rw [rank_sorted]; exact k.isLt

/-- The position at a position's rank is the position. -/
theorem sorted_rank (f : Fin n → EReal) (p : Fin n) : sorted f ⟨rank f p, rank_lt f p⟩ = p := by
  obtain ⟨k, rfl⟩ := (sorted_bij f).2 p
  congr 1; exact Fin.ext (rank_sorted f k)

/-- A position comes before another exactly when its rank is less. -/
theorem bef_iff_rank (f : Fin n → EReal) (q p : Fin n) : bef f q p ↔ rank f q < rank f p := by
  obtain ⟨k, rfl⟩ := (sorted_bij f).2 p
  obtain ⟨i, rfl⟩ := (sorted_bij f).2 q
  rw [rank_sorted, rank_sorted, sorted_bef_iff, Fin.lt_def]

/-- Different positions have different ranks. -/
theorem rank_inj (f : Fin n → EReal) (q p : Fin n) (h : rank f q = rank f p) : q = p := by
  obtain ⟨k, rfl⟩ := (sorted_bij f).2 p
  obtain ⟨i, rfl⟩ := (sorted_bij f).2 q
  rw [rank_sorted, rank_sorted] at h
  rw [Fin.ext h]

open Classical in
/-- Sorting the sorted positions upwards gives each position's place. -/
theorem places_back (f : Fin n → EReal) (p : Fin n) :
    ((sortedFrom (fun a b => decide ((sorted f a).val < (sorted f b).val)) p : Fin n) : ℕ) = rank f p := by
  let g : Fin n → EReal := fun k => -(((sorted f k).val : ℕ) : EReal)
  have e : (fun a b : Fin n => decide ((sorted f a).val < (sorted f b).val)) = fun a b => decide (g b < g a) := by
    funext a b
    simp only [g, EReal.neg_lt_neg_iff, nat_lt]
  rw [e]
  show ((sorted g p : Fin n) : ℕ) = _
  have hk := rank_sorted g p
  generalize sorted g p = k at hk ⊢
  have hr : rank g k = (sorted f k).val := by
    unfold rank
    have h1 : (Finset.univ.filter fun q => bef g q k).map ⟨sorted f, (sorted_bij f).1⟩ = Finset.Iio (sorted f k) := by
      ext q
      obtain ⟨i, rfl⟩ := (sorted_bij f).2 q
      simp only [Finset.mem_map, Finset.mem_filter, Finset.mem_univ, true_and, Function.Embedding.coeFn_mk, Finset.mem_Iio]
      constructor
      · rintro ⟨j, hj, he⟩
        rw [← (sorted_bij f).1 he]
        rcases hj with hj | ⟨hj, hl⟩
        · simp only [g, EReal.neg_lt_neg_iff, nat_lt] at hj; exact hj
        · simp only [g, neg_inj, nat_inj] at hj
          have := (sorted_bij f).1 (Fin.ext hj)
          rw [this] at hl; exact absurd hl (lt_irrefl _)
      · intro h
        refine ⟨i, Or.inl ?_, rfl⟩
        simp only [g, EReal.neg_lt_neg_iff, nat_lt]; exact h
    rw [← Finset.card_map, h1, Fin.card_Iio]
  have : sorted f k = p := Fin.ext (by rw [← hr, hk])
  rw [← this, rank_sorted]

/-! ## The hundred greatest of a mask -/

open Classical in
/-- How many of the mask have at most `z` before them. -/
def within (f : Fin n → EReal) (roi : Fin n → Prop) (z : ℤ) : ℕ :=
  (Finset.univ.filter fun p => roi p ∧ (rank f p : ℤ) ≤ z).card

open Classical in
/-- The scores of a mask, minus infinity elsewhere. -/
def maskScore (f : Fin n → EReal) (roi : Fin n → Prop) (p : Fin n) : EReal := if roi p then f p else ⊥

open Classical in
/-- In a mask, those before a pixel and the pixel itself are those at most as far. -/
theorem rank_mask (f : Fin n → EReal) (hf : ∀ p, ⊥ < f p) (roi : Fin n → Prop) (p : Fin n) (hp : roi p) :
    rank (maskScore f roi) p + 1 = within f roi (rank f p) := by
  unfold within rank
  have h1 : (Finset.univ.filter fun q => roi q ∧ (((Finset.univ.filter fun r => bef f r q).card : ℕ) : ℤ) ≤ (((Finset.univ.filter fun r => bef f r p).card : ℕ) : ℤ))
      = insert p (Finset.univ.filter fun q => bef (maskScore f roi) q p) := by
    ext q
    simp only [Finset.mem_filter, Finset.mem_univ, true_and, Finset.mem_insert]
    have hr : ∀ x, (Finset.univ.filter fun r => bef f r x).card = rank f x := fun x => rfl
    rw [hr, hr]
    constructor
    · rintro ⟨hq, hle⟩
      rcases lt_or_eq_of_le hle with h | h
      · right
        have hb := (bef_iff_rank f q p).2 (by exact_mod_cast h)
        unfold bef maskScore
        rw [if_pos hq, if_pos hp]; exact hb
      · left; exact rank_inj f q p (by exact_mod_cast h)
    · rintro (h | h)
      · subst h; exact ⟨hp, le_rfl⟩
      · have hq : roi q := by
          by_contra hq
          unfold bef maskScore at h
          rw [if_neg hq, if_pos hp] at h
          rcases h with h | ⟨h, _⟩
          · exact absurd h not_lt_bot
          · exact absurd h (ne_of_lt (hf p))
        refine ⟨hq, ?_⟩
        unfold bef maskScore at h
        rw [if_pos hq, if_pos hp] at h
        have := (bef_iff_rank f q p).1 h
        exact_mod_cast this.le
  rw [h1, Finset.card_insert_of_notMem]
  simp only [Finset.mem_filter, Finset.mem_univ, true_and]
  exact bef_irrefl _ p

open Classical in
/-- More positions have ranks up to a greater bound. -/
theorem within_mono (f : Fin n → EReal) (roi : Fin n → Prop) {y z : ℤ} (h : y ≤ z) : within f roi y ≤ within f roi z :=
  Finset.card_le_card fun p hp => by
    simp only [Finset.mem_filter, Finset.mem_univ, true_and] at hp ⊢
    exact ⟨hp.1, le_trans hp.2 h⟩

open Classical in
/-- At most one more position has a rank up to the next bound. -/
theorem within_succ (f : Fin n → EReal) (roi : Fin n → Prop) (z : ℤ) : within f roi (z + 1) ≤ within f roi z + 1 := by
  unfold within
  have : (Finset.univ.filter fun p => roi p ∧ (rank f p : ℤ) ≤ z + 1)
      ⊆ (Finset.univ.filter fun p => roi p ∧ (rank f p : ℤ) ≤ z) ∪ (Finset.univ.filter fun p => (rank f p : ℤ) = z + 1) := by
    intro p hp
    simp only [Finset.mem_filter, Finset.mem_univ, true_and, Finset.mem_union] at hp ⊢
    rcases lt_or_eq_of_le hp.2 with h | h
    · left; exact ⟨hp.1, by omega⟩
    · right; exact h
  refine le_trans (Finset.card_le_card this) (le_trans (Finset.card_union_le _ _) (Nat.add_le_add_left ?_ _))
  rw [Finset.card_le_one]
  intro a ha b hb
  simp only [Finset.mem_filter, Finset.mem_univ, true_and] at ha hb
  exact rank_inj f a b (by omega)

open Classical in
/-- A bound with fewer than `m` of the mask below it, and at least `m` up to it unless it is the last place, picks the
    `m` greatest of the mask. -/
theorem picks (f : Fin n → EReal) (hf : ∀ p, ⊥ < f p) (roi : Fin n → Prop) (m : ℕ) (z : ℤ)
    (h1 : within f roi z < m) (h2 : m ≤ within f roi (z + 1) ∨ z + 1 = (n : ℤ) - 1) (p : Fin n) (hp : roi p) :
    (rank f p : ℤ) ≤ z + 1 ↔ rank (maskScore f roi) p < m := by
  have hr := rank_mask f hf roi p hp
  constructor
  · intro h
    have := within_mono f roi h
    have := within_succ f roi z
    omega
  · intro h
    by_contra hc
    have hn := rank_lt f p
    rcases h2 with h2 | h2
    · have hlt : within f roi (z + 1) < within f roi (rank f p) := by
        unfold within
        refine Finset.card_lt_card ⟨fun q hq => ?_, fun hs => ?_⟩
        · simp only [Finset.mem_filter, Finset.mem_univ, true_and] at hq ⊢
          exact ⟨hq.1, by omega⟩
        · have := hs (Finset.mem_filter.2 ⟨Finset.mem_univ p, hp, le_rfl⟩)
          exact hc (Finset.mem_filter.1 this).2.2
      omega
    · omega

/-! ## The search -/

/-- One step of the search: the middle of the two bounds, and the half that holds the answer. -/
def halve (count : EReal → EReal) (b : EReal × EReal) : EReal × EReal :=
  (if ((100 : ℕ) : EReal) ≤ count (Ideal.liftRound Int.floor (((1 / 2 : ℝ) : EReal) * (b.1 + b.2))) then b.1
    else Ideal.liftRound Int.floor (((1 / 2 : ℝ) : EReal) * (b.1 + b.2)),
   if ((100 : ℕ) : EReal) ≤ count (Ideal.liftRound Int.floor (((1 / 2 : ℝ) : EReal) * (b.1 + b.2)))
    then Ideal.liftRound Int.floor (((1 / 2 : ℝ) : EReal) * (b.1 + b.2)) else b.2)

/-- An integer as an extended real. -/
def Z (z : ℤ) : EReal := (((z : ℤ) : ℝ) : EReal)

/-- The floor of the middle of an interval whose length is a power of two. -/
theorem middle (z : ℤ) (j : ℕ) :
    Ideal.liftRound Int.floor (((1 / 2 : ℝ) : EReal) * (Z z + Z (z + 2 ^ (j + 1)))) = Z (z + 2 ^ j) := by
  unfold Z
  rw [← EReal.coe_add, ← EReal.coe_mul]
  show (((⌊(1 / 2 : ℝ) * ((z : ℝ) + ((z + 2 ^ (j + 1) : ℤ) : ℝ))⌋ : ℤ) : ℝ) : EReal) = _
  have : (1 / 2 : ℝ) * ((z : ℝ) + ((z + 2 ^ (j + 1) : ℤ) : ℝ)) = ((z + 2 ^ j : ℤ) : ℝ) := by
    push_cast; rw [pow_succ]; ring
  rw [this, Int.floor_intCast]

/-- After eighteen steps from the bounds -1 and 262143 the two are next to each other about the answer. -/
theorem search (c : ℤ → ℕ) (count : EReal → EReal) (hc : ∀ z : ℤ, z < 1000000000 → count (Z z) = ((c z : ℕ) : EReal))
    (h0 : c (-1) < 100) :
    ∃ z : ℤ, ((halve count)^[18] (Z (-1), Z 262143)).2 = Z (z + 1) ∧ c z < 100 ∧ (100 ≤ c (z + 1) ∨ z + 1 = 262143)
      ∧ z + 1 ≤ 262143 := by
  have key : ∀ k : ℕ, k ≤ 18 → ∃ z : ℤ, (halve count)^[k] (Z (-1), Z 262143) = (Z z, Z (z + 2 ^ (18 - k)))
      ∧ c z < 100 ∧ (100 ≤ c (z + 2 ^ (18 - k)) ∨ z + 2 ^ (18 - k) = 262143) ∧ z + 2 ^ (18 - k) ≤ 262143 := by
    intro k
    induction k with
    | zero => exact fun _ => ⟨-1, by norm_num, h0, Or.inr (by norm_num), by norm_num⟩
    | succ k ih =>
      intro hk
      obtain ⟨z, e, hl, hh, hb⟩ := ih (by omega)
      obtain ⟨j, hj⟩ : ∃ j, 18 - k = j + 1 := ⟨17 - k, by omega⟩
      have hj' : 18 - (k + 1) = j := by omega
      rw [hj']
      rw [hj] at e hh hb
      have hpos : (0 : ℤ) < 2 ^ j := by positivity
      have hp2 : (2 : ℤ) ^ (j + 1) = 2 ^ j + 2 ^ j := by rw [pow_succ]; ring
      rw [Function.iterate_succ_apply', e]
      unfold halve
      simp only [middle]
      rw [hc _ (by omega)]
      by_cases h : 100 ≤ c (z + 2 ^ j)
      · rw [if_pos ((nat_le _ _).2 h), if_pos ((nat_le _ _).2 h)]
        exact ⟨z, rfl, hl, Or.inl h, by omega⟩
      · have h' : ¬ ((100 : ℕ) : EReal) ≤ ((c (z + 2 ^ j) : ℕ) : EReal) := fun hh => h ((nat_le _ _).1 hh)
        rw [if_neg h', if_neg h']
        have e2 : z + 2 ^ j + 2 ^ j = z + 2 ^ (j + 1) := by rw [hp2]; ring
        refine ⟨z + 2 ^ j, by rw [e2], by omega, ?_, by omega⟩
        rw [e2]; exact hh
  obtain ⟨z, e, h1, h2, h3⟩ := key 18 le_rfl
  refine ⟨z, by rw [e]; norm_num, h1, ?_, ?_⟩
  · simpa using h2
  · simpa using h3

end Cert.Ranks

end
-- ==== Proof.Pixels.lean ====
/- The pixels of an image, the chosen ones, and their neighbours: what both programs compute from a threshold. -/
module

public import proofs.«01_k».proof.Proof.Ranks

@[expose] public section

noncomputable section

namespace Cert.Pixels

open Cert.Nums Cert.Ranks
open Idealize.ShloMosaic

/-- A pixel's place in its row-major image. -/
def pix : Fin 512 × Fin 512 ≃ Fin 262144 where
  toFun p := ⟨512 * p.1 + p.2, by omega⟩
  invFun q := (⟨q / 512, by omega⟩, ⟨q % 512, by omega⟩)
  left_inv p := by
    rcases p with ⟨i, j⟩
    simp only [Prod.mk.injEq, Fin.ext_iff]; constructor <;> omega
  right_inv q := by simp only [Fin.ext_iff]; omega

open Classical in
/-- One if the statement holds and zero if not. -/
def tell (p : Prop) : EReal := if p then 1 else 0

/-- The two indicators are one. -/
theorem ind_tell (p : Prop) [Decidable p] : ind p = tell p := by
  unfold ind tell; by_cases h : p <;> simp [h]

/-- Equivalent conditions have one indicator. -/
theorem tell_congr {p q : Prop} (h : p ↔ q) : tell p = tell q := by rw [propext h]

/-- The indicator of what holds is 1. -/
theorem tell_pos {p : Prop} (h : p) : tell p = 1 := by unfold tell; rw [if_pos h]
/-- The indicator of what fails is 0. -/
theorem tell_neg {p : Prop} (h : ¬ p) : tell p = 0 := by unfold tell; rw [if_neg h]

/-- The greatest of two indicators is the indicator of either. -/
theorem max_tell (p q : Prop) : max (tell p) (tell q) = tell (p ∨ q) := by
  by_cases hp : p <;> by_cases hq : q <;> simp [tell, hp, hq]

open Classical in
/-- A sum of indicators counts where they hold. -/
theorem sum_tell {ι : Type*} [Fintype ι] (p : ι → Prop) : ∑ i, tell (p i) = ((Finset.univ.filter p).card : EReal) := by
  rw [← sum_ind]
  exact Finset.sum_congr rfl fun i _ => (ind_tell _).symm

/-- The chosen pixels: the hundred of greatest score within the region. -/
def picked (f : Fin 262144 → EReal) (roi : Fin 262144 → Prop) (q : Fin 262144) : Prop :=
  roi q ∧ rank (maskScore f roi) q < 100

/-- Two coordinates are at most one apart. -/
def by1 (a b : Fin 512) : Prop := (a : ℕ) ≤ b + 1 ∧ (b : ℕ) ≤ a + 1

/-- Some neighbour, or the pixel itself, is in the set. -/
def near (S : Fin 512 → Fin 512 → Prop) (r c : Fin 512) : Prop := ∃ c', (∃ r', S r' c' ∧ by1 r' r) ∧ by1 c' c

/-- A coordinate with its two neighbours. -/
theorem three (T : Fin 512 → Prop) (r : Fin 512) :
    (T r ∨ (∃ h : (r : ℕ) < 511, T ⟨1 + r, by omega⟩) ∨ (∃ h : ¬ (r : ℕ) < 1, T ⟨r - 1, by omega⟩)) ↔ ∃ r', T r' ∧ by1 r' r := by
  constructor
  · rintro (h | ⟨h, ht⟩ | ⟨h, ht⟩)
    · exact ⟨r, h, by unfold by1; omega⟩
    · exact ⟨_, ht, by unfold by1; dsimp only; omega⟩
    · exact ⟨_, ht, by unfold by1; dsimp only; omega⟩
  · rintro ⟨r', ht, h1, h2⟩
    have : (r' : ℕ) = r ∨ (r' : ℕ) = 1 + r ∨ (r' : ℕ) = r - 1 := by omega
    by_cases e : r' = r
    · left; rw [← e]; exact ht
    · have e' : (r' : ℕ) ≠ r := fun h => e (Fin.ext h)
      by_cases g : (r' : ℕ) = 1 + r
      · right; left
        refine ⟨by omega, ?_⟩
        have : (⟨1 + r, by omega⟩ : Fin 512) = r' := Fin.ext g.symm
        rw [this]; exact ht
      · right; right
        refine ⟨by omega, ?_⟩
        have : (⟨r - 1, by omega⟩ : Fin 512) = r' := Fin.ext (by dsimp only; omega)
        rw [this]; exact ht

/-- The greatest of a number and its two neighbours, where the numbers tell whether a statement holds. -/
theorem max_three (g : Fin 512 → EReal) (T : Fin 512 → Prop) (hg : ∀ r, g r = tell (T r)) (r : Fin 512) :
    max (g r) (max (if h : (r : ℕ) < 511 then g ⟨1 + r, by omega⟩ else 0) (if h : (r : ℕ) < 1 then 0 else g ⟨r - 1, by omega⟩))
      = tell (∃ r', T r' ∧ by1 r' r) := by
  have e1 : (if h : (r : ℕ) < 511 then g ⟨1 + r, by omega⟩ else 0) = tell (∃ h : (r : ℕ) < 511, T ⟨1 + r, by omega⟩) := by
    by_cases h : (r : ℕ) < 511
    · rw [dif_pos h, hg]; exact tell_congr ⟨fun t => ⟨h, t⟩, fun ⟨_, t⟩ => t⟩
    · rw [dif_neg h, tell_neg]; rintro ⟨h', _⟩; exact h h'
  have e2 : (if h : (r : ℕ) < 1 then 0 else g ⟨r - 1, by omega⟩) = tell (∃ h : ¬ (r : ℕ) < 1, T ⟨r - 1, by omega⟩) := by
    by_cases h : (r : ℕ) < 1
    · rw [dif_pos h, tell_neg]; rintro ⟨h', _⟩; exact h' h
    · rw [dif_neg h, hg]; exact tell_congr ⟨fun t => ⟨h, t⟩, fun ⟨_, t⟩ => t⟩
  rw [e1, e2, hg, max_tell, max_tell]
  exact tell_congr (three T r)

/-- The word stored at a pixel, from the two marks. -/
def word (a b : EReal) : BitVec 32 :=
  if (if ((2 : ℕ) : EReal) ≤ a + b then 0 else b) = 1 then 0#32
  else if (if ((2 : ℕ) : EReal) ≤ a + b then 0 else a) = 1 then 1#32 else 4294967041#32

/-- The region above the threshold. -/
def roi (n : Fin 512 × Fin 512 → Fin 256) (t m : EReal) (q : Fin 262144) : Prop := t + m < ((n (pix.symm q) : ℕ) : EReal)

/-- The word at a pixel, from the levels, the two scores, the threshold and the least level. -/
def answer (n : Fin 512 × Fin 512 → Fin 256) (t m : EReal) (sf sb : Fin 262144 → EReal) (r c : Fin 512) : BitVec 32 :=
  word (tell (near (fun r' c' => picked sf (roi n t m) (pix (r', c'))) r c))
    (tell (near (fun r' c' => picked sb (fun q => ¬ roi n t m q) (pix (r', c'))) r c))

end Cert.Pixels

end
-- ==== Proof.KSelect.lean ====
/- The kernel's choice of pixels, their neighbours, and the word it stores. -/
module

public import proofs.«01_k».proof.Proof.KThresh
public import proofs.«01_k».proof.Proof.KTotal
public import proofs.«01_k».proof.Proof.Pixels

@[expose] public section

set_option maxRecDepth 16384

noncomputable section

namespace Cert.KernelIdeal.Select

open Cert.KernelIdeal Cert.KernelIdeal.Gen Cert.KernelIdeal.Body Cert.KernelIdeal.Table Cert.KernelIdeal.Thresh
open Cert.Nums Cert.Hist Cert.Step Cert.Ranks Cert.Pixels
open Idealize.ShloMosaic Idealize.ShloMosaic.TcCoe Idealize.ShloMosaic.Tactic

/-! ## One step of each search -/

/-- How many entries of a plane are at most a bound. -/
def countOf (x : FVec Ideal S512x512 .f32) (z : EReal) : EReal := ∑ r : Fin 512, ∑ c : Fin 512, ind (x (ix2 r c) ≤ z)

/-- Integers as floats, entry by entry. -/
theorem words_eq (x : FVec Ideal S512x512 .f32) (z : Ideal .f32) (r c : Fin 512) :
    sitofp (F := Ideal) .f32 (extui 32 (cmpf .ole x (broadcast S512x512 z)) natLt_1_32) (ix2 r c) = ind (x (ix2 r c) ≤ z) := by
  pointwise
  exact ind_word _

/-- The kernel's middle of an interval is the floor of half the sum. -/
theorem mid_eq (p q : Ideal .f32) : k0_pay37 (F := Ideal) p q = Ideal.liftRound Int.floor (((1 / 2 : ℝ) : EReal) * (p + q)) := by
  unfold k0_pay37
  show Ideal.liftRound Int.floor (Ideal.ofBits FTy.f32 0x3F000000#32 * (p + q)) = _
  rw [chalf]

/-- The kernel's choice by a count of at least 100. -/
theorem choose_eq (x p q : Ideal .f32) :
    Scalar.select (Scalar.cmpf .oge x (Scalar.ofBits (F := Ideal) .f32 0x42C80000#32)) p q = if ((100 : ℕ) : EReal) ≤ x then p else q := by
  have e : Scalar.cmpf .oge x (Scalar.ofBits (F := Ideal) .f32 0x42C80000#32) = BitVec.ofBool (decide (Ideal.ofBits FTy.f32 0x42C80000#32 ≤ x)) := rfl
  rw [e, c100]
  by_cases h : ((100 : ℕ) : EReal) ≤ x
  · rw [if_pos h, decide_eq_true h]; rfl
  · rw [if_neg h, decide_eq_false h]; rfl

variable (v3 v12 : FVec Ideal S512x512 .f32) (a b p q : Ideal .f32)

/-- One step of the kernel's search over the first scores. -/
theorem halve_first : (k0_pay39 (F := Ideal) v3 v12 a b p q, k0_pay40 (F := Ideal) v3 v12 a b p q)
    = halve (countOf (k0_pay35 v3 v12 a b)) (p, q) := by
  unfold k0_pay39 k0_pay40 halve
  dsimp only
  generalize k0_pay35 v3 v12 a b = x
  rw [Total.total_eq]
  simp only [words_eq, choose_eq, mid_eq]
  rfl

/-- One step of the kernel's search over the second scores. -/
theorem halve_second : (k0_pay41 (F := Ideal) v3 v12 a b p q, k0_pay42 (F := Ideal) v3 v12 a b p q)
    = halve (countOf (k0_pay36 v3 v12 a b)) (p, q) := by
  have h38 : k0_pay38 (F := Ideal) p q = k0_pay37 (F := Ideal) p q := rfl
  unfold k0_pay41 k0_pay42 halve
  dsimp only
  generalize k0_pay36 v3 v12 a b = x
  rw [Total.total_eq]
  simp only [words_eq, choose_eq, h38, mid_eq]
  rfl

/-- Two searches side by side are each its own search. -/
theorem side_by_side (cf cb : EReal → EReal) (G : EReal × EReal × EReal × EReal → EReal × EReal × EReal × EReal)
    (hG : ∀ x, G x = ((halve cf (x.1, x.2.1)).1, (halve cf (x.1, x.2.1)).2, (halve cb (x.2.2.1, x.2.2.2)).1, (halve cb (x.2.2.1, x.2.2.2)).2))
    (k : ℕ) (x y : EReal × EReal) :
    G^[k] (x.1, x.2, y.1, y.2) = (((halve cf)^[k] x).1, ((halve cf)^[k] x).2, ((halve cb)^[k] y).1, ((halve cb)^[k] y).2) := by
  induction k with
  | zero => rfl
  | succ k ih => rw [Function.iterate_succ_apply', ih, hG, Function.iterate_succ_apply', Function.iterate_succ_apply']

/-! ## The chosen pixels -/

/-- The scores of the region where the statement holds are their places, and those of the others are out of reach. -/
def Placed (x : FVec Ideal S512x512 .f32) (f : Fin 262144 → EReal) (R : Fin 262144 → Prop) : Prop :=
  ∀ r c, (R (pix (r, c)) → x (ix2 r c) = ((rank f (pix (r, c)) : ℕ) : EReal)) ∧ (¬ R (pix (r, c)) → x (ix2 r c) = ((1000000000 : ℕ) : EReal))

variable {x : FVec Ideal S512x512 .f32} {f : Fin 262144 → EReal} {R : Fin 262144 → Prop}

/-- A natural number is at most an integer as floats exactly when it is. -/
theorem nat_le_Z (k : ℕ) (z : ℤ) : (k : EReal) ≤ Z z ↔ (k : ℤ) ≤ z := by
  unfold Z
  rw [nat_real, EReal.coe_le_coe_iff]
  exact_mod_cast Iff.rfl

/-- A masked rank is at most an integer exactly where the mask holds and the rank is. -/
theorem below_iff (hx : Placed x f R) (z : ℤ) (hz : z < 1000000000) (r c : Fin 512) :
    x (ix2 r c) ≤ Z z ↔ R (pix (r, c)) ∧ (rank f (pix (r, c)) : ℤ) ≤ z := by
  by_cases h : R (pix (r, c))
  · rw [(hx r c).1 h, nat_le_Z]; exact ⟨fun t => ⟨h, t⟩, fun t => t.2⟩
  · rw [(hx r c).2 h, nat_le_Z]
    constructor
    · intro t; push_cast at t; omega
    · exact fun t => absurd t.1 h

/-- The kernel counts the pixels of the mask with ranks up to an integer. -/
theorem count_eq (hx : Placed x f R) (z : ℤ) (hz : z < 1000000000) : countOf x (Z z) = ((within f R z : ℕ) : EReal) := by
  refine Eq.trans ?_ ((sum_tell (fun q => R q ∧ (rank f q : ℤ) ≤ z)).trans (by unfold within; congr))
  unfold countOf
  rw [← Equiv.sum_comp pix, Fintype.sum_prod_type]
  refine Finset.sum_congr rfl fun r _ => Finset.sum_congr rfl fun c _ => ?_
  rw [ind_tell]
  exact tell_congr (below_iff hx z hz r c)

open Classical in
/-- The bound the search ends with picks the hundred greatest. -/
theorem found (hf : ∀ p, ⊥ < f p) (hx : Placed x f R) (r c : Fin 512) :
    x (ix2 r c) ≤ ((halve (countOf x))^[18] (Z (-1), Z 262143)).2 ↔ picked f R (pix (r, c)) := by
  have h0 : within f R (-1) < 100 := by
    have : within f R (-1) = 0 := by
      unfold within
      refine Finset.card_eq_zero.2 (Finset.filter_eq_empty_iff.2 fun q _ h => ?_)
      omega
    omega
  obtain ⟨z, e, h1, h2, h3⟩ := search (within f R) (countOf x) (count_eq hx) h0
  rw [e, below_iff hx _ (by omega)]
  unfold picked
  refine and_congr_right fun hR => ?_
  exact picks f hf R 100 z h1 (by rcases h2 with h | h; exact Or.inl h; exact Or.inr (by rw [h]; norm_num)) _ hR

/-! ## The neighbours and the word -/

/-- The first selection grown by a pixel in each direction. -/
theorem grown_first (w : Ideal .f32) (S : Fin 512 → Fin 512 → Prop) (hS : ∀ r c, k0_pay35 (F := Ideal) v3 v12 a b (ix2 r c) ≤ w ↔ S r c) (r c : Fin 512) :
    k0_pay43 (F := Ideal) v3 v12 a b w (ix2 r c) = tell (near S r c) := by
  have base : ∀ r c, ind (k0_pay35 (F := Ideal) v3 v12 a b (ix2 r c) ≤ w) = tell (S r c) := fun r c => by
    rw [ind_tell]; exact tell_congr (hS r c)
  have col : ∀ c r, _ := fun c r => max_three (fun r => tell (S r c)) (fun r => S r c) (fun _ => rfl) r
  have row := max_three (fun c => tell (∃ r', S r' c ∧ by1 r' r)) (fun c => ∃ r', S r' c ∧ by1 r' r) (fun _ => rfl) c
  unfold k0_pay43
  pointwise
  simp only [ind_word, base]
  simp only [col]
  exact row

/-- The second selection grown by a pixel along the columns. -/
theorem grown_second_column (w : Ideal .f32) (S : Fin 512 → Fin 512 → Prop) (hS : ∀ r c, k0_pay36 (F := Ideal) v3 v12 a b (ix2 r c) ≤ w ↔ S r c) (r c : Fin 512) :
    k0_pay44 (F := Ideal) v3 v12 a b w (ix2 r c) = tell (∃ r', S r' c ∧ by1 r' r) := by
  have base : ∀ r c, ind (k0_pay36 (F := Ideal) v3 v12 a b (ix2 r c) ≤ w) = tell (S r c) := fun r c => by
    rw [ind_tell]; exact tell_congr (hS r c)
  have col := max_three (fun r => tell (S r c)) (fun r => S r c) (fun _ => rfl) r
  unfold k0_pay44
  pointwise
  simp only [ind_word, base]
  exact col

/-- The kernel's word at a pixel, from the two grown selections. -/
theorem word_read (A B D : FVec Ideal S512x512 .f32) (e : FVec Ideal S512x1 .f32) (r c : Fin 512) :
    k0_pay1 (F := Ideal) A B e D (ix3 0 r c)
      = word (A (ix2 r c)) (max (B (ix2 r c)) (max (D (ix2 r c)) (if h : (c : ℕ) < 1 then e (ix2 r ⟨c, by omega⟩) else B (ix2 r ⟨c - 1, by omega⟩)))) := by
  unfold k0_pay1 word
  pointwise
  rw [c2]

/-- The second selection's neighbour to the right, 0 past the edge. -/
theorem right_read (B : FVec Ideal S512x512 .f32) (w : Ideal .f32) (hB : k0_pay44 (F := Ideal) v3 v12 a b w = B) (r c : Fin 512) :
    k0_pay46 (F := Ideal) v3 v12 a b w (ix2 r c) = if h : (c : ℕ) < 511 then B (ix2 r ⟨1 + c, by omega⟩) else 0 := by
  unfold k0_pay46 k0_pay45
  rw [hB]
  pointwise

/-- The kernel's word at a pixel, from the two selections. -/
theorem word_eq (u3 : FVec Ideal S512x512 .f32) (w w' : Ideal .f32) (S S' : Fin 512 → Fin 512 → Prop)
    (hS : ∀ r c, k0_pay35 (F := Ideal) v3 v12 a b (ix2 r c) ≤ w ↔ S r c)
    (hS' : ∀ r c, k0_pay36 (F := Ideal) u3 v12 a b (ix2 r c) ≤ w' ↔ S' r c) (r c : Fin 512) :
    k0_pay1 (F := Ideal) (k0_pay43 v3 v12 a b w) (k0_pay44 u3 v12 a b w') k0_pay45 (k0_pay46 u3 v12 a b w') (ix3 0 r c)
      = word (tell (near S r c)) (tell (near S' r c)) := by
  have z : ∀ (r : Fin 512) (k : Fin 1), k0_pay45 (F := Ideal) (ix2 r k) = 0 := by
    intro r k
    unfold k0_pay45
    pointwise
  have row := max_three (fun c => tell (∃ r', S' r' c ∧ by1 r' r)) (fun c => ∃ r', S' r' c ∧ by1 r' r) (fun _ => rfl) c
  rw [word_read, grown_first v3 v12 a b w S hS, right_read u3 v12 a b _ w' rfl]
  simp only [grown_second_column u3 v12 a b w' S' hS', z]
  rw [row]
  rfl

/-! ## The stored block -/

/-- The first ranks masked by the region above the threshold. -/
theorem placed_first (n : Fin 512 × Fin 512 → Fin 256) (t m : EReal) (f : Fin 262144 → EReal)
    (h3 : ∀ r c, v3 (ix2 r c) = ((rank f (pix (r, c)) : ℕ) : EReal)) (h12 : ∀ r c, v12 (ix2 r c) = ((n (r, c) : ℕ) : EReal)) :
    Placed (k0_pay35 (F := Ideal) v3 v12 m t) f (roi n t m) := by
  intro r c
  have e : k0_pay35 (F := Ideal) v3 v12 m t (ix2 r c) = if t + m < v12 (ix2 r c) then v3 (ix2 r c) else Ideal.ofBits FTy.f32 1315859240#32 := by
    unfold k0_pay35 k0_pay34
    pointwise
  rw [e, h3, h12, c1e9]
  unfold roi
  rw [Equiv.symm_apply_apply]
  exact ⟨fun h => if_pos h, fun h => if_neg h⟩

/-- The second ranks masked by the region up to the threshold. -/
theorem placed_second (n : Fin 512 × Fin 512 → Fin 256) (t m : EReal) (f : Fin 262144 → EReal)
    (h3 : ∀ r c, v3 (ix2 r c) = ((rank f (pix (r, c)) : ℕ) : EReal)) (h12 : ∀ r c, v12 (ix2 r c) = ((n (r, c) : ℕ) : EReal)) :
    Placed (k0_pay36 (F := Ideal) v3 v12 m t) f (fun q => ¬ roi n t m q) := by
  intro r c
  have e : k0_pay36 (F := Ideal) v3 v12 m t (ix2 r c) = if t + m < v12 (ix2 r c) then Ideal.ofBits FTy.f32 1315859240#32 else v3 (ix2 r c) := by
    unfold k0_pay36 k0_pay34
    pointwise
  rw [e, h3, h12, c1e9]
  unfold roi
  dsimp only
  rw [Equiv.symm_apply_apply]
  exact ⟨fun h => if_neg h, fun h => if_pos (not_not.1 h)⟩

variable {x0 x1 x2 : Vec Ideal S1x512x512 .f32} {n : Fin 512 × Fin 512 → Fin 256}

/-- The four bounds after the eighteen steps. -/
theorem bounds_eq : bounds (F := Ideal) x0 x1 x2
    = (((halve (countOf (k0_pay35 (k0_pay3 x1) (k0_pay5 x0) (low x0) (refined x0))))^[18] (Z (-1), Z 262143)).1,
       ((halve (countOf (k0_pay35 (k0_pay3 x1) (k0_pay5 x0) (low x0) (refined x0))))^[18] (Z (-1), Z 262143)).2,
       ((halve (countOf (k0_pay36 (k0_pay4 x2) (k0_pay5 x0) (low x0) (refined x0))))^[18] (Z (-1), Z 262143)).1,
       ((halve (countOf (k0_pay36 (k0_pay4 x2) (k0_pay5 x0) (low x0) (refined x0))))^[18] (Z (-1), Z 262143)).2) := by
  have s1 : Scalar.ofBits (F := Ideal) .f32 0xBF800000#32 = Z (-1) := by
    refine Eq.trans cneg1 ?_
    unfold Z; norm_num
  have s2 : Scalar.ofBits (F := Ideal) .f32 0x487FFFC0#32 = Z 262143 := by
    refine Eq.trans c262143 ?_
    unfold Z; norm_num
  unfold bounds
  rw [Scf.fold_eq, s1, s2]
  generalize low x0 = m
  generalize refined x0 = t
  generalize k0_pay3 x1 = u
  generalize k0_pay4 x2 = v
  generalize k0_pay5 x0 = w
  have fi := fold_iterate k0_t2_loop.trips (fun acc : Ideal .f32 × Ideal .f32 × Ideal .f32 × Ideal .f32 =>
    (k0_pay39 (F := Ideal) u w m t acc.1 acc.2.1, k0_pay40 (F := Ideal) u w m t acc.1 acc.2.1,
      k0_pay41 (F := Ideal) v w m t acc.2.2.1 acc.2.2.2, k0_pay42 (F := Ideal) v w m t acc.2.2.1 acc.2.2.2)) (Z (-1), Z 262143, Z (-1), Z 262143)
  refine fi.trans ?_
  refine side_by_side (countOf (k0_pay35 u w m t)) (countOf (k0_pay36 v w m t)) _ (fun acc => ?_) 18 (Z (-1), Z 262143) (Z (-1), Z 262143)
  rw [← halve_first, ← halve_second]

/-- The word the body stores at a pixel. -/
theorem stored_eq (hn : Holds x0 n) (v0 : Fin 256) (hv : Peak n v0) (p0 : Fin 512 × Fin 512) (hp : ∀ p, n p0 ≤ n p)
    (f g : Fin 262144 → EReal) (hf : ∀ q, ⊥ < f q) (hg : ∀ q, ⊥ < g q)
    (h1 : ∀ r c, k0_pay3 (F := Ideal) x1 (ix2 r c) = ((rank f (pix (r, c)) : ℕ) : EReal))
    (h2 : ∀ r c, k0_pay4 (F := Ideal) x2 (ix2 r c) = ((rank g (pix (r, c)) : ℕ) : EReal)) (r c : Fin 512) :
    stored (F := Ideal) x0 x1 x2 (ix3 0 r c)
      = answer n (final n v0 ((n p0 : ℕ) : EReal)) ((n p0 : ℕ) : EReal) f g r c := by
  unfold stored answer
  rw [bounds_eq, low_eq hn p0 hp, refined_eq hn v0 hv p0 hp]
  generalize final n v0 ((n p0 : ℕ) : EReal) = t
  generalize ((n p0 : ℕ) : EReal) = m
  refine word_eq _ _ _ _ _ _ _ _ _ (fun r c => ?_) (fun r c => ?_) r c
  · exact found hf (placed_first _ _ n t m f h1 hn) r c
  · exact found hg (placed_second _ _ n t m g h2 hn) r c

end Cert.KernelIdeal.Select

end
-- ==== Proof.Rows.lean ====
/- Sorting the rows of a matrix, read at one place. -/
module

public import proofs.«01_k».proof.Proof.Ranks
public import Idealize.ShloMosaic.Lib.Pointwise

@[expose] public section

noncomputable section

namespace Cert.Rows

open Idealize.ShloMosaic

/-- Moving along a row of a matrix. -/
theorem along_row {a n : ℕ} (b : Fin a) (k : Fin n) (h : 1 < (⟨2, ![a, n]⟩ : Shape).rank) (q : Fin n) :
    Shape.Idx.along (s := ⟨2, ![a, n]⟩) (ix2 b k) ⟨1, h⟩ q = ix2 b q := by
  funext i; fin_cases i <;> rfl

/-- A sort of the rows of a matrix, its companion read at one place. -/
theorem sort2_row {a n : ℕ} {α β : Type} (cmp : α × β → α × β → BitVec 1) (x : (⟨2, ![a, n]⟩ : Shape).Idx → α)
    (y : (⟨2, ![a, n]⟩ : Shape).Idx → β) (b : Fin a) (k : Fin n) :
    (Host.sort2 ⟨2, ![a, n]⟩ 1 cmp x y).2 (ix2 b k)
      = y (ix2 b (sortedFrom (fun p q => cmp (x (ix2 b p), y (ix2 b p)) (x (ix2 b q), y (ix2 b q)) == 1#1) k)) := by
  unfold Host.sort2
  rw [dif_pos (show 1 < (⟨2, ![a, n]⟩ : Shape).rank from Nat.one_lt_two)]
  refine (congrArg y (along_row b k _ _)).trans ?_
  refine congrArg (fun f => y (ix2 b (sortedFrom f k))) ?_
  funext p q
  have := along_row b k Nat.one_lt_two p
  have := along_row b k Nat.one_lt_two q
  simp_all

/-- The same sort, its keys read at one place. -/
theorem sort2_row_key {a n : ℕ} {α β : Type} (cmp : α × β → α × β → BitVec 1) (x : (⟨2, ![a, n]⟩ : Shape).Idx → α)
    (y : (⟨2, ![a, n]⟩ : Shape).Idx → β) (b : Fin a) (k : Fin n) :
    (Host.sort2 ⟨2, ![a, n]⟩ 1 cmp x y).1 (ix2 b k)
      = x (ix2 b (sortedFrom (fun p q => cmp (x (ix2 b p), y (ix2 b p)) (x (ix2 b q), y (ix2 b q)) == 1#1) k)) := by
  unfold Host.sort2
  rw [dif_pos (show 1 < (⟨2, ![a, n]⟩ : Shape).rank from Nat.one_lt_two)]
  refine (congrArg x (along_row b k _ _)).trans ?_
  refine congrArg (fun f => x (ix2 b (sortedFrom f k))) ?_
  funext p q
  have := along_row b k Nat.one_lt_two p
  have := along_row b k Nat.one_lt_two q
  simp_all

end Cert.Rows

end
-- ==== Proof.KPrefix.lean ====
/- What the kernel's host operations hand its launch: the images, and each score's place in the descending order. -/
module

public import proofs.«01_k».proof.Proof.KBody
public import proofs.«01_k».proof.Proof.Rows
public import Idealize.ShloMosaic.Lib.StableHlo.RunRead
public import Idealize.ShloMosaic.Lib.StableHlo.RunClose
public import Idealize.ShloMosaic.Lib.Pointwise

@[expose] public section

set_option maxRecDepth 16384

noncomputable section

namespace Cert.KernelIdeal.Prefix

open Cert.KernelIdeal Cert.KernelIdeal.Gen Cert.KernelIdeal.Launched
open Idealize.ShloMosaic Idealize.ShloMosaic.TcCoe Idealize.ShloMosaic.Tactic
open Idealize.ShloMosaic.StableHlo

section generic
variable {F : FTy → Type} [FloatOps F]

/-- Each position's number, in every row. -/
def nums : IVec S32x262144 32 := broadcastInDim S32x262144 ![1] bcast_S262144_S32x262144_1 (iotaInDim S262144 32 0)

/-- The sorted order of the negated scores. -/
def order (s : FVec F S32x262144 .f32) : IVec S32x262144 32 :=
  (Host.sort2 S32x262144 1 comparator_f32_i32_d1 (Host.negf s) nums).2

/-- The places, as sorted back from the order. -/
def places (s : FVec F S32x262144 .f32) : IVec S32x262144 32 :=
  (Host.sort2 S32x262144 1 comparator_i32_i32_d1 (order s) nums).2

variable (m : (ℓ : Loc nD τ sig) → Buf (Elt F) ℓ)

set_option maxHeartbeats 4000000 in
/-- The launch's first array: the images. -/
theorem V_images (c : Dev nD) : V m c main_v0
    = shapeCast S32x512x512 (m ((c : Thread nD τ).loc main_arg0) : FVec F S32x1x512x512 .f32) shapeCasts_S32x1x512x512_S32x512x512 := by
  simp only [V, hostOps0, hostOps0_1, hostOps0_2, hostOps0_3, hostOps0_4, hostOps0_5, hostOps0_6, List.flatten_cons, List.flatten_nil, List.append_nil, List.cons_append, List.nil_append]
  after_results_entrywise [cast_eq]

set_option maxHeartbeats 4000000 in
/-- The launch's second array: the places by the first scores. -/
theorem V_first (c : Dev nD) : V m c main_v5
    = shapeCast S32x512x512 (sitofp .f32 (places (m ((c : Thread nD τ).loc main_arg1) : FVec F S32x262144 .f32))) shapeCasts_S32x262144_S32x512x512 := by
  simp only [V, hostOps0, hostOps0_1, hostOps0_2, hostOps0_3, hostOps0_4, hostOps0_5, hostOps0_6, List.flatten_cons, List.flatten_nil, List.append_nil, List.cons_append, List.nil_append]
  after_results_entrywise [places, order, nums, cast_eq]

set_option maxHeartbeats 4000000 in
/-- The launch's third array: the places by the second scores. -/
theorem V_second (c : Dev nD) : V m c main_v10
    = shapeCast S32x512x512 (sitofp .f32 (places (m ((c : Thread nD τ).loc main_arg2) : FVec F S32x262144 .f32))) shapeCasts_S32x262144_S32x512x512 := by
  simp only [V, hostOps0, hostOps0_1, hostOps0_2, hostOps0_3, hostOps0_4, hostOps0_5, hostOps0_6, List.flatten_cons, List.flatten_nil, List.append_nil, List.cons_append, List.nil_append]
  after_results_entrywise [places, order, nums, cast_eq]

end generic

/-! ## The places as numbers -/

open Cert.Ranks

/-- The comparator of the first sort puts the smaller key first. -/
theorem comparator_float (l r : Ideal .f32 × BitVec 32) :
    comparator_f32_i32_d1 (F := Ideal) l r = BitVec.ofBool (decide (l.1 < r.1)) := by
  have key : ∀ x : Ideal .f32, Scalar.select (FloatOps.cmpf (F := Ideal) (φ := .f32) .une x x) (FloatOps.ofBits .f32 0x7FC00000#32)
      (Scalar.select (FloatOps.cmpf (F := Ideal) (φ := .f32) .oeq x (FloatOps.ofBits .f32 0x00000000#32)) (FloatOps.ofBits .f32 0x00000000#32) x) = x := by
    intro x
    by_cases h : x = 0
    · subst h; simp [Scalar.select, Ideal.cmpf_def, Ideal.cmp]
    · simp [Scalar.select, Ideal.cmpf_def, Ideal.cmp, h]
  unfold comparator_f32_i32_d1
  simp only [key]
  rfl

/-- A condition's bit is one where the condition holds. -/
theorem ofBool_beq (p : Prop) [Decidable p] : (BitVec.ofBool (decide p) == 1#1) = decide p := by
  by_cases h : p <;> simp [h]

/-- Each position's number, read by columns. -/
theorem nums_eq : nums = iotaInDim S32x262144 32 1 := by
  refine funext fun j => ?_
  obtain ⟨b, p, rfl⟩ : ∃ b p, j = ix2 b p := ⟨j 0, j 1, by funext a; match a with | ⟨0, _⟩ => rfl | ⟨1, _⟩ => rfl⟩
  unfold nums
  pointwise

/-- The order holds, at each place, the position the stable descending sort puts there. -/
theorem order_eq (s : FVec Ideal S32x262144 .f32) (b : Fin 32) (k : Fin 262144) :
    order s (ix2 b k) = BitVec.ofNat 32 (sorted (fun p => s (ix2 b p)) k).val := by
  unfold order
  rw [nums_eq]
  refine (Rows.sort2_row _ _ _ b k).trans ?_
  refine congrArg (fun f => BitVec.ofNat 32 (Fin.val (sortedFrom f k))) ?_
  funext x y
  rw [comparator_float, ofBool_beq]
  refine decide_eq_decide.2 ?_
  show -(s _) < -(s _) ↔ _
  rw [EReal.neg_lt_neg_iff]

/-- Positions compare as the words that hold them. -/
theorem slt_small (a b : ℕ) (ha : a < 262144) (hb : b < 262144) :
    IntOp.cmpi .slt (BitVec.ofNat 32 a) (BitVec.ofNat 32 b) = BitVec.ofBool (decide (a < b)) := by
  have : (BitVec.ofNat 32 a).slt (BitVec.ofNat 32 b) = decide (a < b) := by
    rw [BitVec.slt_eq_decide]
    refine decide_eq_decide.2 ?_
    rw [BitVec.toInt_eq_toNat_bmod, BitVec.toInt_eq_toNat_bmod, BitVec.toNat_ofNat, BitVec.toNat_ofNat,
      Int.bmod_def, Int.bmod_def]
    omega
  show BitVec.ofBool _ = _
  rw [this]

/-- Each pixel's place in the descending order. -/
theorem places_eq (s : FVec Ideal S32x262144 .f32) (b : Fin 32) (p : Fin 262144) :
    places s (ix2 b p) = BitVec.ofNat 32 (rank (fun p => s (ix2 b p)) p) := by
  unfold places
  rw [nums_eq]
  refine (Rows.sort2_row _ _ _ b p).trans ?_
  rw [← places_back]
  refine congrArg (fun f => BitVec.ofNat 32 (Fin.val (sortedFrom f p))) ?_
  funext x y
  unfold comparator_i32_i32_d1
  dsimp only
  rw [order_eq, order_eq, slt_small _ _ (Fin.isLt _) (Fin.isLt _), ofBool_beq]

end Cert.KernelIdeal.Prefix

end
-- ==== Proof.Image.lean ====
/- The levels of an image. -/
module

public import proofs.«01_k».proof.Proof.Pixels
public import Idealize.ShloMosaic.Lib.Pointwise

@[expose] public section

noncomputable section

namespace Cert.Image

open Cert.Nums
open Idealize.ShloMosaic

/-- The level of a pixel's value. -/
def lev (x : EReal) : Fin 256 := ⟨(lev_exists x).choose, (lev_exists x).choose_spec.1⟩

/-- The floor of 255 times a value, held between 0 and 255, is the value's level. -/
theorem lev_spec (x : EReal) :
    min ((255 : ℕ) : EReal) (max 0 (Ideal.liftRound Int.floor (x * ((255 : ℕ) : EReal)))) = ((lev x : ℕ) : EReal) :=
  (lev_exists x).choose_spec.2

/-- The levels of the `b`-th image. -/
def levels (x : (⟨4, ![32, 1, 512, 512]⟩ : Shape).Idx → EReal) (b : Fin 32) (p : Fin 512 × Fin 512) : Fin 256 :=
  lev (x (ix4 b (0 : Fin 1) p.1 p.2))

end Cert.Image

end
-- ==== Proof.KResult.lean ====
/- The kernel's run: what its result holds, pixel by pixel. -/
module

public import proofs.«01_k».proof.Proof.KSelect
public import proofs.«01_k».proof.Proof.KPrefix
public import proofs.«01_k».proof.Proof.Image

@[expose] public section

set_option maxRecDepth 16384

noncomputable section

namespace Cert.KernelIdeal.Result

open Cert.KernelIdeal Cert.KernelIdeal.Gen Cert.KernelIdeal.Launched Cert.KernelIdeal.Body Cert.KernelIdeal.Prefix
open Cert.KernelIdeal.Table Cert.KernelIdeal.Select
open Cert.Nums Cert.Hist Cert.Ranks Cert.Pixels Cert.Step Cert.Image
open Idealize.ShloMosaic Idealize.ShloMosaic.TcCoe Idealize.ShloMosaic.Tactic

/-- Point `t` works on the `t`-th block of each array. -/
theorem at_block : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) ∧ (cfg0.win 3).flush t = true :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0) ∧ (cfg0.win 3).flush t = true)

/-- The point of image `b`. -/
def point (b : Fin 32) : Fin cfg0.N := ⟨b, by rw [show cfg0.N = 32 from by decide +kernel]; exact b.isLt⟩

section blocks
variable {F : FTy → Type} [FloatOps F]
variable (m : (ℓ : Loc nD τ sig) → Buf (Elt F) ℓ) (c : Dev nD) (b : Fin 32) (r q : Fin 512)

/-- The first window's block is its image. -/
theorem block_images : (iblk m c 0 (point b) : Vec F S1x512x512 .f32) (ix3 (0 : Fin 1) r q) = (V m c main_v0 : FVec F S32x512x512 .f32) (ix3 b r q) := by
  obtain ⟨h0, h1, h2⟩ := (at_block (point b)).1
  unfold iblk
  rw [View.read_apply]
  show V m c main_v0 _ = V m c main_v0 _
  congr 1
  funext a
  apply Fin.ext
  match a with
  | ⟨0, _⟩ => show win0_0.index (point b) 0 * 1 + 1 * 0 = (b : ℕ); rw [h0]; show (b : ℕ) * 1 + 1 * 0 = b; omega
  | ⟨1, _⟩ => show win0_0.index (point b) 1 * 512 + 1 * (r : ℕ) = (r : ℕ); rw [h1]; omega
  | ⟨2, _⟩ => show win0_0.index (point b) 2 * 512 + 1 * (q : ℕ) = (q : ℕ); rw [h2]; omega

/-- The second window's block is its image's places. -/
theorem block_first : (iblk m c 1 (point b) : Vec F S1x512x512 .f32) (ix3 (0 : Fin 1) r q) = (V m c main_v5 : FVec F S32x512x512 .f32) (ix3 b r q) := by
  obtain ⟨h0, h1, h2⟩ := (at_block (point b)).2.1
  unfold iblk
  rw [View.read_apply]
  show V m c main_v5 _ = V m c main_v5 _
  congr 1
  funext a
  apply Fin.ext
  match a with
  | ⟨0, _⟩ => show win0_1.index (point b) 0 * 1 + 1 * 0 = (b : ℕ); rw [h0]; show (b : ℕ) * 1 + 1 * 0 = b; omega
  | ⟨1, _⟩ => show win0_1.index (point b) 1 * 512 + 1 * (r : ℕ) = (r : ℕ); rw [h1]; omega
  | ⟨2, _⟩ => show win0_1.index (point b) 2 * 512 + 1 * (q : ℕ) = (q : ℕ); rw [h2]; omega

/-- The third window's block is its image's other places. -/
theorem block_second : (iblk m c 2 (point b) : Vec F S1x512x512 .f32) (ix3 (0 : Fin 1) r q) = (V m c main_v10 : FVec F S32x512x512 .f32) (ix3 b r q) := by
  obtain ⟨h0, h1, h2⟩ := (at_block (point b)).2.2.1
  unfold iblk
  rw [View.read_apply]
  show V m c main_v10 _ = V m c main_v10 _
  congr 1
  funext a
  apply Fin.ext
  match a with
  | ⟨0, _⟩ => show win0_2.index (point b) 0 * 1 + 1 * 0 = (b : ℕ); rw [h0]; show (b : ℕ) * 1 + 1 * 0 = b; omega
  | ⟨1, _⟩ => show win0_2.index (point b) 1 * 512 + 1 * (r : ℕ) = (r : ℕ); rw [h1]; omega
  | ⟨2, _⟩ => show win0_2.index (point b) 2 * 512 + 1 * (q : ℕ) = (q : ℕ); rw [h2]; omega

/-- The result's `b`-th image is what the point of that image stores. -/
theorem array_at : ((dats m 0 c).arrAt 3 cfg0.N : IVec S32x512x512 32) (ix3 b r q)
    = stored (iblk m c 0 (point b)) (iblk m c 1 (point b)) (iblk m c 2 (point b)) (ix3 (0 : Fin 1) r q) := by
  obtain ⟨⟨h0, h1, h2⟩, hf⟩ := (at_block (point b)).2.2.2
  have e := (blocks3 m c (point b) hf).trans (flushed3_A m c (point b))
  rw [out_eq] at e
  have e' := congrFun e (ix3 (0 : Fin 1) r q)
  rw [View.read_apply] at e'
  refine Eq.trans ?_ e'
  generalize (dats m 0 c).arrAt 3 cfg0.N = A
  show A _ = A _
  congr 1
  funext a
  apply Fin.ext
  match a with
  | ⟨0, _⟩ => show (b : ℕ) = win0_3.index (point b) 0 * 1 + 1 * 0; rw [h0]; show (b : ℕ) = (b : ℕ) * 1 + 1 * 0; omega
  | ⟨1, _⟩ => show (r : ℕ) = win0_3.index (point b) 1 * 512 + 1 * (r : ℕ); rw [h1]; omega
  | ⟨2, _⟩ => show (q : ℕ) = win0_3.index (point b) 2 * 512 + 1 * (q : ℕ); rw [h2]; omega

end blocks

variable (m : (ℓ : Loc nD τ sig) → Buf (Elt Ideal) ℓ) (c : Dev nD) (b : Fin 32)

/-- The block of an image, at its levels. -/
theorem pay5_at (x0 : Vec Ideal S1x512x512 .f32) (r q : Fin 512) : k0_pay5 (F := Ideal) x0 (ix2 r q)
    = min ((255 : ℕ) : EReal) (max 0 (Ideal.liftRound Int.floor (x0 (ix3 (0 : Fin 1) r q) * ((255 : ℕ) : EReal)))) := by
  rw [← c255]
  unfold k0_pay5
  pointwise

/-- The block of first places, flat. -/
theorem pay3_at (x0 : Vec Ideal S1x512x512 .f32) (r q : Fin 512) : k0_pay3 (F := Ideal) x0 (ix2 r q) = x0 (ix3 (0 : Fin 1) r q) := by
  unfold k0_pay3
  pointwise

/-- The block of second places, flat. -/
theorem pay4_at (x0 : Vec Ideal S1x512x512 .f32) (r q : Fin 512) : k0_pay4 (F := Ideal) x0 (ix2 r q) = x0 (ix3 (0 : Fin 1) r q) := by
  unfold k0_pay4
  pointwise

/-- The images without their channel axis. -/
theorem image_at (x : FVec Ideal S32x1x512x512 .f32) (r q : Fin 512) :
    shapeCast S32x512x512 x shapeCasts_S32x1x512x512_S32x512x512 (ix3 b r q) = x (ix4 b (0 : Fin 1) r q) := by
  pointwise

/-- The places in the picture, as numbers. -/
theorem places_at (s : FVec Ideal S32x262144 .f32) (r q : Fin 512) :
    shapeCast S32x512x512 (sitofp (F := Ideal) .f32 (places s)) shapeCasts_S32x262144_S32x512x512 (ix3 b r q)
      = ((rank (fun p => s (ix2 b p)) (pix (r, q)) : ℕ) : EReal) := by
  have e : shapeCast S32x512x512 (sitofp (F := Ideal) .f32 (places s)) shapeCasts_S32x262144_S32x512x512 (ix3 b r q)
      = FloatOps.sitofp (F := Ideal) .f32 (places s (ix2 b (pix (r, q)))) := by
    pointwise
    congr 2
    apply congrArg
    apply Fin.ext
    show (r : ℕ) * 512 + q = 512 * r + q
    omega
  rw [e, places_eq]
  have h := rank_lt (fun p => s (ix2 b p)) (pix (r, q))
  exact sitofp_small _ (h.trans (by norm_num))

/-- The kernel's result at a pixel, from the levels of its image. -/
theorem result_at (v0 : Fin 256) (hv : Peak (levels (m ((c : Thread nD τ).loc main_arg0) : FVec Ideal S32x1x512x512 .f32) b) v0)
    (p0 : Fin 512 × Fin 512) (hp : ∀ p, levels (m ((c : Thread nD τ).loc main_arg0) : FVec Ideal S32x1x512x512 .f32) b p0 ≤ levels (m ((c : Thread nD τ).loc main_arg0) : FVec Ideal S32x1x512x512 .f32) b p)
    (hf : ∀ q, (⊥ : EReal) < (m ((c : Thread nD τ).loc main_arg1) : FVec Ideal S32x262144 .f32) (ix2 b q))
    (hg : ∀ q, (⊥ : EReal) < (m ((c : Thread nD τ).loc main_arg2) : FVec Ideal S32x262144 .f32) (ix2 b q)) (r q : Fin 512) :
    ((dats m 0 c).arrAt 3 cfg0.N : IVec S32x512x512 32) (ix3 b r q)
      = answer (levels (m ((c : Thread nD τ).loc main_arg0) : FVec Ideal S32x1x512x512 .f32) b)
          (final (levels (m ((c : Thread nD τ).loc main_arg0) : FVec Ideal S32x1x512x512 .f32) b) v0 ((levels (m ((c : Thread nD τ).loc main_arg0) : FVec Ideal S32x1x512x512 .f32) b p0 : ℕ) : EReal))
          ((levels (m ((c : Thread nD τ).loc main_arg0) : FVec Ideal S32x1x512x512 .f32) b p0 : ℕ) : EReal)
          (fun q => (m ((c : Thread nD τ).loc main_arg1) : FVec Ideal S32x262144 .f32) (ix2 b q))
          (fun q => (m ((c : Thread nD τ).loc main_arg2) : FVec Ideal S32x262144 .f32) (ix2 b q)) r q := by
  rw [array_at]
  refine stored_eq ?_ v0 hv p0 hp _ _ hf hg ?_ ?_ r q
  · intro r q
    refine (pay5_at _ r q).trans ?_
    rw [block_images, V_images, image_at]
    exact lev_spec _
  · intro r q
    refine (pay3_at _ r q).trans ?_
    rw [block_first, V_first]
    exact places_at b _ r q
  · intro r q
    refine (pay4_at _ r q).trans ?_
    rw [block_second, V_second]
    exact places_at b _ r q

end Cert.KernelIdeal.Result

end
-- ==== Proof.RefTower.lean ====
/- What the reference's host operations compute, stretch by stretch, before its loop and after it. -/
module

public import proofs.«01_k».proof.Proof.ReferenceFrame

@[expose] public section

set_option maxRecDepth 4096

noncomputable section

namespace Cert.ReferenceIdeal.Tower

open Cert.ReferenceIdeal Cert.ReferenceIdeal.Gen Cert.ReferenceIdeal.Value Cert.ReferenceIdeal.Launched
open Idealize.ShloMosaic Idealize.ShloMosaic.TcCoe Idealize.ShloMosaic.Tactic
open Idealize.ShloMosaic.StableHlo

variable {F : FTy → Type} [FloatOps F]

/-- A pixel's value times 255, rounded down. -/
def scaled (x : FVec F S32x1x512x512 .f32) : FVec F S32x262144 .f32 :=
  Host.floor (mulf (shapeCast S32x262144 x shapeCasts_S32x1x512x512_S32x262144) (broadcastInDim S32x262144 ![] bcast_S_S32x262144 (constant S_ .f32 0x437F0000#32)))
/-- Values held between two numbers. -/
def clipped (lo hi : FVec F S_ .f32) (x : FVec F S32x262144 .f32) : FVec F S32x262144 .f32 :=
  minimumf (broadcastInDim S32x262144 ![] bcast_S_S32x262144 hi) (maximumf (broadcastInDim S32x262144 ![] bcast_S_S32x262144 lo) x)
/-- How many pixels of an image have each level. -/
def hist (v4 : FVec F S32x262144 .f32) : FVec F S32x256 .f32 :=
  Host.reduceAdd (uitofp .f32 (cmpf .oeq (broadcastInDim S32x256x262144 ![0, 1, 2] bcast_S32x1x262144_S32x256x262144_0_1_2 (broadcastInDim S32x1x262144 ![0, 2] bcast_S32x262144_S32x1x262144_0_2 v4)) (broadcastInDim S32x256x262144 ![0, 1, 2] bcast_S1x256x1_S32x256x262144_0_1_2 (broadcastInDim S1x256x1 ![1] bcast_S256_S1x256x1_1 (sitofp .f32 (iotaInDim S256 32 0)))))) (constant S_ .f32 0x00000000#32) reducesTo_S32x256x262144_S32x256_d2 h_S_
/-- The running sums along the levels. -/
def cums (x : FVec F S32x256 .f32) : FVec F S32x256 .f32 :=
  Host.reduceWindowAdd ![1, 256] ![1, 1] ![0, 255] ![0, 0] x (broadcastInDim S_ ![] bcast_S_S_ (constant S_ .f32 0x00000000#32)) reduceWindows_S32x256_S32x256_w1s1p0_0_w256s1p255_0 h_S_
/-- Counts times levels. -/
def weighted (h : FVec F S32x256 .f32) (b : FVec F S256 .f32) : FVec F S32x256 .f32 :=
  mulf h (broadcastInDim S32x256 ![0, 1] bcast_S1x256_S32x256_0_1 (broadcastInDim S1x256 ![1] bcast_S256_S1x256_1 b))
/-- A sum over a count that is at least one. -/
def mean (s w : FVec F S32x256 .f32) : FVec F S32x256 .f32 :=
  Host.divf s (maximumf w (broadcastInDim S32x256 ![] bcast_S_S32x256 (constant S_ .f32 0x3F800000#32)))
/-- The variance between the two classes that a level parts. -/
def between (w1 w2 m1 m2 : FVec F S32x256 .f32) : FVec F S32x255 .f32 :=
  mulf (mulf (extractStridedSlice S32x255 ![0, 0] w1 slices_S32x256_S32x255_0_0) (extractStridedSlice S32x255 ![0, 1] w2 slices_S32x256_S32x255_0_1))
    (mulf (subf (extractStridedSlice S32x255 ![0, 0] m1 slices_S32x256_S32x255_0_0) (extractStridedSlice S32x255 ![0, 1] m2 slices_S32x256_S32x255_0_1))
      (subf (extractStridedSlice S32x255 ![0, 0] m1 slices_S32x256_S32x255_0_0) (extractStridedSlice S32x255 ![0, 1] m2 slices_S32x256_S32x255_0_1)))
/-- The first level of greatest variance. -/
def best (x : FVec F S32x255 .f32) : IVec S32 32 :=
  fun j => (Host.argReduce reducer_argmax_f32_i32 x (iotaInDim S32x255 32 1) (constant S_ .f32 0xFF800000#32) (constantI S_ 32 0#32) reducesTo_S32x255_S32_d1 h_S_ j).2
/-- One number per image held between two numbers. -/
def clipped1 (lo hi : FVec F S_ .f32) (x : FVec F S32 .f32) : FVec F S32 .f32 :=
  minimumf (broadcastInDim S32 ![] bcast_S_S32 hi) (maximumf (broadcastInDim S32 ![] bcast_S_S32 lo) x)
/-- The least value of each image. -/
def least (v4 : FVec F S32x262144 .f32) : FVec F S32 .f32 :=
  Host.reduce FloatOps.minimumf v4 (constant S_ .f32 0x7F800000#32) reducesTo_S32x262144_S32_d1 h_S_
/-- The values less a number per image. -/
def less (v4 : FVec F S32x262144 .f32) (v47 : FVec F S32 .f32) : FVec F S32x262144 .f32 :=
  subf v4 (broadcastInDim S32x262144 ![0, 1] bcast_S32x1_S32x262144_0_1 (broadcastInDim S32x1 ![0] bcast_S32_S32x1_0 v47))
/-- The pixels above the threshold. -/
def above (v4 : FVec F S32x262144 .f32) (v47 t : FVec F S32 .f32) : IVec S32x262144 1 :=
  cmpf .ogt v4 (broadcastInDim S32x262144 ![0, 1] bcast_S32x1_S32x262144_0_1 (broadcastInDim S32x1 ![0] bcast_S32_S32x1_0 (addf t v47)))
/-- The scores of the pixels of a mask. -/
def masked (k : IVec S32x262144 1) (s : FVec F S32x262144 .f32) (z : FVec F S_ .f32) : FVec F S32x262144 .f32 :=
  select k s (broadcastInDim S32x262144 ![] bcast_S_S32x262144 z)
/-- The hundred pixels of greatest score, as an array of zeros and ones. -/
def selected (v57 : FVec F S32x262144 .f32) : FVec F S32x262144 .f32 :=
  uitofp .f32 (Host.reduce IntOp.ori (andi
      (cmpi .eq (broadcastInDim S32x100x262144 ![0, 1, 2] bcast_S32x100x1_S32x100x262144_0_1_2 (broadcastInDim S32x100x1 ![0, 1] bcast_S32x100_S32x100x1_0_1 (Host.topK S32x100 1 (FloatOps.cmpfTotal .gt) v57 sliceFits_S32x262144_S32x100).2))
        (broadcastInDim S32x100x262144 ![0, 1, 2] bcast_S1x1x262144_S32x100x262144_0_1_2 (broadcastInDim S1x1x262144 ![2] bcast_S262144_S1x1x262144_2 (iotaInDim S262144 32 0))))
      (broadcastInDim S32x100x262144 ![0, 1, 2] bcast_S32x100x1_S32x100x262144_0_1_2 (broadcastInDim S32x100x1 ![0, 1] bcast_S32x100_S32x100x1_0_1 (cmpf .ogt (Host.topK S32x100 1 (FloatOps.cmpfTotal .gt) v57 sliceFits_S32x262144_S32x100).1 (broadcastInDim S32x100 ![] bcast_S_S32x100 (constant S_ .f32 0xFF800000#32))))))
    (constantI S_ 1 0#1) reducesTo_S32x100x262144_S32x262144_d1 h_S_)
/-- The greatest value of the three by three pixels about each one. -/
def dilated (v70 : FVec F S32x262144 .f32) : FVec F S32x512x512 .f32 :=
  Host.reduceWindow FloatOps.maximumf ![1, 3, 3] ![1, 1, 1] ![0, 1, 1] ![0, 1, 1] (shapeCast S32x512x512 v70 shapeCasts_S32x262144_S32x512x512) (broadcastInDim S_ ![] bcast_S_S_ (constant S_ .f32 0xFF800000#32)) reduceWindows_S32x512x512_S32x512x512_w1s1p0_0_w3s1p1_1_w3s1p1_1 h_S_
/-- One number at every pixel. -/
def splat3 (z : FVec F S_ .f32) : FVec F S32x512x512 .f32 := broadcastInDim S32x512x512 ![] bcast_S_S32x512x512 z
/-- One word at every pixel. -/
def splat3i (z : IVec S_ 32) : IVec S32x512x512 32 := broadcastInDim S32x512x512 ![] bcast_S_S32x512x512 z

/-- What `main_arg0` holds at first. -/
def Ex_main_arg0 (V : Valuation τ sig (Elt F)) : (Proc.devRef .tc main_arg0 : DevRef τ sig).ty.Contents (Elt F) := V (Proc.devRef .tc main_arg0)
/-- The contents after stretch 0 of the operations. -/
def E0 (V : Valuation τ sig (Elt F)) : Valuation τ sig (Elt F) := after hostOps0 V
/-- A buffer that stretch 0 does not write keeps its contents. -/
theorem E0_keep (V : Valuation τ sig (Elt F)) (r : Ref sig .tc) (h : r ∉ hostOps0_W) :
    E0 V (Proc.devRef .tc r) = V (Proc.devRef .tc r) :=
  after_of_writes_sub hostOps0 _ hostOps0_writes h
/-- What the reference holds in `main_v3`. -/
def Ex_main_v3 (V : Valuation τ sig (Elt F)) : (Proc.devRef .tc main_v3 : DevRef τ sig).ty.Contents (Elt F) := scaled (Ex_main_arg0 V)
/-- What the reference holds in `main_cst_0`. -/
def Ex_main_cst_0 (V : Valuation τ sig (Elt F)) : (Proc.devRef .tc main_cst_0 : DevRef τ sig).ty.Contents (Elt F) := constant S_ .f32 0x00000000#32
/-- What the reference holds in `main_cst_1`. -/
def Ex_main_cst_1 (V : Valuation τ sig (Elt F)) : (Proc.devRef .tc main_cst_1 : DevRef τ sig).ty.Contents (Elt F) := constant S_ .f32 0x437F0000#32
set_option maxRecDepth 8192 in
set_option maxHeartbeats 2000000 in
/-- After stretch 0, `main_v3` holds what is stated of it. -/
theorem E0_main_v3 (V : Valuation τ sig (Elt F)) : E0 V (no_index (Proc.devRef .tc main_v3)) = Ex_main_v3 V := by
  unfold E0
  simp only [hostOps0]
  after_results_entrywise [Ex_main_v3, Ex_main_arg0, scaled, clipped, hist, cums, weighted, mean, between, best, clipped1, least, less, above, masked, dilated, selected, splat3, splat3i, cast_eq]
set_option maxRecDepth 8192 in
set_option maxHeartbeats 2000000 in
/-- After stretch 0, `main_cst_0` holds what is stated of it. -/
theorem E0_main_cst_0 (V : Valuation τ sig (Elt F)) : E0 V (no_index (Proc.devRef .tc main_cst_0)) = Ex_main_cst_0 V := by
  unfold E0
  simp only [hostOps0]
  after_results_entrywise [Ex_main_cst_0, scaled, clipped, hist, cums, weighted, mean, between, best, clipped1, least, less, above, masked, dilated, selected, splat3, splat3i, cast_eq]
set_option maxRecDepth 8192 in
set_option maxHeartbeats 2000000 in
/-- After stretch 0, `main_cst_1` holds what is stated of it. -/
theorem E0_main_cst_1 (V : Valuation τ sig (Elt F)) : E0 V (no_index (Proc.devRef .tc main_cst_1)) = Ex_main_cst_1 V := by
  unfold E0
  simp only [hostOps0]
  after_results_entrywise [Ex_main_cst_1, scaled, clipped, hist, cums, weighted, mean, between, best, clipped1, least, less, above, masked, dilated, selected, splat3, splat3i, cast_eq]
/-- The contents after stretch 1 of the operations. -/
def E1 (V : Valuation τ sig (Elt F)) : Valuation τ sig (Elt F) := after hostOps0_1 (E0 V)
/-- A buffer that stretch 1 does not write keeps its contents. -/
theorem E1_keep (V : Valuation τ sig (Elt F)) (r : Ref sig .tc) (h : r ∉ hostOps0_1_W) :
    E1 V (Proc.devRef .tc r) = (E0 V) (Proc.devRef .tc r) :=
  after_of_writes_sub hostOps0_1 _ hostOps0_1_writes h
/-- What the reference holds in `main_v4`. -/
def Ex_main_v4 (V : Valuation τ sig (Elt F)) : (Proc.devRef .tc main_v4 : DevRef τ sig).ty.Contents (Elt F) := clipped (Ex_main_cst_0 V) (Ex_main_cst_1 V) (Ex_main_v3 V)
set_option maxRecDepth 8192 in
set_option maxHeartbeats 2000000 in
/-- After stretch 1, `main_v4` holds what is stated of it. -/
theorem E1_main_v4 (V : Valuation τ sig (Elt F)) : E1 V (no_index (Proc.devRef .tc main_v4)) = Ex_main_v4 V := by
  unfold E1
  simp only [hostOps0_1]
  after_results_entrywise [E0_main_v3, E0_main_cst_0, E0_main_cst_1, Ex_main_v4, scaled, clipped, hist, cums, weighted, mean, between, best, clipped1, least, less, above, masked, dilated, selected, splat3, splat3i, cast_eq]
/-- The contents after stretch 2 of the operations. -/
def E2 (V : Valuation τ sig (Elt F)) : Valuation τ sig (Elt F) := after hostOps0_2 (E1 V)
/-- A buffer that stretch 2 does not write keeps its contents. -/
theorem E2_keep (V : Valuation τ sig (Elt F)) (r : Ref sig .tc) (h : r ∉ hostOps0_2_W) :
    E2 V (Proc.devRef .tc r) = (E1 V) (Proc.devRef .tc r) :=
  after_of_writes_sub hostOps0_2 _ hostOps0_2_writes h
/-- What the reference holds in `main_v12`. -/
def Ex_main_v12 (V : Valuation τ sig (Elt F)) : (Proc.devRef .tc main_v12 : DevRef τ sig).ty.Contents (Elt F) := hist (Ex_main_v4 V)
/-- What the reference holds in `main_v13`. -/
def Ex_main_v13 (V : Valuation τ sig (Elt F)) : (Proc.devRef .tc main_v13 : DevRef τ sig).ty.Contents (Elt F) := sitofp .f32 (iotaInDim S256 32 0)
set_option maxRecDepth 8192 in
set_option maxHeartbeats 2000000 in
/-- After stretch 2, `main_v12` holds what is stated of it. -/
theorem E2_main_v12 (V : Valuation τ sig (Elt F)) : E2 V (no_index (Proc.devRef .tc main_v12)) = Ex_main_v12 V := by
  unfold E2
  simp only [hostOps0_2]
  after_results_entrywise [E1_main_v4, Ex_main_v12, scaled, clipped, hist, cums, weighted, mean, between, best, clipped1, least, less, above, masked, dilated, selected, splat3, splat3i, cast_eq]
set_option maxRecDepth 8192 in
set_option maxHeartbeats 2000000 in
/-- After stretch 2, `main_v13` holds what is stated of it. -/
theorem E2_main_v13 (V : Valuation τ sig (Elt F)) : E2 V (no_index (Proc.devRef .tc main_v13)) = Ex_main_v13 V := by
  unfold E2
  simp only [hostOps0_2]
  after_results_entrywise [Ex_main_v13, scaled, clipped, hist, cums, weighted, mean, between, best, clipped1, least, less, above, masked, dilated, selected, splat3, splat3i, cast_eq]
/-- After stretch 2, `main_v4` holds what is stated of it. -/
theorem E2_main_v4 (V : Valuation τ sig (Elt F)) : E2 V (no_index (Proc.devRef .tc main_v4)) = Ex_main_v4 V :=
  (E2_keep V main_v4 (by decide)).trans (E1_main_v4 V)
/-- The contents after stretch 3 of the operations. -/
def E3 (V : Valuation τ sig (Elt F)) : Valuation τ sig (Elt F) := after hostOps0_3 (E2 V)
/-- A buffer that stretch 3 does not write keeps its contents. -/
theorem E3_keep (V : Valuation τ sig (Elt F)) (r : Ref sig .tc) (h : r ∉ hostOps0_3_W) :
    E3 V (Proc.devRef .tc r) = (E2 V) (Proc.devRef .tc r) :=
  after_of_writes_sub hostOps0_3 _ hostOps0_3_writes h
/-- What the reference holds in `main_v14`. -/
def Ex_main_v14 (V : Valuation τ sig (Elt F)) : (Proc.devRef .tc main_v14 : DevRef τ sig).ty.Contents (Elt F) := cums (Ex_main_v12 V)
set_option maxRecDepth 8192 in
set_option maxHeartbeats 2000000 in
/-- After stretch 3, `main_v14` holds what is stated of it. -/
theorem E3_main_v14 (V : Valuation τ sig (Elt F)) : E3 V (no_index (Proc.devRef .tc main_v14)) = Ex_main_v14 V := by
  unfold E3
  simp only [hostOps0_3]
  after_results_entrywise [E2_main_v12, Ex_main_v14, scaled, clipped, hist, cums, weighted, mean, between, best, clipped1, least, less, above, masked, dilated, selected, splat3, splat3i, cast_eq]
/-- After stretch 3, `main_v4` holds what is stated of it. -/
theorem E3_main_v4 (V : Valuation τ sig (Elt F)) : E3 V (no_index (Proc.devRef .tc main_v4)) = Ex_main_v4 V :=
  (E3_keep V main_v4 (by decide)).trans (E2_main_v4 V)
/-- After stretch 3, `main_v12` holds what is stated of it. -/
theorem E3_main_v12 (V : Valuation τ sig (Elt F)) : E3 V (no_index (Proc.devRef .tc main_v12)) = Ex_main_v12 V :=
  (E3_keep V main_v12 (by decide)).trans (E2_main_v12 V)
/-- After stretch 3, `main_v13` holds what is stated of it. -/
theorem E3_main_v13 (V : Valuation τ sig (Elt F)) : E3 V (no_index (Proc.devRef .tc main_v13)) = Ex_main_v13 V :=
  (E3_keep V main_v13 (by decide)).trans (E2_main_v13 V)
/-- The contents after stretch 4 of the operations. -/
def E4 (V : Valuation τ sig (Elt F)) : Valuation τ sig (Elt F) := after hostOps0_4 (E3 V)
/-- A buffer that stretch 4 does not write keeps its contents. -/
theorem E4_keep (V : Valuation τ sig (Elt F)) (r : Ref sig .tc) (h : r ∉ hostOps0_4_W) :
    E4 V (Proc.devRef .tc r) = (E3 V) (Proc.devRef .tc r) :=
  after_of_writes_sub hostOps0_4 _ hostOps0_4_writes h
/-- What the reference holds in `main_v15`. -/
def Ex_main_v15 (V : Valuation τ sig (Elt F)) : (Proc.devRef .tc main_v15 : DevRef τ sig).ty.Contents (Elt F) := Host.reverse [1] (Ex_main_v12 V)
set_option maxRecDepth 8192 in
set_option maxHeartbeats 2000000 in
/-- After stretch 4, `main_v15` holds what is stated of it. -/
theorem E4_main_v15 (V : Valuation τ sig (Elt F)) : E4 V (no_index (Proc.devRef .tc main_v15)) = Ex_main_v15 V := by
  unfold E4
  simp only [hostOps0_4]
  after_results_entrywise [E3_main_v12, Ex_main_v15, scaled, clipped, hist, cums, weighted, mean, between, best, clipped1, least, less, above, masked, dilated, selected, splat3, splat3i, cast_eq]
/-- After stretch 4, `main_v4` holds what is stated of it. -/
theorem E4_main_v4 (V : Valuation τ sig (Elt F)) : E4 V (no_index (Proc.devRef .tc main_v4)) = Ex_main_v4 V :=
  (E4_keep V main_v4 (by decide)).trans (E3_main_v4 V)
/-- After stretch 4, `main_v12` holds what is stated of it. -/
theorem E4_main_v12 (V : Valuation τ sig (Elt F)) : E4 V (no_index (Proc.devRef .tc main_v12)) = Ex_main_v12 V :=
  (E4_keep V main_v12 (by decide)).trans (E3_main_v12 V)
/-- After stretch 4, `main_v13` holds what is stated of it. -/
theorem E4_main_v13 (V : Valuation τ sig (Elt F)) : E4 V (no_index (Proc.devRef .tc main_v13)) = Ex_main_v13 V :=
  (E4_keep V main_v13 (by decide)).trans (E3_main_v13 V)
/-- After stretch 4, `main_v14` holds what is stated of it. -/
theorem E4_main_v14 (V : Valuation τ sig (Elt F)) : E4 V (no_index (Proc.devRef .tc main_v14)) = Ex_main_v14 V :=
  (E4_keep V main_v14 (by decide)).trans (E3_main_v14 V)
/-- The contents after stretch 5 of the operations. -/
def E5 (V : Valuation τ sig (Elt F)) : Valuation τ sig (Elt F) := after hostOps0_5 (E4 V)
/-- A buffer that stretch 5 does not write keeps its contents. -/
theorem E5_keep (V : Valuation τ sig (Elt F)) (r : Ref sig .tc) (h : r ∉ hostOps0_5_W) :
    E5 V (Proc.devRef .tc r) = (E4 V) (Proc.devRef .tc r) :=
  after_of_writes_sub hostOps0_5 _ hostOps0_5_writes h
/-- What the reference holds in `main_v16`. -/
def Ex_main_v16 (V : Valuation τ sig (Elt F)) : (Proc.devRef .tc main_v16 : DevRef τ sig).ty.Contents (Elt F) := cums (Ex_main_v15 V)
set_option maxRecDepth 8192 in
set_option maxHeartbeats 2000000 in
/-- After stretch 5, `main_v16` holds what is stated of it. -/
theorem E5_main_v16 (V : Valuation τ sig (Elt F)) : E5 V (no_index (Proc.devRef .tc main_v16)) = Ex_main_v16 V := by
  unfold E5
  simp only [hostOps0_5]
  after_results_entrywise [E4_main_v15, Ex_main_v16, scaled, clipped, hist, cums, weighted, mean, between, best, clipped1, least, less, above, masked, dilated, selected, splat3, splat3i, cast_eq]
/-- After stretch 5, `main_v4` holds what is stated of it. -/
theorem E5_main_v4 (V : Valuation τ sig (Elt F)) : E5 V (no_index (Proc.devRef .tc main_v4)) = Ex_main_v4 V :=
  (E5_keep V main_v4 (by decide)).trans (E4_main_v4 V)
/-- After stretch 5, `main_v12` holds what is stated of it. -/
theorem E5_main_v12 (V : Valuation τ sig (Elt F)) : E5 V (no_index (Proc.devRef .tc main_v12)) = Ex_main_v12 V :=
  (E5_keep V main_v12 (by decide)).trans (E4_main_v12 V)
/-- After stretch 5, `main_v13` holds what is stated of it. -/
theorem E5_main_v13 (V : Valuation τ sig (Elt F)) : E5 V (no_index (Proc.devRef .tc main_v13)) = Ex_main_v13 V :=
  (E5_keep V main_v13 (by decide)).trans (E4_main_v13 V)
/-- After stretch 5, `main_v14` holds what is stated of it. -/
theorem E5_main_v14 (V : Valuation τ sig (Elt F)) : E5 V (no_index (Proc.devRef .tc main_v14)) = Ex_main_v14 V :=
  (E5_keep V main_v14 (by decide)).trans (E4_main_v14 V)
/-- The contents after stretch 6 of the operations. -/
def E6 (V : Valuation τ sig (Elt F)) : Valuation τ sig (Elt F) := after hostOps0_6 (E5 V)
/-- A buffer that stretch 6 does not write keeps its contents. -/
theorem E6_keep (V : Valuation τ sig (Elt F)) (r : Ref sig .tc) (h : r ∉ hostOps0_6_W) :
    E6 V (Proc.devRef .tc r) = (E5 V) (Proc.devRef .tc r) :=
  after_of_writes_sub hostOps0_6 _ hostOps0_6_writes h
/-- What the reference holds in `main_v17`. -/
def Ex_main_v17 (V : Valuation τ sig (Elt F)) : (Proc.devRef .tc main_v17 : DevRef τ sig).ty.Contents (Elt F) := Host.reverse [1] (Ex_main_v16 V)
/-- What the reference holds in `main_v20`. -/
def Ex_main_v20 (V : Valuation τ sig (Elt F)) : (Proc.devRef .tc main_v20 : DevRef τ sig).ty.Contents (Elt F) := weighted (Ex_main_v12 V) (Ex_main_v13 V)
set_option maxRecDepth 8192 in
set_option maxHeartbeats 2000000 in
/-- After stretch 6, `main_v17` holds what is stated of it. -/
theorem E6_main_v17 (V : Valuation τ sig (Elt F)) : E6 V (no_index (Proc.devRef .tc main_v17)) = Ex_main_v17 V := by
  unfold E6
  simp only [hostOps0_6]
  after_results_entrywise [E5_main_v16, Ex_main_v17, scaled, clipped, hist, cums, weighted, mean, between, best, clipped1, least, less, above, masked, dilated, selected, splat3, splat3i, cast_eq]
set_option maxRecDepth 8192 in
set_option maxHeartbeats 2000000 in
/-- After stretch 6, `main_v20` holds what is stated of it. -/
theorem E6_main_v20 (V : Valuation τ sig (Elt F)) : E6 V (no_index (Proc.devRef .tc main_v20)) = Ex_main_v20 V := by
  unfold E6
  simp only [hostOps0_6]
  after_results_entrywise [E5_main_v12, E5_main_v13, Ex_main_v20, scaled, clipped, hist, cums, weighted, mean, between, best, clipped1, least, less, above, masked, dilated, selected, splat3, splat3i, cast_eq]
/-- After stretch 6, `main_v4` holds what is stated of it. -/
theorem E6_main_v4 (V : Valuation τ sig (Elt F)) : E6 V (no_index (Proc.devRef .tc main_v4)) = Ex_main_v4 V :=
  (E6_keep V main_v4 (by decide)).trans (E5_main_v4 V)
/-- After stretch 6, `main_v12` holds what is stated of it. -/
theorem E6_main_v12 (V : Valuation τ sig (Elt F)) : E6 V (no_index (Proc.devRef .tc main_v12)) = Ex_main_v12 V :=
  (E6_keep V main_v12 (by decide)).trans (E5_main_v12 V)
/-- After stretch 6, `main_v13` holds what is stated of it. -/
theorem E6_main_v13 (V : Valuation τ sig (Elt F)) : E6 V (no_index (Proc.devRef .tc main_v13)) = Ex_main_v13 V :=
  (E6_keep V main_v13 (by decide)).trans (E5_main_v13 V)
/-- After stretch 6, `main_v14` holds what is stated of it. -/
theorem E6_main_v14 (V : Valuation τ sig (Elt F)) : E6 V (no_index (Proc.devRef .tc main_v14)) = Ex_main_v14 V :=
  (E6_keep V main_v14 (by decide)).trans (E5_main_v14 V)
/-- The contents after stretch 7 of the operations. -/
def E7 (V : Valuation τ sig (Elt F)) : Valuation τ sig (Elt F) := after hostOps0_7 (E6 V)
/-- A buffer that stretch 7 does not write keeps its contents. -/
theorem E7_keep (V : Valuation τ sig (Elt F)) (r : Ref sig .tc) (h : r ∉ hostOps0_7_W) :
    E7 V (Proc.devRef .tc r) = (E6 V) (Proc.devRef .tc r) :=
  after_of_writes_sub hostOps0_7 _ hostOps0_7_writes h
/-- What the reference holds in `main_v21`. -/
def Ex_main_v21 (V : Valuation τ sig (Elt F)) : (Proc.devRef .tc main_v21 : DevRef τ sig).ty.Contents (Elt F) := cums (Ex_main_v20 V)
set_option maxRecDepth 8192 in
set_option maxHeartbeats 2000000 in
/-- After stretch 7, `main_v21` holds what is stated of it. -/
theorem E7_main_v21 (V : Valuation τ sig (Elt F)) : E7 V (no_index (Proc.devRef .tc main_v21)) = Ex_main_v21 V := by
  unfold E7
  simp only [hostOps0_7]
  after_results_entrywise [E6_main_v20, Ex_main_v21, scaled, clipped, hist, cums, weighted, mean, between, best, clipped1, least, less, above, masked, dilated, selected, splat3, splat3i, cast_eq]
/-- After stretch 7, `main_v4` holds what is stated of it. -/
theorem E7_main_v4 (V : Valuation τ sig (Elt F)) : E7 V (no_index (Proc.devRef .tc main_v4)) = Ex_main_v4 V :=
  (E7_keep V main_v4 (by decide)).trans (E6_main_v4 V)
/-- After stretch 7, `main_v12` holds what is stated of it. -/
theorem E7_main_v12 (V : Valuation τ sig (Elt F)) : E7 V (no_index (Proc.devRef .tc main_v12)) = Ex_main_v12 V :=
  (E7_keep V main_v12 (by decide)).trans (E6_main_v12 V)
/-- After stretch 7, `main_v13` holds what is stated of it. -/
theorem E7_main_v13 (V : Valuation τ sig (Elt F)) : E7 V (no_index (Proc.devRef .tc main_v13)) = Ex_main_v13 V :=
  (E7_keep V main_v13 (by decide)).trans (E6_main_v13 V)
/-- After stretch 7, `main_v14` holds what is stated of it. -/
theorem E7_main_v14 (V : Valuation τ sig (Elt F)) : E7 V (no_index (Proc.devRef .tc main_v14)) = Ex_main_v14 V :=
  (E7_keep V main_v14 (by decide)).trans (E6_main_v14 V)
/-- After stretch 7, `main_v17` holds what is stated of it. -/
theorem E7_main_v17 (V : Valuation τ sig (Elt F)) : E7 V (no_index (Proc.devRef .tc main_v17)) = Ex_main_v17 V :=
  (E7_keep V main_v17 (by decide)).trans (E6_main_v17 V)
/-- The contents after stretch 8 of the operations. -/
def E8 (V : Valuation τ sig (Elt F)) : Valuation τ sig (Elt F) := after hostOps0_8 (E7 V)
/-- A buffer that stretch 8 does not write keeps its contents. -/
theorem E8_keep (V : Valuation τ sig (Elt F)) (r : Ref sig .tc) (h : r ∉ hostOps0_8_W) :
    E8 V (Proc.devRef .tc r) = (E7 V) (Proc.devRef .tc r) :=
  after_of_writes_sub hostOps0_8 _ hostOps0_8_writes h
/-- What the reference holds in `main_v24`. -/
def Ex_main_v24 (V : Valuation τ sig (Elt F)) : (Proc.devRef .tc main_v24 : DevRef τ sig).ty.Contents (Elt F) := mean (Ex_main_v21 V) (Ex_main_v14 V)
/-- What the reference holds in `main_v28`. -/
def Ex_main_v28 (V : Valuation τ sig (Elt F)) : (Proc.devRef .tc main_v28 : DevRef τ sig).ty.Contents (Elt F) := Host.reverse [1] (weighted (Ex_main_v12 V) (Ex_main_v13 V))
set_option maxRecDepth 8192 in
set_option maxHeartbeats 2000000 in
/-- After stretch 8, `main_v24` holds what is stated of it. -/
theorem E8_main_v24 (V : Valuation τ sig (Elt F)) : E8 V (no_index (Proc.devRef .tc main_v24)) = Ex_main_v24 V := by
  unfold E8
  simp only [hostOps0_8]
  after_results_entrywise [E7_main_v21, E7_main_v14, Ex_main_v24, scaled, clipped, hist, cums, weighted, mean, between, best, clipped1, least, less, above, masked, dilated, selected, splat3, splat3i, cast_eq]
set_option maxRecDepth 8192 in
set_option maxHeartbeats 2000000 in
/-- After stretch 8, `main_v28` holds what is stated of it. -/
theorem E8_main_v28 (V : Valuation τ sig (Elt F)) : E8 V (no_index (Proc.devRef .tc main_v28)) = Ex_main_v28 V := by
  unfold E8
  simp only [hostOps0_8]
  after_results_entrywise [E7_main_v12, E7_main_v13, Ex_main_v28, scaled, clipped, hist, cums, weighted, mean, between, best, clipped1, least, less, above, masked, dilated, selected, splat3, splat3i, cast_eq]
/-- After stretch 8, `main_v4` holds what is stated of it. -/
theorem E8_main_v4 (V : Valuation τ sig (Elt F)) : E8 V (no_index (Proc.devRef .tc main_v4)) = Ex_main_v4 V :=
  (E8_keep V main_v4 (by decide)).trans (E7_main_v4 V)
/-- After stretch 8, `main_v12` holds what is stated of it. -/
theorem E8_main_v12 (V : Valuation τ sig (Elt F)) : E8 V (no_index (Proc.devRef .tc main_v12)) = Ex_main_v12 V :=
  (E8_keep V main_v12 (by decide)).trans (E7_main_v12 V)
/-- After stretch 8, `main_v14` holds what is stated of it. -/
theorem E8_main_v14 (V : Valuation τ sig (Elt F)) : E8 V (no_index (Proc.devRef .tc main_v14)) = Ex_main_v14 V :=
  (E8_keep V main_v14 (by decide)).trans (E7_main_v14 V)
/-- After stretch 8, `main_v17` holds what is stated of it. -/
theorem E8_main_v17 (V : Valuation τ sig (Elt F)) : E8 V (no_index (Proc.devRef .tc main_v17)) = Ex_main_v17 V :=
  (E8_keep V main_v17 (by decide)).trans (E7_main_v17 V)
/-- The contents after stretch 9 of the operations. -/
def E9 (V : Valuation τ sig (Elt F)) : Valuation τ sig (Elt F) := after hostOps0_9 (E8 V)
/-- A buffer that stretch 9 does not write keeps its contents. -/
theorem E9_keep (V : Valuation τ sig (Elt F)) (r : Ref sig .tc) (h : r ∉ hostOps0_9_W) :
    E9 V (Proc.devRef .tc r) = (E8 V) (Proc.devRef .tc r) :=
  after_of_writes_sub hostOps0_9 _ hostOps0_9_writes h
/-- What the reference holds in `main_v29`. -/
def Ex_main_v29 (V : Valuation τ sig (Elt F)) : (Proc.devRef .tc main_v29 : DevRef τ sig).ty.Contents (Elt F) := cums (Ex_main_v28 V)
set_option maxRecDepth 8192 in
set_option maxHeartbeats 2000000 in
/-- After stretch 9, `main_v29` holds what is stated of it. -/
theorem E9_main_v29 (V : Valuation τ sig (Elt F)) : E9 V (no_index (Proc.devRef .tc main_v29)) = Ex_main_v29 V := by
  unfold E9
  simp only [hostOps0_9]
  after_results_entrywise [E8_main_v28, Ex_main_v29, scaled, clipped, hist, cums, weighted, mean, between, best, clipped1, least, less, above, masked, dilated, selected, splat3, splat3i, cast_eq]
/-- After stretch 9, `main_v4` holds what is stated of it. -/
theorem E9_main_v4 (V : Valuation τ sig (Elt F)) : E9 V (no_index (Proc.devRef .tc main_v4)) = Ex_main_v4 V :=
  (E9_keep V main_v4 (by decide)).trans (E8_main_v4 V)
/-- After stretch 9, `main_v12` holds what is stated of it. -/
theorem E9_main_v12 (V : Valuation τ sig (Elt F)) : E9 V (no_index (Proc.devRef .tc main_v12)) = Ex_main_v12 V :=
  (E9_keep V main_v12 (by decide)).trans (E8_main_v12 V)
/-- After stretch 9, `main_v14` holds what is stated of it. -/
theorem E9_main_v14 (V : Valuation τ sig (Elt F)) : E9 V (no_index (Proc.devRef .tc main_v14)) = Ex_main_v14 V :=
  (E9_keep V main_v14 (by decide)).trans (E8_main_v14 V)
/-- After stretch 9, `main_v17` holds what is stated of it. -/
theorem E9_main_v17 (V : Valuation τ sig (Elt F)) : E9 V (no_index (Proc.devRef .tc main_v17)) = Ex_main_v17 V :=
  (E9_keep V main_v17 (by decide)).trans (E8_main_v17 V)
/-- After stretch 9, `main_v24` holds what is stated of it. -/
theorem E9_main_v24 (V : Valuation τ sig (Elt F)) : E9 V (no_index (Proc.devRef .tc main_v24)) = Ex_main_v24 V :=
  (E9_keep V main_v24 (by decide)).trans (E8_main_v24 V)
/-- The contents after stretch 10 of the operations. -/
def E10 (V : Valuation τ sig (Elt F)) : Valuation τ sig (Elt F) := after hostOps0_10 (E9 V)
/-- A buffer that stretch 10 does not write keeps its contents. -/
theorem E10_keep (V : Valuation τ sig (Elt F)) (r : Ref sig .tc) (h : r ∉ hostOps0_10_W) :
    E10 V (Proc.devRef .tc r) = (E9 V) (Proc.devRef .tc r) :=
  after_of_writes_sub hostOps0_10 _ hostOps0_10_writes h
/-- What the reference holds in `main_v30`. -/
def Ex_main_v30 (V : Valuation τ sig (Elt F)) : (Proc.devRef .tc main_v30 : DevRef τ sig).ty.Contents (Elt F) := Host.reverse [1] (Ex_main_v12 V)
set_option maxRecDepth 8192 in
set_option maxHeartbeats 2000000 in
/-- After stretch 10, `main_v30` holds what is stated of it. -/
theorem E10_main_v30 (V : Valuation τ sig (Elt F)) : E10 V (no_index (Proc.devRef .tc main_v30)) = Ex_main_v30 V := by
  unfold E10
  simp only [hostOps0_10]
  after_results_entrywise [E9_main_v12, Ex_main_v30, scaled, clipped, hist, cums, weighted, mean, between, best, clipped1, least, less, above, masked, dilated, selected, splat3, splat3i, cast_eq]
/-- After stretch 10, `main_v4` holds what is stated of it. -/
theorem E10_main_v4 (V : Valuation τ sig (Elt F)) : E10 V (no_index (Proc.devRef .tc main_v4)) = Ex_main_v4 V :=
  (E10_keep V main_v4 (by decide)).trans (E9_main_v4 V)
/-- After stretch 10, `main_v14` holds what is stated of it. -/
theorem E10_main_v14 (V : Valuation τ sig (Elt F)) : E10 V (no_index (Proc.devRef .tc main_v14)) = Ex_main_v14 V :=
  (E10_keep V main_v14 (by decide)).trans (E9_main_v14 V)
/-- After stretch 10, `main_v17` holds what is stated of it. -/
theorem E10_main_v17 (V : Valuation τ sig (Elt F)) : E10 V (no_index (Proc.devRef .tc main_v17)) = Ex_main_v17 V :=
  (E10_keep V main_v17 (by decide)).trans (E9_main_v17 V)
/-- After stretch 10, `main_v24` holds what is stated of it. -/
theorem E10_main_v24 (V : Valuation τ sig (Elt F)) : E10 V (no_index (Proc.devRef .tc main_v24)) = Ex_main_v24 V :=
  (E10_keep V main_v24 (by decide)).trans (E9_main_v24 V)
/-- After stretch 10, `main_v29` holds what is stated of it. -/
theorem E10_main_v29 (V : Valuation τ sig (Elt F)) : E10 V (no_index (Proc.devRef .tc main_v29)) = Ex_main_v29 V :=
  (E10_keep V main_v29 (by decide)).trans (E9_main_v29 V)
/-- The contents after stretch 11 of the operations. -/
def E11 (V : Valuation τ sig (Elt F)) : Valuation τ sig (Elt F) := after hostOps0_11 (E10 V)
/-- A buffer that stretch 11 does not write keeps its contents. -/
theorem E11_keep (V : Valuation τ sig (Elt F)) (r : Ref sig .tc) (h : r ∉ hostOps0_11_W) :
    E11 V (Proc.devRef .tc r) = (E10 V) (Proc.devRef .tc r) :=
  after_of_writes_sub hostOps0_11 _ hostOps0_11_writes h
/-- What the reference holds in `main_v31`. -/
def Ex_main_v31 (V : Valuation τ sig (Elt F)) : (Proc.devRef .tc main_v31 : DevRef τ sig).ty.Contents (Elt F) := cums (Ex_main_v30 V)
set_option maxRecDepth 8192 in
set_option maxHeartbeats 2000000 in
/-- After stretch 11, `main_v31` holds what is stated of it. -/
theorem E11_main_v31 (V : Valuation τ sig (Elt F)) : E11 V (no_index (Proc.devRef .tc main_v31)) = Ex_main_v31 V := by
  unfold E11
  simp only [hostOps0_11]
  after_results_entrywise [E10_main_v30, Ex_main_v31, scaled, clipped, hist, cums, weighted, mean, between, best, clipped1, least, less, above, masked, dilated, selected, splat3, splat3i, cast_eq]
/-- After stretch 11, `main_v4` holds what is stated of it. -/
theorem E11_main_v4 (V : Valuation τ sig (Elt F)) : E11 V (no_index (Proc.devRef .tc main_v4)) = Ex_main_v4 V :=
  (E11_keep V main_v4 (by decide)).trans (E10_main_v4 V)
/-- After stretch 11, `main_v14` holds what is stated of it. -/
theorem E11_main_v14 (V : Valuation τ sig (Elt F)) : E11 V (no_index (Proc.devRef .tc main_v14)) = Ex_main_v14 V :=
  (E11_keep V main_v14 (by decide)).trans (E10_main_v14 V)
/-- After stretch 11, `main_v17` holds what is stated of it. -/
theorem E11_main_v17 (V : Valuation τ sig (Elt F)) : E11 V (no_index (Proc.devRef .tc main_v17)) = Ex_main_v17 V :=
  (E11_keep V main_v17 (by decide)).trans (E10_main_v17 V)
/-- After stretch 11, `main_v24` holds what is stated of it. -/
theorem E11_main_v24 (V : Valuation τ sig (Elt F)) : E11 V (no_index (Proc.devRef .tc main_v24)) = Ex_main_v24 V :=
  (E11_keep V main_v24 (by decide)).trans (E10_main_v24 V)
/-- After stretch 11, `main_v29` holds what is stated of it. -/
theorem E11_main_v29 (V : Valuation τ sig (Elt F)) : E11 V (no_index (Proc.devRef .tc main_v29)) = Ex_main_v29 V :=
  (E11_keep V main_v29 (by decide)).trans (E10_main_v29 V)
/-- The contents after stretch 12 of the operations. -/
def E12 (V : Valuation τ sig (Elt F)) : Valuation τ sig (Elt F) := after hostOps0_12 (E11 V)
/-- A buffer that stretch 12 does not write keeps its contents. -/
theorem E12_keep (V : Valuation τ sig (Elt F)) (r : Ref sig .tc) (h : r ∉ hostOps0_12_W) :
    E12 V (Proc.devRef .tc r) = (E11 V) (Proc.devRef .tc r) :=
  after_of_writes_sub hostOps0_12 _ hostOps0_12_writes h
/-- What the reference holds in `main_v43`. -/
def Ex_main_v43 (V : Valuation τ sig (Elt F)) : (Proc.devRef .tc main_v43 : DevRef τ sig).ty.Contents (Elt F) := between (Ex_main_v14 V) (Ex_main_v17 V) (Ex_main_v24 V) (Host.reverse [1] (mean (Ex_main_v29 V) (Ex_main_v31 V)))
set_option maxRecDepth 8192 in
set_option maxHeartbeats 2000000 in
/-- After stretch 12, `main_v43` holds what is stated of it. -/
theorem E12_main_v43 (V : Valuation τ sig (Elt F)) : E12 V (no_index (Proc.devRef .tc main_v43)) = Ex_main_v43 V := by
  unfold E12
  simp only [hostOps0_12]
  after_results_entrywise [E11_main_v14, E11_main_v17, E11_main_v24, E11_main_v29, E11_main_v31, Ex_main_v43, scaled, clipped, hist, cums, weighted, mean, between, best, clipped1, least, less, above, masked, dilated, selected, splat3, splat3i, cast_eq]
/-- After stretch 12, `main_v4` holds what is stated of it. -/
theorem E12_main_v4 (V : Valuation τ sig (Elt F)) : E12 V (no_index (Proc.devRef .tc main_v4)) = Ex_main_v4 V :=
  (E12_keep V main_v4 (by decide)).trans (E11_main_v4 V)
/-- The contents after stretch 13 of the operations. -/
def E13 (V : Valuation τ sig (Elt F)) : Valuation τ sig (Elt F) := after hostOps0_13 (E12 V)
/-- A buffer that stretch 13 does not write keeps its contents. -/
theorem E13_keep (V : Valuation τ sig (Elt F)) (r : Ref sig .tc) (h : r ∉ hostOps0_13_W) :
    E13 V (Proc.devRef .tc r) = (E12 V) (Proc.devRef .tc r) :=
  after_of_writes_sub hostOps0_13 _ hostOps0_13_writes h
/-- What the reference holds in `main_v44`. -/
def Ex_main_v44 (V : Valuation τ sig (Elt F)) : (Proc.devRef .tc main_v44 : DevRef τ sig).ty.Contents (Elt F) := best (Ex_main_v43 V)
set_option maxRecDepth 8192 in
set_option maxHeartbeats 2000000 in
/-- After stretch 13, `main_v44` holds what is stated of it. -/
theorem E13_main_v44 (V : Valuation τ sig (Elt F)) : E13 V (no_index (Proc.devRef .tc main_v44)) = Ex_main_v44 V := by
  unfold E13
  simp only [hostOps0_13]
  after_results_entrywise [E12_main_v43, Ex_main_v44, scaled, clipped, hist, cums, weighted, mean, between, best, clipped1, least, less, above, masked, dilated, selected, splat3, splat3i, cast_eq]
/-- After stretch 13, `main_v4` holds what is stated of it. -/
theorem E13_main_v4 (V : Valuation τ sig (Elt F)) : E13 V (no_index (Proc.devRef .tc main_v4)) = Ex_main_v4 V :=
  (E13_keep V main_v4 (by decide)).trans (E12_main_v4 V)
/-- The contents after stretch 14 of the operations. -/
def E14 (V : Valuation τ sig (Elt F)) : Valuation τ sig (Elt F) := after hostOps0_14 (E13 V)
/-- A buffer that stretch 14 does not write keeps its contents. -/
theorem E14_keep (V : Valuation τ sig (Elt F)) (r : Ref sig .tc) (h : r ∉ hostOps0_14_W) :
    E14 V (Proc.devRef .tc r) = (E13 V) (Proc.devRef .tc r) :=
  after_of_writes_sub hostOps0_14 _ hostOps0_14_writes h
/-- What the reference holds in `main_v45`. -/
def Ex_main_v45 (V : Valuation τ sig (Elt F)) : (Proc.devRef .tc main_v45 : DevRef τ sig).ty.Contents (Elt F) := sitofp .f32 (Ex_main_v44 V)
/-- What the reference holds in `main_cst_5`. -/
def Ex_main_cst_5 (V : Valuation τ sig (Elt F)) : (Proc.devRef .tc main_cst_5 : DevRef τ sig).ty.Contents (Elt F) := constant S_ .f32 0x3F800000#32
/-- What the reference holds in `main_cst_6`. -/
def Ex_main_cst_6 (V : Valuation τ sig (Elt F)) : (Proc.devRef .tc main_cst_6 : DevRef τ sig).ty.Contents (Elt F) := constant S_ .f32 0x437E0000#32
set_option maxRecDepth 8192 in
set_option maxHeartbeats 2000000 in
/-- After stretch 14, `main_v45` holds what is stated of it. -/
theorem E14_main_v45 (V : Valuation τ sig (Elt F)) : E14 V (no_index (Proc.devRef .tc main_v45)) = Ex_main_v45 V := by
  unfold E14
  simp only [hostOps0_14]
  after_results_entrywise [E13_main_v44, Ex_main_v45, scaled, clipped, hist, cums, weighted, mean, between, best, clipped1, least, less, above, masked, dilated, selected, splat3, splat3i, cast_eq]
set_option maxRecDepth 8192 in
set_option maxHeartbeats 2000000 in
/-- After stretch 14, `main_cst_5` holds what is stated of it. -/
theorem E14_main_cst_5 (V : Valuation τ sig (Elt F)) : E14 V (no_index (Proc.devRef .tc main_cst_5)) = Ex_main_cst_5 V := by
  unfold E14
  simp only [hostOps0_14]
  after_results_entrywise [Ex_main_cst_5, scaled, clipped, hist, cums, weighted, mean, between, best, clipped1, least, less, above, masked, dilated, selected, splat3, splat3i, cast_eq]
set_option maxRecDepth 8192 in
set_option maxHeartbeats 2000000 in
/-- After stretch 14, `main_cst_6` holds what is stated of it. -/
theorem E14_main_cst_6 (V : Valuation τ sig (Elt F)) : E14 V (no_index (Proc.devRef .tc main_cst_6)) = Ex_main_cst_6 V := by
  unfold E14
  simp only [hostOps0_14]
  after_results_entrywise [Ex_main_cst_6, scaled, clipped, hist, cums, weighted, mean, between, best, clipped1, least, less, above, masked, dilated, selected, splat3, splat3i, cast_eq]
/-- After stretch 14, `main_v4` holds what is stated of it. -/
theorem E14_main_v4 (V : Valuation τ sig (Elt F)) : E14 V (no_index (Proc.devRef .tc main_v4)) = Ex_main_v4 V :=
  (E14_keep V main_v4 (by decide)).trans (E13_main_v4 V)
/-- The contents after stretch 15 of the operations. -/
def E15 (V : Valuation τ sig (Elt F)) : Valuation τ sig (Elt F) := after hostOps0_15 (E14 V)
/-- A buffer that stretch 15 does not write keeps its contents. -/
theorem E15_keep (V : Valuation τ sig (Elt F)) (r : Ref sig .tc) (h : r ∉ hostOps0_15_W) :
    E15 V (Proc.devRef .tc r) = (E14 V) (Proc.devRef .tc r) :=
  after_of_writes_sub hostOps0_15 _ hostOps0_15_writes h
/-- What the reference holds in `main_v46`. -/
def Ex_main_v46 (V : Valuation τ sig (Elt F)) : (Proc.devRef .tc main_v46 : DevRef τ sig).ty.Contents (Elt F) := clipped1 (Ex_main_cst_5 V) (Ex_main_cst_6 V) (Ex_main_v45 V)
set_option maxRecDepth 8192 in
set_option maxHeartbeats 2000000 in
/-- After stretch 15, `main_v46` holds what is stated of it. -/
theorem E15_main_v46 (V : Valuation τ sig (Elt F)) : E15 V (no_index (Proc.devRef .tc main_v46)) = Ex_main_v46 V := by
  unfold E15
  simp only [hostOps0_15]
  after_results_entrywise [E14_main_v45, E14_main_cst_5, E14_main_cst_6, Ex_main_v46, scaled, clipped, hist, cums, weighted, mean, between, best, clipped1, least, less, above, masked, dilated, selected, splat3, splat3i, cast_eq]
/-- After stretch 15, `main_v4` holds what is stated of it. -/
theorem E15_main_v4 (V : Valuation τ sig (Elt F)) : E15 V (no_index (Proc.devRef .tc main_v4)) = Ex_main_v4 V :=
  (E15_keep V main_v4 (by decide)).trans (E14_main_v4 V)
/-- The contents after stretch 16 of the operations. -/
def E16 (V : Valuation τ sig (Elt F)) : Valuation τ sig (Elt F) := after hostOps0_16 (E15 V)
/-- A buffer that stretch 16 does not write keeps its contents. -/
theorem E16_keep (V : Valuation τ sig (Elt F)) (r : Ref sig .tc) (h : r ∉ hostOps0_16_W) :
    E16 V (Proc.devRef .tc r) = (E15 V) (Proc.devRef .tc r) :=
  after_of_writes_sub hostOps0_16 _ hostOps0_16_writes h
/-- What the reference holds in `main_v47`. -/
def Ex_main_v47 (V : Valuation τ sig (Elt F)) : (Proc.devRef .tc main_v47 : DevRef τ sig).ty.Contents (Elt F) := least (Ex_main_v4 V)
/-- What the reference holds in `main_v52_0`. -/
def Ex_main_v52_0 (V : Valuation τ sig (Elt F)) : (Proc.devRef .tc main_v52_0 : DevRef τ sig).ty.Contents (Elt F) := less (Ex_main_v4 V) (least (Ex_main_v4 V))
/-- What the reference holds in `main_v52_3`. -/
def Ex_main_v52_3 (V : Valuation τ sig (Elt F)) : (Proc.devRef .tc main_v52_3 : DevRef τ sig).ty.Contents (Elt F) := subf (Ex_main_v46 V) (least (Ex_main_v4 V))
set_option maxRecDepth 8192 in
set_option maxHeartbeats 2000000 in
/-- After stretch 16, `main_v47` holds what is stated of it. -/
theorem E16_main_v47 (V : Valuation τ sig (Elt F)) : E16 V (no_index (Proc.devRef .tc main_v47)) = Ex_main_v47 V := by
  unfold E16
  simp only [hostOps0_16]
  after_results_entrywise [E15_main_v4, Ex_main_v47, scaled, clipped, hist, cums, weighted, mean, between, best, clipped1, least, less, above, masked, dilated, selected, splat3, splat3i, cast_eq]
set_option maxRecDepth 8192 in
set_option maxHeartbeats 2000000 in
/-- After stretch 16, `main_v52_0` holds what is stated of it. -/
theorem E16_main_v52_0 (V : Valuation τ sig (Elt F)) : E16 V (no_index (Proc.devRef .tc main_v52_0)) = Ex_main_v52_0 V := by
  unfold E16
  simp only [hostOps0_16]
  after_results_entrywise [E15_main_v4, Ex_main_v52_0, scaled, clipped, hist, cums, weighted, mean, between, best, clipped1, least, less, above, masked, dilated, selected, splat3, splat3i, cast_eq]
set_option maxRecDepth 8192 in
set_option maxHeartbeats 2000000 in
/-- After stretch 16, `main_v52_3` holds what is stated of it. -/
theorem E16_main_v52_3 (V : Valuation τ sig (Elt F)) : E16 V (no_index (Proc.devRef .tc main_v52_3)) = Ex_main_v52_3 V := by
  unfold E16
  simp only [hostOps0_16]
  after_results_entrywise [E15_main_v46, E15_main_v4, Ex_main_v52_3, scaled, clipped, hist, cums, weighted, mean, between, best, clipped1, least, less, above, masked, dilated, selected, splat3, splat3i, cast_eq]
/-- After stretch 16, `main_v4` holds what is stated of it. -/
theorem E16_main_v4 (V : Valuation τ sig (Elt F)) : E16 V (no_index (Proc.devRef .tc main_v4)) = Ex_main_v4 V :=
  (E16_keep V main_v4 (by decide)).trans (E15_main_v4 V)
/-- What `main_v4` holds at first. -/
def Qx_main_v4 (V : Valuation τ sig (Elt F)) : (Proc.devRef .tc main_v4 : DevRef τ sig).ty.Contents (Elt F) := V (Proc.devRef .tc main_v4)
/-- What `main_v47` holds at first. -/
def Qx_main_v47 (V : Valuation τ sig (Elt F)) : (Proc.devRef .tc main_v47 : DevRef τ sig).ty.Contents (Elt F) := V (Proc.devRef .tc main_v47)
/-- What `main_v52_3` holds at first. -/
def Qx_main_v52_3 (V : Valuation τ sig (Elt F)) : (Proc.devRef .tc main_v52_3 : DevRef τ sig).ty.Contents (Elt F) := V (Proc.devRef .tc main_v52_3)
/-- What `main_arg1` holds at first. -/
def Qx_main_arg1 (V : Valuation τ sig (Elt F)) : (Proc.devRef .tc main_arg1 : DevRef τ sig).ty.Contents (Elt F) := V (Proc.devRef .tc main_arg1)
/-- What `main_arg2` holds at first. -/
def Qx_main_arg2 (V : Valuation τ sig (Elt F)) : (Proc.devRef .tc main_arg2 : DevRef τ sig).ty.Contents (Elt F) := V (Proc.devRef .tc main_arg2)
/-- The contents after stretch 17 of the operations. -/
def Q17 (V : Valuation τ sig (Elt F)) : Valuation τ sig (Elt F) := after hostOps0_17 V
/-- A buffer that stretch 17 does not write keeps its contents. -/
theorem Q17_keep (V : Valuation τ sig (Elt F)) (r : Ref sig .tc) (h : r ∉ hostOps0_17_W) :
    Q17 V (Proc.devRef .tc r) = V (Proc.devRef .tc r) :=
  after_of_writes_sub hostOps0_17 _ hostOps0_17_writes h
/-- What the reference holds in `main_v56`. -/
def Qx_main_v56 (V : Valuation τ sig (Elt F)) : (Proc.devRef .tc main_v56 : DevRef τ sig).ty.Contents (Elt F) := above (Qx_main_v4 V) (Qx_main_v47 V) (Qx_main_v52_3 V)
/-- What the reference holds in `main_cst_9`. -/
def Qx_main_cst_9 (V : Valuation τ sig (Elt F)) : (Proc.devRef .tc main_cst_9 : DevRef τ sig).ty.Contents (Elt F) := constant S_ .f32 0xFF800000#32
set_option maxRecDepth 8192 in
set_option maxHeartbeats 2000000 in
/-- After stretch 17, `main_v56` holds what is stated of it. -/
theorem Q17_main_v56 (V : Valuation τ sig (Elt F)) : Q17 V (no_index (Proc.devRef .tc main_v56)) = Qx_main_v56 V := by
  unfold Q17
  simp only [hostOps0_17]
  after_results_entrywise [Qx_main_v56, Qx_main_v4, Qx_main_v47, Qx_main_v52_3, scaled, clipped, hist, cums, weighted, mean, between, best, clipped1, least, less, above, masked, dilated, selected, splat3, splat3i, cast_eq]
set_option maxRecDepth 8192 in
set_option maxHeartbeats 2000000 in
/-- After stretch 17, `main_cst_9` holds what is stated of it. -/
theorem Q17_main_cst_9 (V : Valuation τ sig (Elt F)) : Q17 V (no_index (Proc.devRef .tc main_cst_9)) = Qx_main_cst_9 V := by
  unfold Q17
  simp only [hostOps0_17]
  after_results_entrywise [Qx_main_cst_9, scaled, clipped, hist, cums, weighted, mean, between, best, clipped1, least, less, above, masked, dilated, selected, splat3, splat3i, cast_eq]
/-- After stretch 17, `main_arg1` holds what is stated of it. -/
theorem Q17_main_arg1 (V : Valuation τ sig (Elt F)) : Q17 V (no_index (Proc.devRef .tc main_arg1)) = Qx_main_arg1 V :=
  (Q17_keep V main_arg1 (by decide)).trans (rfl)
/-- After stretch 17, `main_arg2` holds what is stated of it. -/
theorem Q17_main_arg2 (V : Valuation τ sig (Elt F)) : Q17 V (no_index (Proc.devRef .tc main_arg2)) = Qx_main_arg2 V :=
  (Q17_keep V main_arg2 (by decide)).trans (rfl)
/-- The contents after stretch 18 of the operations. -/
def Q18 (V : Valuation τ sig (Elt F)) : Valuation τ sig (Elt F) := after hostOps0_18 (Q17 V)
/-- A buffer that stretch 18 does not write keeps its contents. -/
theorem Q18_keep (V : Valuation τ sig (Elt F)) (r : Ref sig .tc) (h : r ∉ hostOps0_18_W) :
    Q18 V (Proc.devRef .tc r) = (Q17 V) (Proc.devRef .tc r) :=
  after_of_writes_sub hostOps0_18 _ hostOps0_18_writes h
/-- What the reference holds in `main_v57`. -/
def Qx_main_v57 (V : Valuation τ sig (Elt F)) : (Proc.devRef .tc main_v57 : DevRef τ sig).ty.Contents (Elt F) := masked (Qx_main_v56 V) (Qx_main_arg1 V) (Qx_main_cst_9 V)
set_option maxRecDepth 8192 in
set_option maxHeartbeats 2000000 in
/-- After stretch 18, `main_v57` holds what is stated of it. -/
theorem Q18_main_v57 (V : Valuation τ sig (Elt F)) : Q18 V (no_index (Proc.devRef .tc main_v57)) = Qx_main_v57 V := by
  unfold Q18
  simp only [hostOps0_18]
  after_results_entrywise [Q17_main_arg1, Q17_main_v56, Q17_main_cst_9, Qx_main_v57, scaled, clipped, hist, cums, weighted, mean, between, best, clipped1, least, less, above, masked, dilated, selected, splat3, splat3i, cast_eq]
/-- After stretch 18, `main_arg2` holds what is stated of it. -/
theorem Q18_main_arg2 (V : Valuation τ sig (Elt F)) : Q18 V (no_index (Proc.devRef .tc main_arg2)) = Qx_main_arg2 V :=
  (Q18_keep V main_arg2 (by decide)).trans (Q17_main_arg2 V)
/-- After stretch 18, `main_v56` holds what is stated of it. -/
theorem Q18_main_v56 (V : Valuation τ sig (Elt F)) : Q18 V (no_index (Proc.devRef .tc main_v56)) = Qx_main_v56 V :=
  (Q18_keep V main_v56 (by decide)).trans (Q17_main_v56 V)
/-- The contents after stretch 19 of the operations. -/
def Q19 (V : Valuation τ sig (Elt F)) : Valuation τ sig (Elt F) := after hostOps0_19 (Q18 V)
/-- A buffer that stretch 19 does not write keeps its contents. -/
theorem Q19_keep (V : Valuation τ sig (Elt F)) (r : Ref sig .tc) (h : r ∉ hostOps0_19_W) :
    Q19 V (Proc.devRef .tc r) = (Q18 V) (Proc.devRef .tc r) :=
  after_of_writes_sub hostOps0_19 _ hostOps0_19_writes h
/-- What the reference holds in `main_v73`. -/
def Qx_main_v73 (V : Valuation τ sig (Elt F)) : (Proc.devRef .tc main_v73 : DevRef τ sig).ty.Contents (Elt F) := dilated (selected (Qx_main_v57 V))
/-- What the reference holds in `main_v74`. -/
def Qx_main_v74 (V : Valuation τ sig (Elt F)) : (Proc.devRef .tc main_v74 : DevRef τ sig).ty.Contents (Elt F) := noti (Qx_main_v56 V)
/-- What the reference holds in `main_cst_13`. -/
def Qx_main_cst_13 (V : Valuation τ sig (Elt F)) : (Proc.devRef .tc main_cst_13 : DevRef τ sig).ty.Contents (Elt F) := constant S_ .f32 0xFF800000#32
set_option maxRecDepth 8192 in
set_option maxHeartbeats 2000000 in
/-- After stretch 19, `main_v73` holds what is stated of it. -/
theorem Q19_main_v73 (V : Valuation τ sig (Elt F)) : Q19 V (no_index (Proc.devRef .tc main_v73)) = Qx_main_v73 V := by
  unfold Q19
  simp only [hostOps0_19]
  after_results_entrywise [Q18_main_v57, Qx_main_v73, scaled, clipped, hist, cums, weighted, mean, between, best, clipped1, least, less, above, masked, dilated, selected, splat3, splat3i, cast_eq]
set_option maxRecDepth 8192 in
set_option maxHeartbeats 2000000 in
/-- After stretch 19, `main_v74` holds what is stated of it. -/
theorem Q19_main_v74 (V : Valuation τ sig (Elt F)) : Q19 V (no_index (Proc.devRef .tc main_v74)) = Qx_main_v74 V := by
  unfold Q19
  simp only [hostOps0_19]
  after_results_entrywise [Q18_main_v56, Qx_main_v74, scaled, clipped, hist, cums, weighted, mean, between, best, clipped1, least, less, above, masked, dilated, selected, splat3, splat3i, cast_eq]
set_option maxRecDepth 8192 in
set_option maxHeartbeats 2000000 in
/-- After stretch 19, `main_cst_13` holds what is stated of it. -/
theorem Q19_main_cst_13 (V : Valuation τ sig (Elt F)) : Q19 V (no_index (Proc.devRef .tc main_cst_13)) = Qx_main_cst_13 V := by
  unfold Q19
  simp only [hostOps0_19]
  after_results_entrywise [Qx_main_cst_13, scaled, clipped, hist, cums, weighted, mean, between, best, clipped1, least, less, above, masked, dilated, selected, splat3, splat3i, cast_eq]
/-- After stretch 19, `main_arg2` holds what is stated of it. -/
theorem Q19_main_arg2 (V : Valuation τ sig (Elt F)) : Q19 V (no_index (Proc.devRef .tc main_arg2)) = Qx_main_arg2 V :=
  (Q19_keep V main_arg2 (by decide)).trans (Q18_main_arg2 V)
/-- The contents after stretch 20 of the operations. -/
def Q20 (V : Valuation τ sig (Elt F)) : Valuation τ sig (Elt F) := after hostOps0_20 (Q19 V)
/-- A buffer that stretch 20 does not write keeps its contents. -/
theorem Q20_keep (V : Valuation τ sig (Elt F)) (r : Ref sig .tc) (h : r ∉ hostOps0_20_W) :
    Q20 V (Proc.devRef .tc r) = (Q19 V) (Proc.devRef .tc r) :=
  after_of_writes_sub hostOps0_20 _ hostOps0_20_writes h
/-- What the reference holds in `main_v75`. -/
def Qx_main_v75 (V : Valuation τ sig (Elt F)) : (Proc.devRef .tc main_v75 : DevRef τ sig).ty.Contents (Elt F) := masked (Qx_main_v74 V) (Qx_main_arg2 V) (Qx_main_cst_13 V)
set_option maxRecDepth 8192 in
set_option maxHeartbeats 2000000 in
/-- After stretch 20, `main_v75` holds what is stated of it. -/
theorem Q20_main_v75 (V : Valuation τ sig (Elt F)) : Q20 V (no_index (Proc.devRef .tc main_v75)) = Qx_main_v75 V := by
  unfold Q20
  simp only [hostOps0_20]
  after_results_entrywise [Q19_main_arg2, Q19_main_v74, Q19_main_cst_13, Qx_main_v75, scaled, clipped, hist, cums, weighted, mean, between, best, clipped1, least, less, above, masked, dilated, selected, splat3, splat3i, cast_eq]
/-- After stretch 20, `main_v73` holds what is stated of it. -/
theorem Q20_main_v73 (V : Valuation τ sig (Elt F)) : Q20 V (no_index (Proc.devRef .tc main_v73)) = Qx_main_v73 V :=
  (Q20_keep V main_v73 (by decide)).trans (Q19_main_v73 V)
/-- The contents after stretch 21 of the operations. -/
def Q21 (V : Valuation τ sig (Elt F)) : Valuation τ sig (Elt F) := after hostOps0_21 (Q20 V)
/-- A buffer that stretch 21 does not write keeps its contents. -/
theorem Q21_keep (V : Valuation τ sig (Elt F)) (r : Ref sig .tc) (h : r ∉ hostOps0_21_W) :
    Q21 V (Proc.devRef .tc r) = (Q20 V) (Proc.devRef .tc r) :=
  after_of_writes_sub hostOps0_21 _ hostOps0_21_writes h
/-- What the reference holds in `main_v91`. -/
def Qx_main_v91 (V : Valuation τ sig (Elt F)) : (Proc.devRef .tc main_v91 : DevRef τ sig).ty.Contents (Elt F) := dilated (selected (Qx_main_v75 V))
/-- What the reference holds in `main_v92`. -/
def Qx_main_v92 (V : Valuation τ sig (Elt F)) : (Proc.devRef .tc main_v92 : DevRef τ sig).ty.Contents (Elt F) := addf (Qx_main_v73 V) (dilated (selected (Qx_main_v75 V)))
/-- What the reference holds in `main_v94`. -/
def Qx_main_v94 (V : Valuation τ sig (Elt F)) : (Proc.devRef .tc main_v94 : DevRef τ sig).ty.Contents (Elt F) := cmpf .oge (addf (Qx_main_v73 V) (dilated (selected (Qx_main_v75 V)))) (splat3 (constant S_ .f32 0x40000000#32))
/-- What the reference holds in `main_cst_20`. -/
def Qx_main_cst_20 (V : Valuation τ sig (Elt F)) : (Proc.devRef .tc main_cst_20 : DevRef τ sig).ty.Contents (Elt F) := constant S_ .f32 0x00000000#32
set_option maxRecDepth 8192 in
set_option maxHeartbeats 2000000 in
/-- After stretch 21, `main_v91` holds what is stated of it. -/
theorem Q21_main_v91 (V : Valuation τ sig (Elt F)) : Q21 V (no_index (Proc.devRef .tc main_v91)) = Qx_main_v91 V := by
  unfold Q21
  simp only [hostOps0_21]
  after_results_entrywise [Q20_main_v75, Qx_main_v91, scaled, clipped, hist, cums, weighted, mean, between, best, clipped1, least, less, above, masked, dilated, selected, splat3, splat3i, cast_eq]
set_option maxRecDepth 8192 in
set_option maxHeartbeats 2000000 in
/-- After stretch 21, `main_v92` holds what is stated of it. -/
theorem Q21_main_v92 (V : Valuation τ sig (Elt F)) : Q21 V (no_index (Proc.devRef .tc main_v92)) = Qx_main_v92 V := by
  unfold Q21
  simp only [hostOps0_21]
  after_results_entrywise [Q20_main_v75, Q20_main_v73, Qx_main_v92, scaled, clipped, hist, cums, weighted, mean, between, best, clipped1, least, less, above, masked, dilated, selected, splat3, splat3i, cast_eq]
set_option maxRecDepth 8192 in
set_option maxHeartbeats 2000000 in
/-- After stretch 21, `main_v94` holds what is stated of it. -/
theorem Q21_main_v94 (V : Valuation τ sig (Elt F)) : Q21 V (no_index (Proc.devRef .tc main_v94)) = Qx_main_v94 V := by
  unfold Q21
  simp only [hostOps0_21]
  after_results_entrywise [Q20_main_v75, Q20_main_v73, Qx_main_v94, scaled, clipped, hist, cums, weighted, mean, between, best, clipped1, least, less, above, masked, dilated, selected, splat3, splat3i, cast_eq]
set_option maxRecDepth 8192 in
set_option maxHeartbeats 2000000 in
/-- After stretch 21, `main_cst_20` holds what is stated of it. -/
theorem Q21_main_cst_20 (V : Valuation τ sig (Elt F)) : Q21 V (no_index (Proc.devRef .tc main_cst_20)) = Qx_main_cst_20 V := by
  unfold Q21
  simp only [hostOps0_21]
  after_results_entrywise [Qx_main_cst_20, scaled, clipped, hist, cums, weighted, mean, between, best, clipped1, least, less, above, masked, dilated, selected, splat3, splat3i, cast_eq]
/-- After stretch 21, `main_v73` holds what is stated of it. -/
theorem Q21_main_v73 (V : Valuation τ sig (Elt F)) : Q21 V (no_index (Proc.devRef .tc main_v73)) = Qx_main_v73 V :=
  (Q21_keep V main_v73 (by decide)).trans (Q20_main_v73 V)
/-- The contents after stretch 22 of the operations. -/
def Q22 (V : Valuation τ sig (Elt F)) : Valuation τ sig (Elt F) := after hostOps0_22 (Q21 V)
/-- A buffer that stretch 22 does not write keeps its contents. -/
theorem Q22_keep (V : Valuation τ sig (Elt F)) (r : Ref sig .tc) (h : r ∉ hostOps0_22_W) :
    Q22 V (Proc.devRef .tc r) = (Q21 V) (Proc.devRef .tc r) :=
  after_of_writes_sub hostOps0_22 _ hostOps0_22_writes h
/-- What the reference holds in `main_v95`. -/
def Qx_main_v95 (V : Valuation τ sig (Elt F)) : (Proc.devRef .tc main_v95 : DevRef τ sig).ty.Contents (Elt F) := select (Qx_main_v94 V) (splat3 (Qx_main_cst_20 V)) (Qx_main_v73 V)
set_option maxRecDepth 8192 in
set_option maxHeartbeats 2000000 in
/-- After stretch 22, `main_v95` holds what is stated of it. -/
theorem Q22_main_v95 (V : Valuation τ sig (Elt F)) : Q22 V (no_index (Proc.devRef .tc main_v95)) = Qx_main_v95 V := by
  unfold Q22
  simp only [hostOps0_22]
  after_results_entrywise [Q21_main_v94, Q21_main_cst_20, Q21_main_v73, Qx_main_v95, scaled, clipped, hist, cums, weighted, mean, between, best, clipped1, least, less, above, masked, dilated, selected, splat3, splat3i, cast_eq]
/-- After stretch 22, `main_v91` holds what is stated of it. -/
theorem Q22_main_v91 (V : Valuation τ sig (Elt F)) : Q22 V (no_index (Proc.devRef .tc main_v91)) = Qx_main_v91 V :=
  (Q22_keep V main_v91 (by decide)).trans (Q21_main_v91 V)
/-- After stretch 22, `main_v92` holds what is stated of it. -/
theorem Q22_main_v92 (V : Valuation τ sig (Elt F)) : Q22 V (no_index (Proc.devRef .tc main_v92)) = Qx_main_v92 V :=
  (Q22_keep V main_v92 (by decide)).trans (Q21_main_v92 V)
/-- The contents after stretch 23 of the operations. -/
def Q23 (V : Valuation τ sig (Elt F)) : Valuation τ sig (Elt F) := after hostOps0_23 (Q22 V)
/-- A buffer that stretch 23 does not write keeps its contents. -/
theorem Q23_keep (V : Valuation τ sig (Elt F)) (r : Ref sig .tc) (h : r ∉ hostOps0_23_W) :
    Q23 V (Proc.devRef .tc r) = (Q22 V) (Proc.devRef .tc r) :=
  after_of_writes_sub hostOps0_23 _ hostOps0_23_writes h
/-- What the reference holds in `main_v97`. -/
def Qx_main_v97 (V : Valuation τ sig (Elt F)) : (Proc.devRef .tc main_v97 : DevRef τ sig).ty.Contents (Elt F) := cmpf .oge (Qx_main_v92 V) (splat3 (constant S_ .f32 0x40000000#32))
/-- What the reference holds in `main_cst_22`. -/
def Qx_main_cst_22 (V : Valuation τ sig (Elt F)) : (Proc.devRef .tc main_cst_22 : DevRef τ sig).ty.Contents (Elt F) := constant S_ .f32 0x00000000#32
set_option maxRecDepth 8192 in
set_option maxHeartbeats 2000000 in
/-- After stretch 23, `main_v97` holds what is stated of it. -/
theorem Q23_main_v97 (V : Valuation τ sig (Elt F)) : Q23 V (no_index (Proc.devRef .tc main_v97)) = Qx_main_v97 V := by
  unfold Q23
  simp only [hostOps0_23]
  after_results_entrywise [Q22_main_v92, Qx_main_v97, scaled, clipped, hist, cums, weighted, mean, between, best, clipped1, least, less, above, masked, dilated, selected, splat3, splat3i, cast_eq]
set_option maxRecDepth 8192 in
set_option maxHeartbeats 2000000 in
/-- After stretch 23, `main_cst_22` holds what is stated of it. -/
theorem Q23_main_cst_22 (V : Valuation τ sig (Elt F)) : Q23 V (no_index (Proc.devRef .tc main_cst_22)) = Qx_main_cst_22 V := by
  unfold Q23
  simp only [hostOps0_23]
  after_results_entrywise [Qx_main_cst_22, scaled, clipped, hist, cums, weighted, mean, between, best, clipped1, least, less, above, masked, dilated, selected, splat3, splat3i, cast_eq]
/-- After stretch 23, `main_v91` holds what is stated of it. -/
theorem Q23_main_v91 (V : Valuation τ sig (Elt F)) : Q23 V (no_index (Proc.devRef .tc main_v91)) = Qx_main_v91 V :=
  (Q23_keep V main_v91 (by decide)).trans (Q22_main_v91 V)
/-- After stretch 23, `main_v95` holds what is stated of it. -/
theorem Q23_main_v95 (V : Valuation τ sig (Elt F)) : Q23 V (no_index (Proc.devRef .tc main_v95)) = Qx_main_v95 V :=
  (Q23_keep V main_v95 (by decide)).trans (Q22_main_v95 V)
/-- The contents after stretch 24 of the operations. -/
def Q24 (V : Valuation τ sig (Elt F)) : Valuation τ sig (Elt F) := after hostOps0_24 (Q23 V)
/-- A buffer that stretch 24 does not write keeps its contents. -/
theorem Q24_keep (V : Valuation τ sig (Elt F)) (r : Ref sig .tc) (h : r ∉ hostOps0_24_W) :
    Q24 V (Proc.devRef .tc r) = (Q23 V) (Proc.devRef .tc r) :=
  after_of_writes_sub hostOps0_24 _ hostOps0_24_writes h
/-- What the reference holds in `main_v98`. -/
def Qx_main_v98 (V : Valuation τ sig (Elt F)) : (Proc.devRef .tc main_v98 : DevRef τ sig).ty.Contents (Elt F) := select (Qx_main_v97 V) (splat3 (Qx_main_cst_22 V)) (Qx_main_v91 V)
set_option maxRecDepth 8192 in
set_option maxHeartbeats 2000000 in
/-- After stretch 24, `main_v98` holds what is stated of it. -/
theorem Q24_main_v98 (V : Valuation τ sig (Elt F)) : Q24 V (no_index (Proc.devRef .tc main_v98)) = Qx_main_v98 V := by
  unfold Q24
  simp only [hostOps0_24]
  after_results_entrywise [Q23_main_v97, Q23_main_cst_22, Q23_main_v91, Qx_main_v98, scaled, clipped, hist, cums, weighted, mean, between, best, clipped1, least, less, above, masked, dilated, selected, splat3, splat3i, cast_eq]
/-- After stretch 24, `main_v95` holds what is stated of it. -/
theorem Q24_main_v95 (V : Valuation τ sig (Elt F)) : Q24 V (no_index (Proc.devRef .tc main_v95)) = Qx_main_v95 V :=
  (Q24_keep V main_v95 (by decide)).trans (Q23_main_v95 V)
/-- The contents after stretch 25 of the operations. -/
def Q25 (V : Valuation τ sig (Elt F)) : Valuation τ sig (Elt F) := after hostOps0_25 (Q24 V)
/-- A buffer that stretch 25 does not write keeps its contents. -/
theorem Q25_keep (V : Valuation τ sig (Elt F)) (r : Ref sig .tc) (h : r ∉ hostOps0_25_W) :
    Q25 V (Proc.devRef .tc r) = (Q24 V) (Proc.devRef .tc r) :=
  after_of_writes_sub hostOps0_25 _ hostOps0_25_writes h
/-- What the reference holds in `main_v99`. -/
def Qx_main_v99 (V : Valuation τ sig (Elt F)) : (Proc.devRef .tc main_v99 : DevRef τ sig).ty.Contents (Elt F) := splat3i (constantI S_ 32 4294967041#32)
/-- What the reference holds in `main_v101`. -/
def Qx_main_v101 (V : Valuation τ sig (Elt F)) : (Proc.devRef .tc main_v101 : DevRef τ sig).ty.Contents (Elt F) := cmpf .oeq (Qx_main_v95 V) (splat3 (constant S_ .f32 0x3F800000#32))
/-- What the reference holds in `main_c_25`. -/
def Qx_main_c_25 (V : Valuation τ sig (Elt F)) : (Proc.devRef .tc main_c_25 : DevRef τ sig).ty.Contents (Elt F) := constantI S_ 32 1#32
set_option maxRecDepth 8192 in
set_option maxHeartbeats 2000000 in
/-- After stretch 25, `main_v99` holds what is stated of it. -/
theorem Q25_main_v99 (V : Valuation τ sig (Elt F)) : Q25 V (no_index (Proc.devRef .tc main_v99)) = Qx_main_v99 V := by
  unfold Q25
  simp only [hostOps0_25]
  after_results_entrywise [Qx_main_v99, scaled, clipped, hist, cums, weighted, mean, between, best, clipped1, least, less, above, masked, dilated, selected, splat3, splat3i, cast_eq]
set_option maxRecDepth 8192 in
set_option maxHeartbeats 2000000 in
/-- After stretch 25, `main_v101` holds what is stated of it. -/
theorem Q25_main_v101 (V : Valuation τ sig (Elt F)) : Q25 V (no_index (Proc.devRef .tc main_v101)) = Qx_main_v101 V := by
  unfold Q25
  simp only [hostOps0_25]
  after_results_entrywise [Q24_main_v95, Qx_main_v101, scaled, clipped, hist, cums, weighted, mean, between, best, clipped1, least, less, above, masked, dilated, selected, splat3, splat3i, cast_eq]
set_option maxRecDepth 8192 in
set_option maxHeartbeats 2000000 in
/-- After stretch 25, `main_c_25` holds what is stated of it. -/
theorem Q25_main_c_25 (V : Valuation τ sig (Elt F)) : Q25 V (no_index (Proc.devRef .tc main_c_25)) = Qx_main_c_25 V := by
  unfold Q25
  simp only [hostOps0_25]
  after_results_entrywise [Qx_main_c_25, scaled, clipped, hist, cums, weighted, mean, between, best, clipped1, least, less, above, masked, dilated, selected, splat3, splat3i, cast_eq]
/-- After stretch 25, `main_v98` holds what is stated of it. -/
theorem Q25_main_v98 (V : Valuation τ sig (Elt F)) : Q25 V (no_index (Proc.devRef .tc main_v98)) = Qx_main_v98 V :=
  (Q25_keep V main_v98 (by decide)).trans (Q24_main_v98 V)
/-- The contents after stretch 26 of the operations. -/
def Q26 (V : Valuation τ sig (Elt F)) : Valuation τ sig (Elt F) := after hostOps0_26 (Q25 V)
/-- A buffer that stretch 26 does not write keeps its contents. -/
theorem Q26_keep (V : Valuation τ sig (Elt F)) (r : Ref sig .tc) (h : r ∉ hostOps0_26_W) :
    Q26 V (Proc.devRef .tc r) = (Q25 V) (Proc.devRef .tc r) :=
  after_of_writes_sub hostOps0_26 _ hostOps0_26_writes h
/-- What the reference holds in `main_v102`. -/
def Qx_main_v102 (V : Valuation τ sig (Elt F)) : (Proc.devRef .tc main_v102 : DevRef τ sig).ty.Contents (Elt F) := select (Qx_main_v101 V) (splat3i (Qx_main_c_25 V)) (Qx_main_v99 V)
set_option maxRecDepth 8192 in
set_option maxHeartbeats 2000000 in
/-- After stretch 26, `main_v102` holds what is stated of it. -/
theorem Q26_main_v102 (V : Valuation τ sig (Elt F)) : Q26 V (no_index (Proc.devRef .tc main_v102)) = Qx_main_v102 V := by
  unfold Q26
  simp only [hostOps0_26]
  after_results_entrywise [Q25_main_v101, Q25_main_c_25, Q25_main_v99, Qx_main_v102, scaled, clipped, hist, cums, weighted, mean, between, best, clipped1, least, less, above, masked, dilated, selected, splat3, splat3i, cast_eq]
/-- After stretch 26, `main_v98` holds what is stated of it. -/
theorem Q26_main_v98 (V : Valuation τ sig (Elt F)) : Q26 V (no_index (Proc.devRef .tc main_v98)) = Qx_main_v98 V :=
  (Q26_keep V main_v98 (by decide)).trans (Q25_main_v98 V)
/-- The contents after stretch 27 of the operations. -/
def Q27 (V : Valuation τ sig (Elt F)) : Valuation τ sig (Elt F) := after hostOps0_27 (Q26 V)
/-- A buffer that stretch 27 does not write keeps its contents. -/
theorem Q27_keep (V : Valuation τ sig (Elt F)) (r : Ref sig .tc) (h : r ∉ hostOps0_27_W) :
    Q27 V (Proc.devRef .tc r) = (Q26 V) (Proc.devRef .tc r) :=
  after_of_writes_sub hostOps0_27 _ hostOps0_27_writes h
/-- What the reference holds in `main_v104`. -/
def Qx_main_v104 (V : Valuation τ sig (Elt F)) : (Proc.devRef .tc main_v104 : DevRef τ sig).ty.Contents (Elt F) := cmpf .oeq (Qx_main_v98 V) (splat3 (constant S_ .f32 0x3F800000#32))
/-- What the reference holds in `main_c_27`. -/
def Qx_main_c_27 (V : Valuation τ sig (Elt F)) : (Proc.devRef .tc main_c_27 : DevRef τ sig).ty.Contents (Elt F) := constantI S_ 32 0#32
set_option maxRecDepth 8192 in
set_option maxHeartbeats 2000000 in
/-- After stretch 27, `main_v104` holds what is stated of it. -/
theorem Q27_main_v104 (V : Valuation τ sig (Elt F)) : Q27 V (no_index (Proc.devRef .tc main_v104)) = Qx_main_v104 V := by
  unfold Q27
  simp only [hostOps0_27]
  after_results_entrywise [Q26_main_v98, Qx_main_v104, scaled, clipped, hist, cums, weighted, mean, between, best, clipped1, least, less, above, masked, dilated, selected, splat3, splat3i, cast_eq]
set_option maxRecDepth 8192 in
set_option maxHeartbeats 2000000 in
/-- After stretch 27, `main_c_27` holds what is stated of it. -/
theorem Q27_main_c_27 (V : Valuation τ sig (Elt F)) : Q27 V (no_index (Proc.devRef .tc main_c_27)) = Qx_main_c_27 V := by
  unfold Q27
  simp only [hostOps0_27]
  after_results_entrywise [Qx_main_c_27, scaled, clipped, hist, cums, weighted, mean, between, best, clipped1, least, less, above, masked, dilated, selected, splat3, splat3i, cast_eq]
/-- After stretch 27, `main_v102` holds what is stated of it. -/
theorem Q27_main_v102 (V : Valuation τ sig (Elt F)) : Q27 V (no_index (Proc.devRef .tc main_v102)) = Qx_main_v102 V :=
  (Q27_keep V main_v102 (by decide)).trans (Q26_main_v102 V)
/-- The contents after stretch 28 of the operations. -/
def Q28 (V : Valuation τ sig (Elt F)) : Valuation τ sig (Elt F) := after hostOps0_28 (Q27 V)
/-- A buffer that stretch 28 does not write keeps its contents. -/
theorem Q28_keep (V : Valuation τ sig (Elt F)) (r : Ref sig .tc) (h : r ∉ hostOps0_28_W) :
    Q28 V (Proc.devRef .tc r) = (Q27 V) (Proc.devRef .tc r) :=
  after_of_writes_sub hostOps0_28 _ hostOps0_28_writes h
/-- What the reference holds in `main_v105`. -/
def Qx_main_v105 (V : Valuation τ sig (Elt F)) : (Proc.devRef .tc main_v105 : DevRef τ sig).ty.Contents (Elt F) := select (Qx_main_v104 V) (splat3i (Qx_main_c_27 V)) (Qx_main_v102 V)
set_option maxRecDepth 8192 in
set_option maxHeartbeats 2000000 in
/-- After stretch 28, `main_v105` holds what is stated of it. -/
theorem Q28_main_v105 (V : Valuation τ sig (Elt F)) : Q28 V (no_index (Proc.devRef .tc main_v105)) = Qx_main_v105 V := by
  unfold Q28
  simp only [hostOps0_28]
  after_results_entrywise [Q27_main_v104, Q27_main_c_27, Q27_main_v102, Qx_main_v105, scaled, clipped, hist, cums, weighted, mean, between, best, clipped1, least, less, above, masked, dilated, selected, splat3, splat3i, cast_eq]

end Cert.ReferenceIdeal.Tower

end
-- ==== Proof.RefWindow.lean ====
/- The reference's running sums and its three by three maxima, read at one place. -/
module

public import proofs.«01_k».proof.Proof.RefTower
public import proofs.«01_k».proof.Proof.Pixels
public import proofs.«01_k».proof.Proof.Hist
public import Idealize.ShloMosaic.Lib.Pointwise

@[expose] public section

set_option maxRecDepth 16384

noncomputable section

namespace Cert.ReferenceIdeal.Window

open Cert.ReferenceIdeal Cert.ReferenceIdeal.Gen Cert.ReferenceIdeal.Tower
open Cert.Nums Cert.Hist Cert.Pixels
open Idealize.ShloMosaic Idealize.ShloMosaic.TcCoe Idealize.ShloMosaic.Tactic

/-- Adding along a list from a number is adding the list's sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A running greatest value is at most a bound when every value is. -/
theorem foldl_max_le {ι : Type} (g : ι → EReal) (l : List ι) (v y : EReal) :
    l.foldl (fun r n => max r (g n)) v ≤ y ↔ v ≤ y ∧ ∀ n ∈ l, g n ≤ y := by
  induction l generalizing v with
  | nil => simp
  | cons a l ih =>
    rw [List.foldl_cons, ih, max_le_iff, and_assoc, List.forall_mem_cons]

/-- The places of a window of 256 that reach back to the start are the levels up to the one it ends at. -/
theorem window_sum (x : Fin 256 → EReal) (v : Fin 256) :
    (∑ k : Fin 256, if h : 255 ≤ (v : ℕ) + k then x ⟨v + k - 255, by omega⟩ else 0) = pre x v := by
  have e1 : ∀ k : Fin 256, (if h : 255 ≤ (v : ℕ) + k then x ⟨v + k - 255, by omega⟩ else 0)
      = ∑ u : Fin 256, if (u : ℕ) + 255 = v + k then x u else 0 := by
    intro k
    by_cases h : 255 ≤ (v : ℕ) + k
    · rw [dif_pos h, Finset.sum_eq_single (⟨v + k - 255, by omega⟩ : Fin 256)]
      · rw [if_pos (by dsimp only; omega)]
      · intro u _ hu
        rw [if_neg]
        intro hc
        exact hu (Fin.ext (by dsimp only; omega))
      · intro hc; exact absurd (Finset.mem_univ _) hc
    · rw [dif_neg h]
      exact (Finset.sum_eq_zero fun u _ => if_neg (by omega)).symm
  rw [Finset.sum_congr rfl fun k _ => e1 k, Finset.sum_comm]
  unfold pre
  refine Finset.sum_congr rfl fun u _ => ?_
  by_cases h : (u : ℕ) ≤ v
  · rw [if_pos h, Finset.sum_eq_single (⟨u + 255 - v, by omega⟩ : Fin 256)]
    · rw [if_pos (by dsimp only; omega)]
    · intro k _ hk
      rw [if_neg]
      intro hc
      exact hk (Fin.ext (by dsimp only; omega))
    · intro hc; exact absurd (Finset.mem_univ _) hc
  · rw [if_neg h]
    exact Finset.sum_eq_zero fun k _ => if_neg (by omega)

/-- What a window of a padded array holds at one of its places. -/
def place {α : Type} {s t : Shape} (window strides lo : Fin s.rank → Nat) (x : s.Idx → α) (v : α) (e : s.rank = t.rank) (j : t.Idx)
    (i : (⟨s.rank, window⟩ : Shape).Idx) : α :=
  if hin : ∀ a, lo a ≤ (j (a.cast e)).val * strides a + (i a).val ∧ (j (a.cast e)).val * strides a + (i a).val - lo a < s.size a
  then x (fun a => ⟨(j (a.cast e)).val * strides a + (i a).val - lo a, (hin a).2⟩) else v

/-- A window's fold runs over what its places hold. -/
theorem window_fold {α : Type} {s t u : Shape} (f : α → α → α) (window strides lo hi : Fin s.rank → Nat) (x : s.Idx → α)
    (init : u.Idx → α) (h : s.ReduceWindows window strides lo hi t) (hu : 0 < u.numel) (j : t.Idx) :
    Host.reduceWindow f window strides lo hi x init h hu j
      = (List.finRange (⟨s.rank, window⟩ : Shape).numel).foldl
          (fun r n => f r (place window strides lo x (init (Shape.Idx.first hu)) h.1.symm j ((⟨s.rank, window⟩ : Shape).rowMajor.symm n)))
          (init (Shape.Idx.first hu)) := by
  unfold Host.reduceWindow place
  dsimp only
  congr 1
  funext r n
  exact congrArg (f r) (dite_congr rfl (fun _ => rfl) (fun _ => rfl))

/-- A window's exact sum is the sum over its places. -/
theorem window_total {s t u : Shape} (window strides lo hi : Fin s.rank → Nat) (x : FVec Ideal s .f32) (init : FVec Ideal u .f32)
    (h : s.ReduceWindows window strides lo hi t) (hu : 0 < u.numel) (j : t.Idx) (z : init (Shape.Idx.first hu) = (0 : EReal)) :
    Host.reduceWindowAdd (F := Ideal) (φ := .f32) window strides lo hi x init h hu j
      = ∑ i : (⟨s.rank, window⟩ : Shape).Idx, place window strides lo x (0 : EReal) h.1.symm j i := by
  unfold Host.reduceWindowAdd
  rw [Ideal.hostReduceWindowAdd_def, z]
  unfold Ideal.hostReduceWindowAdd
  rw [window_fold]
  have := foldl_add (fun n => place window strides lo x (0 : EReal) h.1.symm j ((⟨s.rank, window⟩ : Shape).rowMajor.symm n))
    (List.finRange (⟨s.rank, window⟩ : Shape).numel) 0
  refine this.trans ?_
  rw [zero_add, ← Fin.sum_univ_def]
  exact Equiv.sum_comp (⟨s.rank, window⟩ : Shape).rowMajor.symm (fun i => place window strides lo x (0 : EReal) h.1.symm j i)

/-- A window's greatest value is at most a bound when what its places hold is. -/
theorem window_max {s t u : Shape} (window strides lo hi : Fin s.rank → Nat) (x : FVec Ideal s .f32) (init : FVec Ideal u .f32)
    (h : s.ReduceWindows window strides lo hi t) (hu : 0 < u.numel) (j : t.Idx) (z : init (Shape.Idx.first hu) = (⊥ : EReal)) (y : EReal) :
    Host.reduceWindow (FloatOps.maximumf (F := Ideal) (φ := .f32)) window strides lo hi x init h hu j ≤ y
      ↔ ∀ i : (⟨s.rank, window⟩ : Shape).Idx, place window strides lo x (⊥ : EReal) h.1.symm j i ≤ y := by
  rw [window_fold, z]
  have := foldl_max_le (fun n => place window strides lo x (⊥ : EReal) h.1.symm j ((⟨s.rank, window⟩ : Shape).rowMajor.symm n))
    (List.finRange (⟨s.rank, window⟩ : Shape).numel) ⊥ y
  refine this.trans ⟨fun hh i => ?_, fun hh => ⟨bot_le, fun n _ => hh _⟩⟩
  have := hh.2 ((⟨s.rank, window⟩ : Shape).rowMajor i) (List.mem_finRange _)
  simpa using this

/-- The places of a row's trailing window. -/
theorem place2 {a : ℕ} (x : (⟨2, ![a, 256]⟩ : Shape).Idx → EReal) (b : Fin a) (v k : Fin 256) :
    place (s := ⟨2, ![a, 256]⟩) (t := ⟨2, ![a, 256]⟩) ![1, 256] ![1, 1] ![0, 255] x (0 : EReal) rfl (ix2 b v) (ix2 (0 : Fin 1) k)
      = if h : 255 ≤ (v : ℕ) + k then x (ix2 b ⟨v + k - 255, by omega⟩) else 0 := by
  unfold place
  by_cases h : 255 ≤ (v : ℕ) + k
  · rw [dif_pos h, dif_pos]
    · refine congrArg x ?_
      funext d
      fin_cases d
      · refine Fin.ext ?_
        show (b : ℕ) * 1 + 0 - 0 = b; omega
      · refine Fin.ext ?_
        show (v : ℕ) * 1 + k - 255 = v + k - 255; omega
    · intro d
      fin_cases d
      · show 0 ≤ (b : ℕ) * 1 + 0 ∧ (b : ℕ) * 1 + 0 - 0 < a; omega
      · show 255 ≤ (v : ℕ) * 1 + k ∧ (v : ℕ) * 1 + k - 255 < 256; omega
  · rw [dif_neg h]
    refine dif_neg fun hin => h ?_
    have h1 : 255 ≤ (v : ℕ) * 1 + k := (hin 1).1
    omega

/-- A place of a pixel's three by three window that lies in the image. -/
theorem place3 {a n : ℕ} (x : (⟨3, ![a, n, n]⟩ : Shape).Idx → EReal) (b : Fin a) (r c r' c' : Fin n) (k l : Fin 3)
    (hr : (r : ℕ) + k = r' + 1) (hc : (c : ℕ) + l = c' + 1) :
    place (s := ⟨3, ![a, n, n]⟩) (t := ⟨3, ![a, n, n]⟩) ![1, 3, 3] ![1, 1, 1] ![0, 1, 1] x (⊥ : EReal) rfl (ix3 b r c) (ix3 (0 : Fin 1) k l)
      = x (ix3 b r' c') := by
  unfold place
  rw [dif_pos]
  · refine congrArg x ?_
    funext d
    fin_cases d
    · refine Fin.ext ?_
      show (b : ℕ) * 1 + 0 - 0 = b; omega
    · refine Fin.ext ?_
      show (r : ℕ) * 1 + k - 1 = r'; omega
    · refine Fin.ext ?_
      show (c : ℕ) * 1 + l - 1 = c'; omega
  · intro d
    fin_cases d
    · show 0 ≤ (b : ℕ) * 1 + 0 ∧ (b : ℕ) * 1 + 0 - 0 < a; omega
    · show 1 ≤ (r : ℕ) * 1 + k ∧ (r : ℕ) * 1 + k - 1 < n; omega
    · show 1 ≤ (c : ℕ) * 1 + l ∧ (c : ℕ) * 1 + l - 1 < n; omega

/-- A place of a pixel's three by three window that lies outside the image. -/
theorem place3_out {a n : ℕ} (x : (⟨3, ![a, n, n]⟩ : Shape).Idx → EReal) (b : Fin a) (r c : Fin n) (k l : Fin 3)
    (h : ¬ ∃ r' c' : Fin n, (r : ℕ) + k = r' + 1 ∧ (c : ℕ) + l = c' + 1) :
    place (s := ⟨3, ![a, n, n]⟩) (t := ⟨3, ![a, n, n]⟩) ![1, 3, 3] ![1, 1, 1] ![0, 1, 1] x (⊥ : EReal) rfl (ix3 b r c) (ix3 (0 : Fin 1) k l)
      = ⊥ := by
  unfold place
  refine dif_neg fun hin => h ?_
  have h1 : 1 ≤ (r : ℕ) * 1 + k ∧ (r : ℕ) * 1 + k - 1 < n := hin 1
  have h2 : 1 ≤ (c : ℕ) * 1 + l ∧ (c : ℕ) * 1 + l - 1 < n := hin 2
  exact ⟨⟨r + k - 1, by omega⟩, ⟨c + l - 1, by omega⟩, by dsimp only; omega, by dsimp only; omega⟩

/-- The running sums, read at one level. -/
theorem cums_eq (x : FVec Ideal S32x256 .f32) (b : Fin 32) (v : Fin 256) :
    cums (F := Ideal) x (ix2 b v) = pre (fun u => x (ix2 b u)) v := by
  have z : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  refine (window_total _ _ _ _ x _ _ _ _ z).trans (Eq.trans ?_ (window_sum _ v))
  refine (sum_idx2 (n0 := 1) (n1 := 256) _).trans ?_
  rw [Fin.sum_univ_one]
  exact Finset.sum_congr rfl fun k _ => place2 x b v k

/-- The three by three maxima of an array that tells which pixels are in a set tell which have a neighbour in it. -/
theorem dilated_eq (x : FVec Ideal S32x262144 .f32) (b : Fin 32) (S : Fin 262144 → Prop) (hx : ∀ q, x (ix2 b q) = tell (S q))
    (r c : Fin 512) : dilated (F := Ideal) x (ix3 b r c) = tell (near (fun r' c' => S (pix (r', c'))) r c) := by
  have z : (broadcastInDim S_ ![] bcast_S_S_ (constant (F := Ideal) S_ .f32 0xFF800000#32)) (Shape.Idx.first h_S_) = (⊥ : EReal) := cbot
  have hy : ∀ r c, shapeCast S32x512x512 x shapeCasts_S32x262144_S32x512x512 (ix3 b r c) = tell (S (pix (r, c))) := by
    intro r c
    pointwise
    rw [← hx]
    congr 2
    refine Fin.ext ?_
    show (r : ℕ) * 512 + c = 512 * r + c
    omega
  unfold dilated
  generalize shapeCast S32x512x512 x shapeCasts_S32x262144_S32x512x512 = y at hy
  have char := window_max _ _ _ _ y _ reduceWindows_S32x512x512_S32x512x512_w1s1p0_0_w3s1p1_1_w3s1p1_1 h_S_ (ix3 b r c) z
  generalize Host.reduceWindow (FloatOps.maximumf (F := Ideal) (φ := .f32)) ![1, 3, 3] ![1, 1, 1] ![0, 1, 1] ![0, 1, 1] y
    (broadcastInDim S_ ![] bcast_S_S_ (constant (F := Ideal) S_ .f32 0xFF800000#32)) reduceWindows_S32x512x512_S32x512x512_w1s1p0_0_w3s1p1_1_w3s1p1_1 h_S_ (ix3 b r c) = M at char ⊢
  have above := fun (k l : Fin 3) => (char M).1 le_rfl (ix3 (0 : Fin 1) k l)
  refine le_antisymm ((char _).2 fun i => ?_) ?_
  · have hi : i = ix3 (0 : Fin 1) (i 1 : Fin 3) (i 2 : Fin 3) := by
      funext a
      fin_cases a
      · exact Subsingleton.elim (α := Fin 1) _ _
      · rfl
      · rfl
    obtain ⟨k, hk⟩ : ∃ k : Fin 3, k = i 1 := ⟨_, rfl⟩
    obtain ⟨l, hl⟩ : ∃ l : Fin 3, l = i 2 := ⟨_, rfl⟩
    rw [hi, ← hk, ← hl]
    by_cases h : ∃ r' c' : Fin 512, (r : ℕ) + k = r' + 1 ∧ (c : ℕ) + l = c' + 1
    · obtain ⟨r', c', hr, hc⟩ := h
      refine (le_of_eq (place3 y b r c r' c' k l hr hc)).trans ?_
      rw [hy]
      by_cases hs : S (pix (r', c'))
      · rw [tell_pos hs, tell_pos]
        exact ⟨c', ⟨r', hs, by unfold by1; omega⟩, by unfold by1; omega⟩
      · rw [tell_neg hs]
        unfold tell; split <;> norm_num
    · exact (le_of_eq (place3_out y b r c k l h)).trans bot_le
  · by_cases h : near (fun r' c' => S (pix (r', c'))) r c
    · rw [tell_pos h]
      obtain ⟨c', ⟨r', hs, hr⟩, hc⟩ := h
      unfold by1 at hr hc
      have e := place3 y b r c r' c' ⟨r' + 1 - r, by omega⟩ ⟨c' + 1 - c, by omega⟩ (by dsimp only; omega) (by dsimp only; omega)
      rw [hy, tell_pos hs] at e
      exact (ge_of_eq e).trans (above _ _)
    · rw [tell_neg h]
      have e := place3 y b r c r c 1 1 (by norm_num) (by norm_num)
      rw [hy] at e
      refine le_trans ?_ ((ge_of_eq e).trans (above 1 1))
      unfold tell; split <;> norm_num

end Cert.ReferenceIdeal.Window

end
-- ==== Proof.RefBest.lean ====
/- The reference's first level of greatest variance. -/
module

public import proofs.«01_k».proof.Proof.RefTower
public import proofs.«01_k».proof.Proof.Step
public import Idealize.ShloMosaic.Lib.Pointwise

@[expose] public section

set_option maxRecDepth 16384

noncomputable section

namespace Cert.ReferenceIdeal.Best

open Cert.ReferenceIdeal Cert.ReferenceIdeal.Gen Cert.ReferenceIdeal.Tower
open Cert.Nums Cert.Hist Cert.Step
open Idealize.ShloMosaic Idealize.ShloMosaic.TcCoe Idealize.ShloMosaic.Tactic

/-- Small levels compare as their words. -/
theorem slt_low (a b : ℕ) (ha : a < 255) (hb : b < 255) :
    IntOp.cmpi .slt (BitVec.ofNat 32 a) (BitVec.ofNat 32 b) = BitVec.ofBool (decide (a < b)) := by
  have : (BitVec.ofNat 32 a).slt (BitVec.ofNat 32 b) = decide (a < b) := by
    rw [BitVec.slt_eq_decide]
    refine decide_eq_decide.2 ?_
    simp only [BitVec.toInt_eq_toNat_bmod, BitVec.toNat_ofNat, Int.bmod_def]
    omega
  exact congrArg BitVec.ofBool this

/-- The comparison keeps the first pair when it is ahead: a greater value, or an equal one at a smaller place. -/
theorem keep_first (g : Fin 255 → EReal) (i k : Fin 255) (h : g k < g i ∨ (g k = g i ∧ i ≤ k)) :
    reducer_argmax_f32_i32 (F := Ideal) (g i, BitVec.ofNat 32 (i : ℕ)) (g k, BitVec.ofNat 32 (k : ℕ)) = (g i, BitVec.ofNat 32 (i : ℕ)) := by
  unfold reducer_argmax_f32_i32
  dsimp only
  rw [slt_low _ _ i.isLt k.isLt]
  rcases h with h | ⟨h, h'⟩
  · simp [Ideal.cmpf_def, Ideal.cmp, Scalar.select, IntOp.ori, IntOp.andi, h, h.ne']
  · rcases lt_or_eq_of_le h' with h' | h'
    · simp [Ideal.cmpf_def, Ideal.cmp, Scalar.select, IntOp.ori, IntOp.andi, h, h']
    · subst h'
      simp [Ideal.cmpf_def, Ideal.cmp, Scalar.select, IntOp.ori, IntOp.andi]

/-- The comparison passes to the second pair when that is ahead. -/
theorem keep_second (g : Fin 255 → EReal) (i k : Fin 255) (h : g i < g k ∨ (g k = g i ∧ k < i)) :
    reducer_argmax_f32_i32 (F := Ideal) (g i, BitVec.ofNat 32 (i : ℕ)) (g k, BitVec.ofNat 32 (k : ℕ)) = (g k, BitVec.ofNat 32 (k : ℕ)) := by
  unfold reducer_argmax_f32_i32
  dsimp only
  rw [slt_low _ _ i.isLt k.isLt]
  rcases h with h | ⟨h, h'⟩
  · simp [Ideal.cmpf_def, Ideal.cmp, Scalar.select, IntOp.ori, IntOp.andi, h.not_gt, h.ne]
  · have h'' : ¬ (i : ℕ) < k := by have := Fin.lt_def.1 h'; omega
    simp [Ideal.cmpf_def, Ideal.cmp, Scalar.select, IntOp.ori, IntOp.andi, h, h'']

/-- Minus infinity gives way to any value. -/
theorem keep_any (g : Fin 255 → EReal) (k : Fin 255) (h : ⊥ < g k) :
    reducer_argmax_f32_i32 (F := Ideal) ((⊥ : EReal), 0#32) (g k, BitVec.ofNat 32 (k : ℕ)) = (g k, BitVec.ofNat 32 (k : ℕ)) := by
  unfold reducer_argmax_f32_i32
  dsimp only
  simp [Ideal.cmpf_def, Ideal.cmp, Scalar.select, IntOp.ori, IntOp.andi, h.ne]

/-- A place is ahead of another: a greater value, or an equal one no later. -/
def Ahead (g : Fin 255 → EReal) (i k : Fin 255) : Prop := g k < g i ∨ (g k = g i ∧ i ≤ k)

/-- The order of the argmax is reflexive. -/
theorem ahead_refl (g : Fin 255 → EReal) (i : Fin 255) : Ahead g i i := Or.inr ⟨rfl, le_rfl⟩

/-- The order of the argmax is transitive. -/
theorem ahead_trans (g : Fin 255 → EReal) (i k l : Fin 255) (h : Ahead g i k) (h' : Ahead g k l) : Ahead g i l := by
  unfold Ahead at *
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- The comparisons along a list end at a place ahead of all its places. -/
theorem fold_ahead (g : Fin 255 → EReal) (l : List (Fin 255)) (i0 : Fin 255) :
    ∃ i, (l.map fun k => (g k, BitVec.ofNat 32 (k : ℕ))).foldl (reducer_argmax_f32_i32 (F := Ideal)) (g i0, BitVec.ofNat 32 (i0 : ℕ))
      = (g i, BitVec.ofNat 32 (i : ℕ)) ∧ Ahead g i i0 ∧ ∀ k ∈ l, Ahead g i k := by
  induction l generalizing i0 with
  | nil => exact ⟨i0, rfl, ahead_refl g i0, by simp⟩
  | cons a l ih =>
    rw [List.map_cons, List.foldl_cons]
    by_cases h : Ahead g i0 a
    · rw [keep_first g i0 a h]
      obtain ⟨i, e, h0, hl⟩ := ih i0
      exact ⟨i, e, h0, List.forall_mem_cons.2 ⟨ahead_trans g i i0 a h0 h, hl⟩⟩
    · have h' : g i0 < g a ∨ (g a = g i0 ∧ a < i0) := by
        unfold Ahead at h
        push Not at h
        rcases lt_or_eq_of_le h.1 with h1 | h1
        · exact Or.inl h1
        · exact Or.inr ⟨h1.symm, h.2 h1.symm⟩
      rw [keep_second g i0 a h']
      obtain ⟨i, e, h0, hl⟩ := ih a
      refine ⟨i, e, ahead_trans g i a i0 h0 ?_, List.forall_mem_cons.2 ⟨h0, hl⟩⟩
      exact h'.imp id fun h => ⟨h.1.symm, h.2.le⟩

/-- The comparisons along a list of all the places, from minus infinity. -/
theorem fold_first (g : Fin 255 → EReal) (hg : ∀ k, ⊥ < g k) (l : List (Fin 255)) (hl : ∀ k, k ∈ l) :
    ∃ i, (l.map fun k => (g k, BitVec.ofNat 32 (k : ℕ))).foldl (reducer_argmax_f32_i32 (F := Ideal)) ((⊥ : EReal), 0#32)
      = (g i, BitVec.ofNat 32 (i : ℕ)) ∧ ∀ k, Ahead g i k := by
  cases l with
  | nil => exact absurd (hl 0) (by simp)
  | cons a l =>
    rw [List.map_cons, List.foldl_cons, keep_any g a (hg a)]
    obtain ⟨i, e, h0, h⟩ := fold_ahead g l a
    refine ⟨i, e, fun k => ?_⟩
    rcases List.mem_cons.1 (hl k) with rfl | hk
    · exact h0
    · exact h k hk

/-- An index's place in its row. -/
def col {a n : ℕ} (i : (⟨2, ![a, n]⟩ : Shape).Idx) : Fin n := i 1

/-- A row's list of values and places. -/
theorem fiber_row {a n : ℕ} (x : (⟨2, ![a, n]⟩ : Shape).Idx → EReal) (h : (⟨2, ![a, n]⟩ : Shape).ReducesTo [1] ⟨1, ![a]⟩) (b : Fin a) :
    ∃ l : List (Fin n), (∀ k, k ∈ l) ∧ Host.argReduceFiber x (iotaInDim ⟨2, ![a, n]⟩ 32 1) h (ix1 b)
      = l.map fun k => (x (ix2 b k), BitVec.ofNat 32 (k : ℕ)) := by
  refine ⟨((List.finRange (⟨2, ![a, n]⟩ : Shape).numel).filter fun m => h.drop ((⟨2, ![a, n]⟩ : Shape).rowMajor.symm m) = ix1 b).map
    fun m => col ((⟨2, ![a, n]⟩ : Shape).rowMajor.symm m), fun k => List.mem_map.2 ⟨(⟨2, ![a, n]⟩ : Shape).rowMajor (ix2 b k), ?_, ?_⟩, ?_⟩
  · rw [List.mem_filter]
    refine ⟨List.mem_finRange _, ?_⟩
    rw [Equiv.symm_apply_apply, decide_eq_true_iff]
    exact (h.fiber_r2_a1 _ _).2 ⟨k, rfl⟩
  · rw [Equiv.symm_apply_apply]; rfl
  · unfold Host.argReduceFiber
    rw [List.map_map]
    refine List.map_congr_left fun m hm => ?_
    rw [List.mem_filter, decide_eq_true_iff] at hm
    obtain ⟨k, hk⟩ := (h.fiber_r2_a1 _ _).1 hm.2
    have hk : (⟨2, ![a, n]⟩ : Shape).rowMajor.symm m = ix2 b k := hk.symm
    rw [Function.comp_apply, hk]
    rfl

/-- The first level of greatest value in a row. -/
theorem best_first (x : FVec Ideal S32x255 .f32) (b : Fin 32) (hg : ∀ k, (⊥ : EReal) < x (ix2 b k)) :
    ∃ i : Fin 255, best (F := Ideal) x (ix1 b) = BitVec.ofNat 32 (i : ℕ) ∧ ∀ k, Ahead (fun k => x (ix2 b k)) i k := by
  obtain ⟨l, hl, e⟩ := fiber_row x reducesTo_S32x255_S32_d1 b
  obtain ⟨i, hi, ha⟩ := fold_first (fun k => x (ix2 b k)) hg l hl
  refine ⟨i, ?_, ha⟩
  unfold best
  rw [Ideal.argReduce_eq_reduce2, Host.reduce2_eq_foldl_fiber]
  refine (congrArg (fun L => (List.foldl (reducer_argmax_f32_i32 (F := Ideal)) _ L).2) e).trans ?_
  refine Eq.trans ?_ (congrArg Prod.snd hi)
  refine congrArg (fun z => (List.foldl (reducer_argmax_f32_i32 (F := Ideal)) z _).2) ?_
  exact Prod.ext cbot rfl

/-- With the variances of a row in it, the first level of greatest value is the peak. -/
theorem best_peak {P : Type} [Fintype P] [DecidableEq P] (n : P → Fin 256) (x : FVec Ideal S32x255 .f32) (b : Fin 32)
    (hx : ∀ k : Fin 255, x (ix2 b k) = variance (H n) (HB n) k) :
    ∃ v0 : Fin 256, Peak n v0 ∧ best (F := Ideal) x (ix1 b) = BitVec.ofNat 32 (v0 : ℕ) := by
  have hn : ∀ v, 0 ≤ H n v := fun v => nat_nonneg _
  have pos : ∀ k, 0 ≤ variance (H n) (HB n) k := variance_nonneg _ _ hn
  obtain ⟨i, e, ha⟩ := best_first x b fun k => by rw [hx]; exact lt_of_lt_of_le EReal.bot_lt_zero (pos _)
  refine ⟨⟨i, by omega⟩, ?_, e⟩
  have s0 : scored (H n) (HB n) ⟨i, by omega⟩ = variance (H n) (HB n) i := by
    unfold scored
    rw [if_pos (show (i : ℕ) < 255 from i.isLt)]
  have neg : ((-1 : ℝ) : EReal) < 0 := by exact_mod_cast (by norm_num : (-1 : ℝ) < 0)
  have low : ∀ v : Fin 256, ¬ (v : ℕ) < 255 → scored (H n) (HB n) v < variance (H n) (HB n) i := by
    intro v hv
    unfold scored
    rw [if_neg hv]
    exact neg.trans_le (pos _)
  refine ⟨fun v => ?_, fun v hv => ?_⟩
  · rw [s0]
    by_cases h : (v : ℕ) < 255
    · have := ha ⟨v, h⟩
      unfold Ahead at this
      dsimp only at this
      rw [hx, hx] at this
      unfold scored
      rw [if_pos h]
      exact this.elim le_of_lt fun h => h.1.le
    · exact (low v h).le
  · rw [s0]
    by_cases h : (v : ℕ) < 255
    · have := ha ⟨v, h⟩
      unfold Ahead at this
      dsimp only at this
      rw [hx, hx] at this
      unfold scored
      rw [if_pos h]
      refine this.elim id fun h' => ?_
      have h1 := Fin.lt_def.1 hv
      have h2 := Fin.le_def.1 h'.2
      dsimp only at h1 h2
      omega
    · exact low v h

end Cert.ReferenceIdeal.Best

end
-- ==== Proof.RefLevels.lean ====
/- The reference's histogram, its variances and the threshold its search starts from. -/
module

public import proofs.«01_k».proof.Proof.RefWindow
public import proofs.«01_k».proof.Proof.RefBest

@[expose] public section

set_option maxRecDepth 16384

noncomputable section

namespace Cert.ReferenceIdeal.Levels

open Cert.ReferenceIdeal Cert.ReferenceIdeal.Gen Cert.ReferenceIdeal.Tower Cert.ReferenceIdeal.Window
open Cert.Nums Cert.Hist Cert.Pixels Cert.Step
open Idealize.ShloMosaic Idealize.ShloMosaic.TcCoe Idealize.ShloMosaic.Tactic

/-- The pixels of an image. -/
abbrev Px : Type := Fin 512 × Fin 512

/-- Row `b` of an array holds the levels `n` of an image. -/
def Row (x : FVec Ideal S32x262144 .f32) (b : Fin 32) (n : Px → Fin 256) : Prop :=
  ∀ q, x (ix2 b q) = ((n (pix.symm q) : ℕ) : EReal)

/-- A level's word as a float is the level. -/
theorem sitofp_low (k : ℕ) (h : k < 256) : FloatOps.sitofp (F := Ideal) .f32 (BitVec.ofNat 32 k) = ((k : ℕ) : EReal) := by
  have : (BitVec.ofNat 32 k).toInt = (k : ℤ) := by
    simp only [BitVec.toInt_eq_toNat_bmod, BitVec.toNat_ofNat, Int.bmod_def]
    omega
  show (((BitVec.ofNat 32 k).toInt : ℝ) : EReal) = _
  rw [this, nat_real]
  norm_cast

/-- A sum over the places of an image is a sum over its pixels. -/
theorem sum_pix (f : Px → EReal) : (∑ q : Fin 262144, f (pix.symm q)) = ∑ p, f p := Equiv.sum_comp pix.symm f

variable (x : FVec Ideal S32x262144 .f32) (b : Fin 32) (n : Px → Fin 256) (hx : Row x b n)
include hx

/-- The histogram counts the pixels of each level. -/
theorem hist_eq (v : Fin 256) : hist (F := Ideal) x (ix2 b v) = H n v := by
  have e : hist (F := Ideal) x (ix2 b v) = ∑ q : Fin 262144, FloatOps.uitofp (F := Ideal) FTy.f32
      (BitVec.ofBool (decide (x (ix2 b q) = FloatOps.sitofp (F := Ideal) FTy.f32 (BitVec.ofNat 32 (v : ℕ))))) := by
    unfold hist; pointwise
  rw [e, sitofp_low _ v.isLt]
  refine (Finset.sum_congr rfl fun q _ => (ind_bit _).trans (ind_congr (q := n (pix.symm q) = v) ?_)).trans ?_
  · rw [hx, nat_inj, Fin.ext_iff]
  · rw [sum_pix fun p => ind (n p = v), sum_ind]
    rfl

/-- Levels times their counts. -/
theorem weighted_eq (v : Fin 256) : weighted (F := Ideal) (hist x) (sitofp .f32 (iotaInDim S256 32 0)) (ix2 b v) = HB n v := by
  have e : ∀ (h : FVec Ideal S32x256 .f32) (y : FVec Ideal S256 .f32), weighted (F := Ideal) h y (ix2 b v) = h (ix2 b v) * y (ix1 v) := by
    intro h y; unfold weighted; pointwise
  rw [e, hist_eq x b n hx]
  unfold HB
  exact congrArg (H n v * ·) (sitofp_low _ v.isLt)

omit hx in
/-- A row read backwards. -/
theorem rev_eq (y : FVec Ideal S32x256 .f32) (v : Fin 256) : Host.reverse [1] y (ix2 b v) = y (ix2 b v.rev) := by
  have e : Host.reverse [1] y (ix2 b v) = y (ix2 (if (0 : Fin 2) ∈ [(1 : Fin 2)] then b.rev else b) (if (1 : Fin 2) ∈ [(1 : Fin 2)] then v.rev else v)) := by
    pointwise
  rw [e, if_neg (by decide), if_pos (by decide)]

omit hx in
/-- Sums up to a level of the row read backwards are sums from the mirrored level. -/
theorem pre_rev (g : Fin 256 → EReal) (v : Fin 256) : pre (fun u => g u.rev) (v.rev : Fin 256) = suf g v := by
  unfold pre suf
  refine (Equiv.sum_comp Fin.revPerm (fun u : Fin 256 => if (v : ℕ) ≤ u then g u else 0)).symm.trans ?_ |>.symm
  refine Finset.sum_congr rfl fun u _ => ?_
  rw [Fin.revPerm_apply]
  refine if_congr ?_ rfl rfl
  have := Fin.val_rev u
  have := Fin.val_rev v
  omega

omit hx in
/-- Running sums taken backwards are the sums from each level on. -/
theorem sufs_eq (y : FVec Ideal S32x256 .f32) (v : Fin 256) :
    Host.reverse [1] (cums (F := Ideal) (Host.reverse [1] y)) (ix2 b v) = suf (fun u => y (ix2 b u)) v := by
  rw [rev_eq, cums_eq]
  refine (congrArg (fun g => pre g (v.rev : Fin 256)) (funext fun u => ?_)).trans (pre_rev (fun u => y (ix2 b u)) v)
  exact rev_eq b y u

omit hx in
/-- The mean at a level: the weighted count over the count. -/
theorem mean_at (s w : FVec Ideal S32x256 .f32) (v : Fin 256) : mean (F := Ideal) s w (ix2 b v) = Ideal.div (s (ix2 b v)) (max (w (ix2 b v)) 1) := by
  unfold mean; pointwise

omit hx in
/-- The variance at a level, from the counts and the means. -/
theorem between_at (p q r s : FVec Ideal S32x256 .f32) (k : Fin 255) : between (F := Ideal) p q r s (ix2 b k)
    = p (ix2 b ⟨k, by omega⟩) * q (ix2 b ⟨1 + k, by omega⟩)
      * ((r (ix2 b ⟨k, by omega⟩) - s (ix2 b ⟨1 + k, by omega⟩)) * (r (ix2 b ⟨k, by omega⟩) - s (ix2 b ⟨1 + k, by omega⟩))) := by
  unfold between; pointwise

omit hx in
/-- The means from each level on. -/
theorem mean_rev (s w : FVec Ideal S32x256 .f32) (v : Fin 256) :
    Host.reverse [1] (mean (F := Ideal) (cums (Host.reverse [1] s)) (cums (Host.reverse [1] w))) (ix2 b v)
      = Ideal.div (suf (fun u => s (ix2 b u)) v) (max (suf (fun u => w (ix2 b u)) v) 1) := by
  rw [rev_eq, mean_at, ← sufs_eq, ← sufs_eq, rev_eq, rev_eq]

/-- The variances between the classes, level by level. -/
theorem between_eq (k : Fin 255) :
    between (F := Ideal) (cums (hist x)) (Host.reverse [1] (cums (Host.reverse [1] (hist x))))
      (mean (cums (weighted (hist x) (sitofp .f32 (iotaInDim S256 32 0)))) (cums (hist x)))
      (Host.reverse [1] (mean (cums (Host.reverse [1] (weighted (hist x) (sitofp .f32 (iotaInDim S256 32 0))))) (cums (Host.reverse [1] (hist x)))))
      (ix2 b k) = variance (H n) (HB n) k := by
  have hh : (fun u => hist (F := Ideal) x (ix2 b u)) = H n := funext fun u => hist_eq x b n hx u
  have hw : (fun u => weighted (F := Ideal) (hist x) (sitofp .f32 (iotaInDim S256 32 0)) (ix2 b u)) = HB n :=
    funext fun u => weighted_eq x b n hx u
  rw [between_at, mean_at, mean_rev, sufs_eq, cums_eq, cums_eq, hh, hw]
  unfold variance mean1 mean2
  rw [show ((⟨1 + k, by omega⟩ : Fin 256) : ℕ) = (k : ℕ) + 1 from Nat.add_comm _ _]

/-- The least level of an image. -/
theorem least_eq : ∃ p0, (∀ p, n p0 ≤ n p) ∧ least (F := Ideal) x (ix1 b) = ((n p0 : ℕ) : EReal) := by
  obtain ⟨p0, h, -, e⟩ := least_level n
  refine ⟨p0, h, ?_⟩
  have r : least (F := Ideal) x (ix1 b) = Finset.fold min (Ideal.ofBits FTy.f32 2139095040#32) (fun q : Fin 262144 => x (ix2 b q)) Finset.univ := by
    unfold least; pointwise
  rw [r, ctop, ← e]
  apply le_antisymm
  · rw [Finset.le_fold_min]
    refine ⟨le_top, fun p _ => ?_⟩
    rw [Finset.fold_min_le]
    refine Or.inr ⟨pix p, Finset.mem_univ _, ?_⟩
    rw [hx, Equiv.symm_apply_apply]
  · rw [Finset.le_fold_min]
    refine ⟨le_top, fun q _ => ?_⟩
    rw [Finset.fold_min_le]
    refine Or.inr ⟨pix.symm q, Finset.mem_univ _, ?_⟩
    rw [hx]

omit hx in
/-- The first threshold, held between the second level and the last but one. -/
theorem clipped1_at (w : IVec S32 32) (v0 : Fin 256) (h : w (ix1 b) = BitVec.ofNat 32 (v0 : ℕ)) :
    clipped1 (F := Ideal) (constant S_ .f32 0x3F800000#32) (constant S_ .f32 0x437E0000#32) (sitofp .f32 w) (ix1 b)
      = min ((254 : ℕ) : EReal) (max 1 ((v0 : ℕ) : EReal)) := by
  have e : clipped1 (F := Ideal) (constant S_ .f32 0x3F800000#32) (constant S_ .f32 0x437E0000#32) (sitofp .f32 w) (ix1 b)
      = min (Ideal.ofBits FTy.f32 1132331008#32) (max 1 (FloatOps.sitofp (F := Ideal) FTy.f32 (w (ix1 b)))) := by
    unfold clipped1; pointwise
  rw [e, h, sitofp_low _ v0.isLt, c254]

end Cert.ReferenceIdeal.Levels

end
-- ==== Proof.RefPicks.lean ====
/- The reference's hundred greatest scores: which pixels they are. -/
module

public import proofs.«01_k».proof.Proof.RefTower
public import proofs.«01_k».proof.Proof.Pixels
public import proofs.«01_k».proof.Proof.Rows
public import Idealize.ShloMosaic.Lib.Pointwise

@[expose] public section

set_option maxRecDepth 16384

noncomputable section

namespace Cert.ReferenceIdeal.Picks

open Cert.ReferenceIdeal Cert.ReferenceIdeal.Gen Cert.ReferenceIdeal.Tower
open Cert.Nums Cert.Ranks Cert.Pixels
open Idealize.ShloMosaic Idealize.ShloMosaic.TcCoe Idealize.ShloMosaic.Tactic

/-- The `or` of bits is set when one of them is. -/
theorem fold_or {ι : Type} [DecidableEq ι] (s : Finset ι) (g : ι → BitVec 1) :
    s.fold IntOp.ori 0#1 g = 1#1 ↔ ∃ k ∈ s, g k = 1#1 := by
  induction s using Finset.induction_on with
  | empty => simp
  | insert a s ha ih =>
    rw [Finset.fold_insert ha, Finset.exists_mem_insert, ← ih]
    generalize Finset.fold IntOp.ori 0#1 g s = y
    generalize g a = x
    revert x y
    decide

/-- A bit as a number tells whether it is set. -/
theorem uitofp_tell (x : BitVec 1) (p : Prop) (h : x = 1#1 ↔ p) : FloatOps.uitofp (F := Ideal) .f32 x = tell p := by
  classical
  have e : x = BitVec.ofBool (decide p) := by
    by_cases hp : p
    · rw [h.2 hp]; simp [hp]
    · have hx : x ≠ 1#1 := fun hx => hp (h.1 hx)
      have : ∀ y : BitVec 1, y ≠ 1#1 → y = 0#1 := by decide
      rw [this x hx]; simp [hp]
  rw [e, ind_bit, ind_tell]

/-- Two words agree and one number is less than another, as bits. -/
theorem hit (a c : BitVec 32) (v w : EReal) [d : Decidable (v < w)] :
    IntOp.andi (IntOp.cmpi .eq a c) (BitVec.ofBool (@decide (v < w) d)) = 1#1 ↔ a = c ∧ v < w := by
  have : ∀ p q : Bool, (BitVec.ofBool p &&& BitVec.ofBool q = 1#1 ↔ p = true ∧ q = true) := by decide
  refine (this (a == c) (@decide (v < w) d)).trans ?_
  rw [beq_iff_eq, decide_eq_true_iff]

/-- A condition's bit is one where the condition holds. -/
theorem ofBool_beq (p : Prop) [Decidable p] : (BitVec.ofBool (decide p) == 1#1) = decide p := by
  by_cases h : p <;> simp [h]

/-- The first places of a row. -/
theorem front {α : Type} {a n k : ℕ} (y : (⟨2, ![a, n]⟩ : Shape).Idx → α) (h : (⟨2, ![a, n]⟩ : Shape).Slices (fun _ => 0) ⟨2, ![a, k]⟩)
    (b : Fin a) (j : Fin k) (hj : (j : ℕ) < n) : extractStridedSlice ⟨2, ![a, k]⟩ (fun _ => 0) y h (ix2 b j) = y (ix2 b ⟨j, hj⟩) := by
  unfold extractStridedSlice
  refine congrArg y ?_
  funext d
  fin_cases d
  · refine Fin.ext ?_
    show 0 + (b : ℕ) = b; omega
  · refine Fin.ext ?_
    show 0 + (j : ℕ) = j; omega

/-- The greatest scores of a row come in the order of the ranks: the scores. -/
theorem top_values {a n k : ℕ} (x : FVec Ideal (⟨2, ![a, n]⟩ : Shape) .f32) (h) (b : Fin a) (j : Fin k) (hj : (j : ℕ) < n) :
    (Host.topK (s := ⟨2, ![a, n]⟩) ⟨2, ![a, k]⟩ 1 (FloatOps.cmpfTotal (F := Ideal) (φ := .f32) .gt) x h).1 (ix2 b j)
      = x (ix2 b (sorted (fun q => x (ix2 b q)) ⟨j, hj⟩)) := by
  unfold Host.topK
  dsimp only
  refine (front _ _ b j hj).trans ((Rows.sort2_row_key _ _ _ b _).trans ?_)
  refine congrArg (fun f => x (ix2 b (sortedFrom f ⟨j, hj⟩))) ?_
  funext p q
  exact ofBool_beq _

/-- The greatest scores of a row come in the order of the ranks: their places. -/
theorem top_places {a n k : ℕ} (x : FVec Ideal (⟨2, ![a, n]⟩ : Shape) .f32) (h) (b : Fin a) (j : Fin k) (hj : (j : ℕ) < n) :
    (Host.topK (s := ⟨2, ![a, n]⟩) ⟨2, ![a, k]⟩ 1 (FloatOps.cmpfTotal (F := Ideal) (φ := .f32) .gt) x h).2 (ix2 b j)
      = BitVec.ofNat 32 (sorted (fun q => x (ix2 b q)) ⟨j, hj⟩).val := by
  unfold Host.topK
  dsimp only
  refine (front _ _ b j hj).trans ((Rows.sort2_row _ _ _ b _).trans ?_)
  refine congrArg (fun f => BitVec.ofNat 32 (sortedFrom f ⟨j, hj⟩).val) ?_
  funext p q
  exact ofBool_beq _

/-- A pixel is among the first hundred of a mask's scores, and its score is one, when the answer picks it. -/
theorem among {n : ℕ} (hn : 100 ≤ n) (hw : n ≤ 2 ^ 32) (f : Fin n → EReal) (roi : Fin n → Prop) (hf : ∀ q, ⊥ < f q) (q : Fin n)
    (t1 : Fin 100 → EReal) (t2 : Fin 100 → BitVec 32)
    (h1 : ∀ j : Fin 100, t1 j = maskScore f roi (sorted (maskScore f roi) ⟨j, by omega⟩))
    (h2 : ∀ j : Fin 100, t2 j = BitVec.ofNat 32 (sorted (maskScore f roi) ⟨j, by omega⟩).val) :
    (∃ j : Fin 100, t2 j = BitVec.ofNat 32 (q : ℕ) ∧ ⊥ < t1 j) ↔ roi q ∧ rank (maskScore f roi) q < 100 := by
  constructor
  · rintro ⟨j, e2, e1⟩
    rw [h2] at e2
    have e : sorted (maskScore f roi) ⟨j, by omega⟩ = q := by
      apply Fin.ext
      have := congrArg BitVec.toNat e2
      rw [BitVec.toNat_ofNat, BitVec.toNat_ofNat] at this
      rwa [Nat.mod_eq_of_lt (by omega), Nat.mod_eq_of_lt (by omega)] at this
    rw [h1, e] at e1
    refine ⟨?_, ?_⟩
    · by_contra hr
      unfold maskScore at e1
      rw [if_neg hr] at e1
      exact lt_irrefl _ e1
    · rw [← e, rank_sorted]
      exact j.isLt
  · rintro ⟨hr, hk⟩
    refine ⟨⟨_, hk⟩, ?_, ?_⟩
    · rw [h2]
      exact congrArg (fun z : Fin n => BitVec.ofNat 32 (z : ℕ)) (sorted_rank (maskScore f roi) q)
    · rw [h1]
      refine (hf q).trans_le (le_of_eq ?_)
      refine Eq.trans ?_ (congrArg (maskScore f roi) (sorted_rank (maskScore f roi) q)).symm
      unfold maskScore
      rw [if_pos hr]

/-- The selected pixels of a mask are the ones the answer picks. -/
theorem selected_eq (x : FVec Ideal S32x262144 .f32) (b : Fin 32) (f : Fin 262144 → EReal) (roi : Fin 262144 → Prop)
    (hf : ∀ q, ⊥ < f q) (hx : ∀ q, x (ix2 b q) = maskScore f roi q) (q : Fin 262144) :
    selected (F := Ideal) x (ix2 b q) = tell (picked f roi q) := by
  have hrow : (fun q => x (ix2 b q)) = maskScore f roi := funext hx
  unfold selected
  have t1 := fun j : Fin 100 => (top_values x sliceFits_S32x262144_S32x100 b j (by omega)).trans (hx _)
  have t2 := fun j : Fin 100 => top_places x sliceFits_S32x262144_S32x100 b j (by omega)
  rw [hrow] at t1 t2
  have key := among (by omega) (by omega) f roi hf q _ _ t1 t2
  clear t1 t2
  generalize Host.topK S32x100 1 (FloatOps.cmpfTotal .gt) x sliceFits_S32x262144_S32x100 = T at key ⊢
  pointwise
  refine uitofp_tell _ _ ((fold_or _ _).trans (Iff.trans ?_ key))
  rw [← cbot]
  constructor
  · rintro ⟨j, -, hj⟩
    exact ⟨j, (hit _ _ _ _).1 hj⟩
  · rintro ⟨j, hj⟩
    exact ⟨j, Finset.mem_univ _, (hit _ _ _ _).2 hj⟩

end Cert.ReferenceIdeal.Picks

end
-- ==== Proof.RefAnswer.lean ====
/- The reference's result, read at one pixel. -/
module

public import proofs.«01_k».proof.Proof.RefLevels
public import proofs.«01_k».proof.Proof.RefPicks

@[expose] public section

set_option maxRecDepth 16384

noncomputable section

namespace Cert.ReferenceIdeal.Answer

open Cert.ReferenceIdeal Cert.ReferenceIdeal.Gen Cert.ReferenceIdeal.Tower Cert.ReferenceIdeal.Levels
open Cert.ReferenceIdeal.Picks Cert.ReferenceIdeal.Window
open Cert.Nums Cert.Hist Cert.Ranks Cert.Pixels Cert.Step
open Idealize.ShloMosaic Idealize.ShloMosaic.TcCoe Idealize.ShloMosaic.Tactic

open Classical in
/-- A score of a mask. -/
theorem masked_at (k : IVec S32x262144 1) (s : FVec Ideal S32x262144 .f32) (b : Fin 32) (q : Fin 262144) (roi : Fin 262144 → Prop)
    (h : k (ix2 b q) = 1#1 ↔ roi q) :
    masked (F := Ideal) k s (constant S_ .f32 0xFF800000#32) (ix2 b q) = maskScore (fun q => s (ix2 b q)) roi q := by
  have e : masked (F := Ideal) k s (constant S_ .f32 0xFF800000#32) (ix2 b q)
      = Scalar.select (k (ix2 b q)) (s (ix2 b q)) (Ideal.ofBits FTy.f32 4286578688#32) := by
    unfold masked; pointwise
  rw [e, cbot]
  unfold maskScore Scalar.select
  exact if_congr h rfl rfl

/-- A pixel is above the threshold. -/
theorem above_at (x : FVec Ideal S32x262144 .f32) (y z : FVec Ideal S32 .f32) (b : Fin 32) (q : Fin 262144) :
    above (F := Ideal) x y z (ix2 b q) = 1#1 ↔ z (ix1 b) + y (ix1 b) < x (ix2 b q) := by
  have e : above (F := Ideal) x y z (ix2 b q) = BitVec.ofBool (decide (z (ix1 b) + y (ix1 b) < x (ix2 b q))) := by
    unfold above; pointwise
  rw [e]
  by_cases h : z (ix1 b) + y (ix1 b) < x (ix2 b q) <;> simp [h]

/-- A bit turned over. -/
theorem not_at (k : IVec S32x262144 1) (i : S32x262144.Idx) (p : Prop) (h : k i = 1#1 ↔ p) : noti k i = 1#1 ↔ ¬ p := by
  rw [← h]
  show ~~~(k i) = 1#1 ↔ ¬ k i = 1#1
  generalize k i = w
  revert w
  decide

/-- The two marks of a pixel make its word. -/
theorem word_at (x y : FVec Ideal S32x512x512 .f32) (i : S32x512x512.Idx) :
    select (cmpf .oeq (select (cmpf .oge (addf x y) (splat3 (F := Ideal) (constant S_ .f32 0x40000000#32))) (splat3 (F := Ideal) (constant S_ .f32 0x00000000#32)) y) (splat3 (F := Ideal) (constant S_ .f32 0x3F800000#32)))
      (splat3i (constantI S_ 32 0#32))
      (select (cmpf .oeq (select (cmpf .oge (addf x y) (splat3 (F := Ideal) (constant S_ .f32 0x40000000#32))) (splat3 (F := Ideal) (constant S_ .f32 0x00000000#32)) x) (splat3 (F := Ideal) (constant S_ .f32 0x3F800000#32)))
        (splat3i (constantI S_ 32 1#32)) (splat3i (constantI S_ 32 4294967041#32))) i
      = word (x i) (y i) := by
  unfold word splat3 splat3i
  rw [← c2]
  pointwise

variable (V : Valuation τ sig (Elt Ideal)) (x : FVec Ideal S32x262144 .f32) (y z : FVec Ideal S32 .f32) (sf sb : FVec Ideal S32x262144 .f32)
variable (h4 : V (Proc.devRef .tc main_v4) = x) (h47 : V (Proc.devRef .tc main_v47) = y) (h52 : V (Proc.devRef .tc main_v52_3) = z)
variable (h1 : V (Proc.devRef .tc main_arg1) = sf) (h2 : V (Proc.devRef .tc main_arg2) = sb)
include h4 h47 h52 h1 h2

/-- The reference's last array is the answer. -/
theorem answer_at (b : Fin 32) (n : Px → Fin 256) (hx : Row x b n) (hf : ∀ q, (⊥ : EReal) < sf (ix2 b q)) (hb : ∀ q, (⊥ : EReal) < sb (ix2 b q))
    (r c : Fin 512) : (Qx_main_v105 V : IVec S32x512x512 32) (ix3 b r c)
      = answer n (z (ix1 b)) (y (ix1 b)) (fun q => sf (ix2 b q)) (fun q => sb (ix2 b q)) r c := by
  have a1 : ∀ q, above (F := Ideal) x y z (ix2 b q) = 1#1 ↔ roi n (z (ix1 b)) (y (ix1 b)) q := by
    intro q; rw [above_at, hx]; rfl
  have d1 : ∀ r c, (Qx_main_v73 V : FVec Ideal S32x512x512 .f32) (ix3 b r c)
      = tell (near (fun r' c' => picked (fun q => sf (ix2 b q)) (roi n (z (ix1 b)) (y (ix1 b))) (pix (r', c'))) r c) := by
    intro r c
    unfold Qx_main_v73 Qx_main_v57 Qx_main_v56 Qx_main_cst_9 Qx_main_v4 Qx_main_v47 Qx_main_v52_3 Qx_main_arg1
    rw [h4, h47, h52, h1]
    refine dilated_eq _ b _ (fun q => ?_) r c
    exact selected_eq _ b _ _ hf (fun q => masked_at _ _ b q _ (a1 q)) q
  have d2 : ∀ r c, (Qx_main_v91 V : FVec Ideal S32x512x512 .f32) (ix3 b r c)
      = tell (near (fun r' c' => picked (fun q => sb (ix2 b q)) (fun q => ¬ roi n (z (ix1 b)) (y (ix1 b)) q) (pix (r', c'))) r c) := by
    intro r c
    unfold Qx_main_v91 Qx_main_v75 Qx_main_v74 Qx_main_v56 Qx_main_cst_13 Qx_main_v4 Qx_main_v47 Qx_main_v52_3 Qx_main_arg2
    rw [h4, h47, h52, h2]
    refine dilated_eq _ b _ (fun q => ?_) r c
    exact selected_eq _ b _ _ hb (fun q => masked_at _ _ b q _ (not_at _ _ _ (a1 q))) q
  have w := word_at (Qx_main_v73 V) (Qx_main_v91 V) (ix3 b r c)
  rw [d1, d2] at w
  exact w

end Cert.ReferenceIdeal.Answer

end
-- ==== Proof.RefStep.lean ====
/- The reference's loop: one trip is one step of the search. -/
module

public import proofs.«01_k».proof.Proof.RefTower
public import Idealize.ShloMosaic.Lib.Pointwise
public import proofs.«01_k».proof.Proof.Step

@[expose] public section

set_option maxRecDepth 16384

noncomputable section

namespace Cert.ReferenceIdeal.Trip

open Cert.ReferenceIdeal Cert.ReferenceIdeal.Gen Cert.ReferenceIdeal.Value
open Cert.Nums Cert.Hist Cert.Step
open Idealize.ShloMosaic Idealize.ShloMosaic.TcCoe Idealize.ShloMosaic.Tactic

/-- A bit turned over, as a number. -/
theorem ind_not_bit (p : Prop) [Decidable p] : FloatOps.uitofp (F := Ideal) FTy.f32 (~~~BitVec.ofBool (decide p)) = ind (¬ p) := by
  rw [← ind_bit]
  by_cases h : p <;> simp [h]

/-- The literal 0 as a scalar. -/
theorem zero_scalar : (id (constant (F := Ideal) S_ .f32 0#32)) ix0 = (0 : EReal) := by
  show Ideal.ofBits .f32 0x00000000#32 = 0
  simp [Ideal.ofBits, Ideal.ieee]

variable (V0 : Valuation τ sig (Elt Ideal)) (Y : FVec Ideal S32x262144 .f32) (T : FVec Ideal S32 .f32)
variable (hY : V0 (Proc.devRef .tc main_v52_0) = Y) (hT : V0 (Proc.devRef .tc main_v52_3) = T) (b : Fin 32)
include hY hT

/-- The mean above the threshold. -/
theorem v121_at : (res_main_while0b_v121 V0 : FVec Ideal S32 .f32) (ix1 b)
    = Ideal.div (∑ q : Fin 262144, if T (ix1 b) < Y (ix2 b q) then Y (ix2 b q) else 0) (max (∑ q : Fin 262144, ind (T (ix1 b) < Y (ix2 b q))) 1) := by
  unfold res_main_while0b_v121 res_main_while0b_v109
  rw [hY, hT]
  pointwise
  rw [zero_scalar]
  simp only [ind_bit]

/-- The mean of the rest. -/
theorem v124_at : (res_main_while0b_v124 V0 : FVec Ideal S32 .f32) (ix1 b)
    = Ideal.div (∑ q : Fin 262144, if ¬ T (ix1 b) < Y (ix2 b q) then Y (ix2 b q) else 0) (max (∑ q : Fin 262144, ind (¬ T (ix1 b) < Y (ix2 b q))) 1) := by
  unfold res_main_while0b_v124 res_main_while0b_v109
  rw [hY, hT]
  pointwise
  rw [zero_scalar]
  simp only [ind_not_bit, ite_not]

omit hY in
/-- The new threshold from the two means. -/
theorem step_at : (step_main_v52_3 V0 : FVec Ideal S32 .f32) (ix1 b)
    = nextOf ((res_main_while0b_v121 V0 : FVec Ideal S32 .f32) (ix1 b)) ((res_main_while0b_v124 V0 : FVec Ideal S32 .f32) (ix1 b)) (T (ix1 b)) := by
  unfold step_main_v52_3 res_main_while0b_v131
  rw [hT]
  obtain ⟨X, hX⟩ : ∃ X : FVec Ideal S32 .f32, X = res_main_while0b_v121 V0 := ⟨_, rfl⟩
  obtain ⟨W, hW⟩ : ∃ W : FVec Ideal S32 .f32, W = res_main_while0b_v124 V0 := ⟨_, rfl⟩
  rw [← hX, ← hW]
  simp only [id_eq]
  unfold nextOf
  pointwise
  rfl

/-- One trip is one step of the search. -/
theorem step_next {P : Type} [Fintype P] (n : P → Fin 256) (m : EReal) (e : P ≃ Fin 262144)
    (hn : ∀ q, Y (ix2 b q) = ((n (e.symm q) : ℕ) : EReal) - m) :
    (step_main_v52_3 V0 : FVec Ideal S32 .f32) (ix1 b) = next n m (T (ix1 b)) := by
  rw [step_at V0 T hT b, v121_at V0 Y T hY hT b, v124_at V0 Y T hY hT b]
  unfold next sumIn numIn sumOut numOut
  simp only [hn]
  rw [Equiv.sum_comp e.symm fun p => if T (ix1 b) < ((n p : ℕ) : EReal) - m then ((n p : ℕ) : EReal) - m else 0,
    Equiv.sum_comp e.symm fun p => ind (T (ix1 b) < ((n p : ℕ) : EReal) - m),
    Equiv.sum_comp e.symm fun p => if ¬ T (ix1 b) < ((n p : ℕ) : EReal) - m then ((n p : ℕ) : EReal) - m else 0,
    Equiv.sum_comp e.symm fun p => ind (¬ T (ix1 b) < ((n p : ℕ) : EReal) - m)]

end Cert.ReferenceIdeal.Trip

end
-- ==== Proof.RefRun.lean ====
/- The reference's run: what its last array holds, pixel by pixel. -/
module

public import proofs.«01_k».proof.Proof.RefAnswer
public import proofs.«01_k».proof.Proof.RefStep

@[expose] public section

set_option maxRecDepth 16384

noncomputable section

namespace Cert.ReferenceIdeal.Ran

open Cert.ReferenceIdeal Cert.ReferenceIdeal.Gen Cert.ReferenceIdeal.Value Cert.ReferenceIdeal.Launched
open Cert.ReferenceIdeal.Tower Cert.ReferenceIdeal.Levels Cert.ReferenceIdeal.Answer Cert.ReferenceIdeal.Trip Cert.ReferenceIdeal.Best
open Cert.Nums Cert.Hist Cert.Ranks Cert.Pixels Cert.Step
open Idealize.ShloMosaic Idealize.ShloMosaic.TcCoe Idealize.ShloMosaic.Tactic Idealize.ShloMosaic.StableHlo

section kept
variable {F : FTy → Type} [FloatOps F]

/-- No stretch of the loop's body writes the levels or the least of them. -/
theorem keeps_levels_body (V : Valuation τ sig (Elt F)) (a : Ref sig .tc) (ha : a ∈ [main_v4, main_v47]) :
    afterL bodyI V (Proc.devRef .tc a) = V (Proc.devRef .tc a) := by
  simp only [afterL_cons, afterL_nil]
  rw [after_of_writes_sub while0Ops0_8 _ while0Ops0_8_writes ((by decide : ∀ a ∈ [main_v4, main_v47], a ∉ while0Ops0_8_W) a ha), after_of_writes_sub while0Ops0_7 _ while0Ops0_7_writes ((by decide : ∀ a ∈ [main_v4, main_v47], a ∉ while0Ops0_7_W) a ha), after_of_writes_sub while0Ops0_6 _ while0Ops0_6_writes ((by decide : ∀ a ∈ [main_v4, main_v47], a ∉ while0Ops0_6_W) a ha), after_of_writes_sub while0Ops0_5 _ while0Ops0_5_writes ((by decide : ∀ a ∈ [main_v4, main_v47], a ∉ while0Ops0_5_W) a ha), after_of_writes_sub while0Ops0_4 _ while0Ops0_4_writes ((by decide : ∀ a ∈ [main_v4, main_v47], a ∉ while0Ops0_4_W) a ha), after_of_writes_sub while0Ops0_3 _ while0Ops0_3_writes ((by decide : ∀ a ∈ [main_v4, main_v47], a ∉ while0Ops0_3_W) a ha), after_of_writes_sub while0Ops0_2 _ while0Ops0_2_writes ((by decide : ∀ a ∈ [main_v4, main_v47], a ∉ while0Ops0_2_W) a ha), after_of_writes_sub while0Ops0_1 _ while0Ops0_1_writes ((by decide : ∀ a ∈ [main_v4, main_v47], a ∉ while0Ops0_1_W) a ha), after_of_writes_sub while0Ops0 _ while0Ops0_writes ((by decide : ∀ a ∈ [main_v4, main_v47], a ∉ while0Ops0_W) a ha)]

/-- The operations before the loop are the tower's stretches. -/
theorem before_eq (V : Valuation τ sig (Elt F)) : afterL preI V = E16 V := by
  simp only [afterL_cons, afterL_nil]
  unfold E16 E15 E14 E13 E12 E11 E10 E9 E8 E7 E6 E5 E4 E3 E2 E1 E0
  rfl

/-- The operations after the loop are the tower's stretches. -/
theorem behind_eq (V : Valuation τ sig (Elt F)) : afterL postI V = Q28 V := by
  simp only [afterL_cons, afterL_nil]
  unfold Q28 Q27 Q26 Q25 Q24 Q23 Q22 Q21 Q20 Q19 Q18 Q17
  rfl

end kept

variable (m : (ℓ : Loc nD τ sig) → Buf (Elt Ideal) ℓ) (c : Dev nD)

/-- The levels are the same before every trip. -/
theorem keeps_levels (a : Ref sig .tc) (ha : a ∈ [main_v4, main_v47]) :
    ∀ k, atTrip condOps bodyI (entryContents preI m) k c (Proc.devRef .tc a) = entryContents preI m c (Proc.devRef .tc a)
  | 0 => rfl
  | k + 1 => by
    rw [atTrip_succ, keeps_levels_body _ a ha, after_of_writes_sub condOps _ condOps_writes ((by decide : ∀ a ∈ [main_v4, main_v47], a ∉ condOps_W) a ha)]
    exact keeps_levels a ha k

/-- What the loop starts from. -/
theorem entry_eq : entryContents preI m c = E16 (launchContents m c) := before_eq _

/-- The contents when the loop ends. -/
def ended : Valuation τ sig (Elt Ideal) := after condOps (atTrip condOps bodyI (entryContents preI m) 40 c)

/-- The loop leaves the levels and the least of them as they were. -/
theorem ended_levels (a : Ref sig .tc) (ha : a ∈ [main_v4, main_v47]) :
    ended m c (Proc.devRef .tc a) = E16 (launchContents m c) (Proc.devRef .tc a) := by
  unfold ended
  rw [after_of_writes_sub condOps _ condOps_writes ((by decide : ∀ a ∈ [main_v4, main_v47], a ∉ condOps_W) a ha)]
  rw [keeps_levels m c a ha 40, entry_eq]

/-- The loop leaves the arguments as they were. -/
theorem ended_args (a : Ref sig .tc) (ha : a ∈ [main_arg0, main_arg1, main_arg2]) :
    ended m c (Proc.devRef .tc a) = m ((c.tc : Thread nD τ).loc a) := by
  unfold ended
  rw [after_of_writes_sub condOps _ condOps_writes ((by decide : ∀ a ∈ [main_arg0, main_arg1, main_arg2], a ∉ condOps_W) a ha)]
  exact keeps_trip m c a ha 40

/-- The threshold when the loop ends is what forty steps leave. -/
theorem ended_threshold : ended m c (Proc.devRef .tc main_v52_3) = (STEP^[40] (E16 (launchContents m c))) (Proc.devRef .tc main_v52_3) := by
  unfold ended
  rw [after_of_writes_sub condOps _ condOps_writes (by decide : main_v52_3 ∉ condOps_W)]
  rw [← entry_eq]
  exact atK_agree m c 40 main_v52_3 (by decide)

/-- What the reference leaves in its result. -/
theorem last_eq : finalContents condOps preI bodyI postI 40 m c (Proc.devRef .tc main_v105) = Qx_main_v105 (ended m c) := by
  refine Eq.trans ?_ (Q28_main_v105 (ended m c))
  exact congrFun (behind_eq (ended m c)) _

/-- The trips iterate the search's step. -/
theorem trips (W : Valuation τ sig (Elt Ideal)) (b : Fin 32) (n : Px → Fin 256) (mn t0 : EReal) (Y : FVec Ideal S32x262144 .f32)
    (hY : W (Proc.devRef .tc main_v52_0) = Y) (hn : ∀ q, Y (ix2 b q) = ((n (pix.symm q) : ℕ) : EReal) - mn)
    (ht : (W (Proc.devRef .tc main_v52_3) : FVec Ideal S32 .f32) (ix1 b) = t0) : ∀ k,
    (STEP^[k] W) (Proc.devRef .tc main_v52_0) = Y ∧ ((STEP^[k] W) (Proc.devRef .tc main_v52_3) : FVec Ideal S32 .f32) (ix1 b) = (next n mn)^[k] t0
  | 0 => ⟨hY, ht⟩
  | k + 1 => by
    obtain ⟨h0, h3⟩ := trips W b n mn t0 Y hY hn ht k
    rw [Function.iterate_succ_apply', Function.iterate_succ_apply', STEP_main_v52_0, STEP_main_v52_3]
    refine ⟨h0, ?_⟩
    rw [step_next _ Y _ h0 rfl b n mn pix hn, h3]

end Cert.ReferenceIdeal.Ran

end
-- ==== Proof.RefResult.lean ====
/- The reference's run: what its result holds, pixel by pixel. -/
module

public import proofs.«01_k».proof.Proof.RefRun
public import proofs.«01_k».proof.Proof.Image

@[expose] public section

set_option maxRecDepth 16384

noncomputable section

namespace Cert.ReferenceIdeal.Ran

open Cert.ReferenceIdeal Cert.ReferenceIdeal.Gen Cert.ReferenceIdeal.Value Cert.ReferenceIdeal.Launched
open Cert.ReferenceIdeal.Tower Cert.ReferenceIdeal.Levels Cert.ReferenceIdeal.Answer Cert.ReferenceIdeal.Trip Cert.ReferenceIdeal.Best
open Cert.Nums Cert.Hist Cert.Ranks Cert.Pixels Cert.Step
open Idealize.ShloMosaic Idealize.ShloMosaic.TcCoe Idealize.ShloMosaic.Tactic Idealize.ShloMosaic.StableHlo
open Cert.Image

variable (m : (ℓ : Loc nD τ sig) → Buf (Elt Ideal) ℓ) (c : Dev nD)

/-- The reference's levels at a pixel. -/
theorem levels_row (x : FVec Ideal S32x1x512x512 .f32) (b : Fin 32) :
    Row (clipped (F := Ideal) (constant S_ .f32 0x00000000#32) (constant S_ .f32 0x437F0000#32) (scaled x)) b (levels x b) := by
  intro q
  have e : clipped (F := Ideal) (constant S_ .f32 0x00000000#32) (constant S_ .f32 0x437F0000#32) (scaled x) (ix2 b q)
      = min (Ideal.ofBits .f32 0x437F0000#32) (max 0 (scaled x (ix2 b q))) := by
    unfold clipped; pointwise
  have f : scaled x (ix2 b q) = Ideal.liftRound Int.floor (x (ix4 b (0 : Fin 1) (pix.symm q).1 (pix.symm q).2) * Ideal.ofBits .f32 0x437F0000#32) := by
    unfold scaled; pointwise; rfl
  rw [e, f, c255]
  exact lev_spec _

/-- The levels the reference works with. -/
theorem start_row (V : Valuation τ sig (Elt Ideal)) (x : FVec Ideal S32x1x512x512 .f32) (hx : V (Proc.devRef .tc main_arg0) = x) (b : Fin 32) :
    Row (Ex_main_v4 V) b (levels x b) := by
  subst hx
  unfold Ex_main_v4 Ex_main_cst_0 Ex_main_cst_1 Ex_main_v3
  exact levels_row _ b

/-- The reference's first threshold is at a peak of the variance. -/
theorem best_at (V : Valuation τ sig (Elt Ideal)) (x : FVec Ideal S32x262144 .f32) (h4 : Ex_main_v4 V = x) (b : Fin 32) (n : Px → Fin 256) (hx : Row x b n) :
    ∃ v0, Peak n v0 ∧ (Ex_main_v44 V : IVec S32 32) (ix1 b) = BitVec.ofNat 32 (v0 : ℕ) := by
  subst h4
  exact best_peak n (Ex_main_v43 V) b fun k => between_eq (Ex_main_v4 V) b n hx k

/-- The levels less the least of them. -/
theorem less_at (x : FVec Ideal S32x262144 .f32) (y : FVec Ideal S32 .f32) (b : Fin 32) (q : Fin 262144) :
    less (F := Ideal) x y (ix2 b q) = x (ix2 b q) - y (ix1 b) := by
  unfold less; pointwise

/-- The first threshold, less the least level. -/
theorem start_at (x : FVec Ideal S32 .f32) (w : IVec S32 32) (b : Fin 32) (v0 : Fin 256) (mn : EReal) (h : w (ix1 b) = BitVec.ofNat 32 (v0 : ℕ)) (hm : x (ix1 b) = mn) :
    subf (clipped1 (F := Ideal) (constant S_ .f32 0x3F800000#32) (constant S_ .f32 0x437E0000#32) (sitofp .f32 w)) x (ix1 b) = start v0 mn := by
  subst hm
  exact congrArg (fun z => z - x (ix1 b)) (clipped1_at b w v0 h)

/-- The threshold the search ends with. -/
theorem searched_at (V : Valuation τ sig (Elt Ideal)) (b : Fin 32) (n : Px → Fin 256) (v0 : Fin 256) (mn : EReal) (Y : FVec Ideal S32x262144 .f32) (T : FVec Ideal S32 .f32)
    (hY : Ex_main_v52_0 V = Y) (hT : Ex_main_v52_3 V = T)
    (h0 : ∀ q, Y (ix2 b q) = ((n (pix.symm q) : ℕ) : EReal) - mn) (h3 : T (ix1 b) = start v0 mn) :
    ((STEP^[40] (E16 V)) (Proc.devRef .tc main_v52_3) : FVec Ideal S32 .f32) (ix1 b) = final n v0 mn := by
  subst hT
  exact (trips (E16 V) b n mn (start v0 mn) Y ((E16_main_v52_0 V).trans hY) h0 ((congrArg (fun z : FVec Ideal S32 .f32 => z (ix1 b)) (E16_main_v52_3 V)).trans h3) 40).2

/-- The reference's result at a pixel, from the levels of its image. -/
theorem result_at (b : Fin 32) (n : Px → Fin 256) (hx : Row (Ex_main_v4 (launchContents m c)) b n)
    (hf : ∀ q, (⊥ : EReal) < (m ((c.tc : Thread nD τ).loc main_arg1) : FVec Ideal S32x262144 .f32) (ix2 b q))
    (hb : ∀ q, (⊥ : EReal) < (m ((c.tc : Thread nD τ).loc main_arg2) : FVec Ideal S32x262144 .f32) (ix2 b q)) :
    ∃ v0 p0, Peak n v0 ∧ (∀ p, n p0 ≤ n p) ∧ ∀ r q,
      (finalContents condOps preI bodyI postI 40 m c (Proc.devRef .tc main_v105) : IVec S32x512x512 32) (ix3 b r q)
        = answer n (final n v0 ((n p0 : ℕ) : EReal)) ((n p0 : ℕ) : EReal)
            (fun q => (m ((c.tc : Thread nD τ).loc main_arg1) : FVec Ideal S32x262144 .f32) (ix2 b q))
            (fun q => (m ((c.tc : Thread nD τ).loc main_arg2) : FVec Ideal S32x262144 .f32) (ix2 b q)) r q := by
  have t4 := (ended_levels m c main_v4 (by decide)).trans (E16_main_v4 (launchContents m c))
  have t47 := (ended_levels m c main_v47 (by decide)).trans (E16_main_v47 (launchContents m c))
  have t3 := ended_threshold m c
  have l := last_eq m c
  generalize launchContents m c = V at *
  obtain ⟨v0, hv, hbest⟩ := best_at V _ rfl b n hx
  obtain ⟨p0, hp, hleast⟩ := least_eq (Ex_main_v4 V) b n hx
  refine ⟨v0, p0, hv, hp, fun r q => ?_⟩
  have h0 : ∀ q, (less (F := Ideal) (Ex_main_v4 V) (least (Ex_main_v4 V))) (ix2 b q) = ((n (pix.symm q) : ℕ) : EReal) - ((n p0 : ℕ) : EReal) := by
    intro q
    rw [less_at, hleast, hx]
  have st := searched_at V b n v0 _ _ _ rfl rfl h0 (start_at _ _ b v0 _ hbest hleast)
  have fin := answer_at (ended m c) (Ex_main_v4 V) (Ex_main_v47 V) _ _ _ t4 t47 t3 (ended_args m c main_arg1 (by decide)) (ended_args m c main_arg2 (by decide)) b n hx hf hb r q
  rw [st] at fin
  have e47 : (Ex_main_v47 V : FVec Ideal S32 .f32) (ix1 b) = ((n p0 : ℕ) : EReal) := hleast
  rw [e47] at fin
  exact (congrArg (fun z : IVec S32x512x512 32 => z (ix3 b r q)) l).trans fin

end Cert.ReferenceIdeal.Ran

end
-- ==== Proof.Algebraic.lean ====
/- The kernel's result is the reference's: both runs end with one array. -/
module

public import proofs.«01_k».proof.Defs
public import proofs.«01_k».proof.Proof.KResult
public import proofs.«01_k».proof.Proof.RefResult

@[expose] public section

noncomputable section

namespace Cert.Proof

open Idealize.ShloMosaic Idealize.SL.Sem Idealize.ShloMosaic.Tactic Cert.Nums

/-- The one shape relation the precondition's text takes. -/
theorem facts_scored : Cert.Pre_scored.Facts := ⟨by decide⟩

/-- Where the precondition's array is all ones, every score is above minus infinity. -/
theorem scored_bot [Cert.Pre_scored.Facts] (x : FVec Ideal Cert.Pre_scored.S32x1x512x512 .f32) (s t : FVec Ideal Cert.Pre_scored.S32x262144 .f32)
    (h : Cert.Pre_scored.fn (F := Ideal) x s t = fun _ => 1#1) (b : Fin 32) (q : Fin 262144) : ⊥ < s (ix2 b q) ∧ ⊥ < t (ix2 b q) := by
  have e := congrFun h (ix2 b q)
  unfold Cert.Pre_scored.fn at e
  pointwise at e
  rw [cbot] at e
  by_cases h1 : ⊥ < s (ix2 b q) <;> by_cases h2 : ⊥ < t (ix2 b q)
  · exact ⟨h1, h2⟩
  all_goals simp [h1, h2, IntOp.andi] at e

/-- The two results are one array. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.Pre_scored.S32x1x512x512 .f32) (s t : FVec Ideal Cert.Pre_scored.S32x262144 .f32)
    (hs : ∀ b q, (⊥ : EReal) < s (ix2 b q)) (ht : ∀ b q, (⊥ : EReal) < t (ix2 b q))
    (k0 : m ((c.tc : Thread Cert.KernelIdeal.nD Cert.KernelIdeal.τ).loc Cert.KernelIdeal.main_arg0) = x)
    (k1 : m ((c.tc : Thread Cert.KernelIdeal.nD Cert.KernelIdeal.τ).loc Cert.KernelIdeal.main_arg1) = s)
    (k2 : m ((c.tc : Thread Cert.KernelIdeal.nD Cert.KernelIdeal.τ).loc Cert.KernelIdeal.main_arg2) = t)
    (r0 : m' ((c.tc : Thread Cert.ReferenceIdeal.nD Cert.ReferenceIdeal.τ).loc Cert.ReferenceIdeal.main_arg0) = x)
    (r1 : m' ((c.tc : Thread Cert.ReferenceIdeal.nD Cert.ReferenceIdeal.τ).loc Cert.ReferenceIdeal.main_arg1) = s)
    (r2 : m' ((c.tc : Thread Cert.ReferenceIdeal.nD Cert.ReferenceIdeal.τ).loc Cert.ReferenceIdeal.main_arg2) = t) :
    (StableHlo.finalContents Cert.ReferenceIdeal.Value.condOps Cert.ReferenceIdeal.Value.preI Cert.ReferenceIdeal.Value.bodyI Cert.ReferenceIdeal.Value.postI 40 m' c (Proc.devRef .tc Cert.ReferenceIdeal.main_v105) : IVec Cert.KernelIdeal.S32x512x512 32)
      = (Cert.KernelIdeal.Launched.dats m 0 c).arrAt 3 Cert.KernelIdeal.cfg0.N := by
  refine funext fun j => ?_
  obtain ⟨b, r, q, rfl⟩ : ∃ b r q, j = ix3 b r q := ⟨j 0, j 1, j 2, by funext a; match a with | ⟨0, _⟩ => rfl | ⟨1, _⟩ => rfl | ⟨2, _⟩ => rfl⟩
  have hx := Cert.ReferenceIdeal.Ran.start_row (StableHlo.launchContents m' c) x r0 b
  have R := Cert.ReferenceIdeal.Ran.result_at m' c b _ hx
  rw [r1, r2] at R
  obtain ⟨v0, p0, hv, hp, e⟩ := R (hs b) (ht b)
  have K := Cert.KernelIdeal.Result.result_at m c b v0
  rw [k0, k1, k2] at K
  exact (e r q).trans (K hv p0 hp (hs b) (ht b) r q).symm

/-- From equal arguments with scores above minus infinity, the kernel and the reference end with one array. -/
theorem algebraic : @algebraic_KernelIdeal_ReferenceIdeal_pre_scored Cert.KernelIdeal.Gen.facts Cert.ReferenceIdeal.Gen.facts facts_scored := by
  intro m g m' g' hm hargs
  refine ⟨fun c => (Cert.KernelIdeal.Launched.dats m 0 c).arrAt 3 Cert.KernelIdeal.cfg0.N, Cert.KernelIdeal.Launched.run_blocks m g, ?_⟩
  refine (θ_run _ _ _).mono (fun r h c => ⟨(h.1 c Cert.ReferenceIdeal.main_v105 rfl).trans ?_,
    (h.1 c Cert.ReferenceIdeal.main_arg0 rfl).trans (Cert.ReferenceIdeal.Launched.kept m' c _ (by decide)),
    (h.1 c Cert.ReferenceIdeal.main_arg1 rfl).trans (Cert.ReferenceIdeal.Launched.kept m' c _ (by decide)),
    (h.1 c Cert.ReferenceIdeal.main_arg2 rfl).trans (Cert.ReferenceIdeal.Launched.kept m' c _ (by decide))⟩)
    (Cert.ReferenceIdeal.Launched.run_fold_quiet m' g')
  have hs := @scored_bot facts_scored _ _ _ (hm c)
  exact same_result m m' c _ _ _ (fun b q => (hs b q).1) (fun b q => (hs b q).2) rfl rfl rfl (hargs c).1 (hargs c).2.1 (hargs c).2.2

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.ReferenceFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims: the frames of the three programs, the kernel's idealised text keeping its
    meaning, and the kernel's result being the reference's. -/
theorem claim : Cert.Claim := ⟨Cert.Kernel.Gen.facts, Cert.KernelIdeal.Gen.facts, Cert.ReferenceIdeal.Gen.facts, facts_scored,
  fun m g _ => Cert.Kernel.Launched.frame m g, fun m g _ => Cert.KernelIdeal.Launched.frame m g,
  fun m g _ => Cert.KernelIdeal.Launched.frame m g, fun m g _ => Cert.ReferenceIdeal.Launched.frame m g,
  fun m g _ => Cert.ReferenceIdeal.Launched.frame m g, trivial, algebraic⟩

end Cert.Proof

end
